-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v29)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v19)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)) (v1 : (c : Dev Cert.Kernel6Ideal.nD) → Buf (Elt Ideal) ((c.tc : Thread Cert.Kernel6Ideal.nD Cert.Kernel6Ideal.τ).loc Cert.Kernel6Ideal.main_v13_0)) (v2 : (c : Dev Cert.Kernel6Ideal.nD) → Buf (Elt Ideal) ((c.tc : Thread Cert.Kernel6Ideal.nD Cert.Kernel6Ideal.τ).loc Cert.Kernel6Ideal.main_v13_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_v13_0) = v1 c
          ∧ r.2.mem ((c.tc : Thread Cert.Kernel6Ideal.nD Cert.Kernel6Ideal.τ).loc Cert.Kernel6Ideal.main_v13_1) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_v21) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v14)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2)) (v1 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_v3) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v5) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v3)) (v1 : (c : Dev Cert.Kernel10Ideal.nD) → Buf (Elt Ideal) ((c.tc : Thread Cert.Kernel10Ideal.nD Cert.Kernel10Ideal.τ).loc Cert.Kernel10Ideal.main_v4)) (v2 : (c : Dev Cert.Kernel10Ideal.nD) → Buf (Elt Ideal) ((c.tc : Thread Cert.Kernel10Ideal.nD Cert.Kernel10Ideal.τ).loc Cert.Kernel10Ideal.main_v15_0)) (v3 : (c : Dev Cert.Kernel10Ideal.nD) → Buf (Elt Ideal) ((c.tc : Thread Cert.Kernel10Ideal.nD Cert.Kernel10Ideal.τ).loc Cert.Kernel10Ideal.main_v15_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_v4) = v1 c
          ∧ r.2.mem ((c.tc : Thread Cert.Kernel10Ideal.nD Cert.Kernel10Ideal.τ).loc Cert.Kernel10Ideal.main_v15_0) = v2 c
          ∧ r.2.mem ((c.tc : Thread Cert.Kernel10Ideal.nD Cert.Kernel10Ideal.τ).loc Cert.Kernel10Ideal.main_v15_1) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_v43) = v2 c
          ∧ r.2.mem ((c.tc : Thread Cert.Reference10Ideal.nD Cert.Reference10Ideal.τ).loc Cert.Reference10Ideal.main_v26) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v6)) (v1 : (c : Dev Cert.Kernel11Ideal.nD) → Buf (Elt Ideal) ((c.tc : Thread Cert.Kernel11Ideal.nD Cert.Kernel11Ideal.τ).loc Cert.Kernel11Ideal.main_v8)) (v2 : (c : Dev Cert.Kernel11Ideal.nD) → Buf (Elt Ideal) ((c.tc : Thread Cert.Kernel11Ideal.nD Cert.Kernel11Ideal.τ).loc Cert.Kernel11Ideal.main_v10)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_v8) = v1 c
          ∧ r.2.mem ((c.tc : Thread Cert.Kernel11Ideal.nD Cert.Kernel11Ideal.τ).loc Cert.Kernel11Ideal.main_v10) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v7) = v1 c
          ∧ r.2.mem ((c.tc : Thread Cert.Reference11Ideal.nD Cert.Reference11Ideal.τ).loc Cert.Reference11Ideal.main_v8) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v60)) (v1 : (c : Dev Cert.Kernel12Ideal.nD) → Buf (Elt Ideal) ((c.tc : Thread Cert.Kernel12Ideal.nD Cert.Kernel12Ideal.τ).loc Cert.Kernel12Ideal.main_v61)) (v2 : (c : Dev Cert.Kernel12Ideal.nD) → Buf (Elt Ideal) ((c.tc : Thread Cert.Kernel12Ideal.nD Cert.Kernel12Ideal.τ).loc Cert.Kernel12Ideal.main_v62)) (v3 : (c : Dev Cert.Kernel12Ideal.nD) → Buf (Elt Ideal) ((c.tc : Thread Cert.Kernel12Ideal.nD Cert.Kernel12Ideal.τ).loc Cert.Kernel12Ideal.main_v63)) (v4 : (c : Dev Cert.Kernel12Ideal.nD) → Buf (Elt Ideal) ((c.tc : Thread Cert.Kernel12Ideal.nD Cert.Kernel12Ideal.τ).loc Cert.Kernel12Ideal.main_v68)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v60) = v0 c
          ∧ r.2.mem ((c.tc : Thread Cert.Kernel12Ideal.nD Cert.Kernel12Ideal.τ).loc Cert.Kernel12Ideal.main_v61) = v1 c
          ∧ r.2.mem ((c.tc : Thread Cert.Kernel12Ideal.nD Cert.Kernel12Ideal.τ).loc Cert.Kernel12Ideal.main_v62) = v2 c
          ∧ r.2.mem ((c.tc : Thread Cert.Kernel12Ideal.nD Cert.Kernel12Ideal.τ).loc Cert.Kernel12Ideal.main_v63) = v3 c
          ∧ r.2.mem ((c.tc : Thread Cert.Kernel12Ideal.nD Cert.Kernel12Ideal.τ).loc Cert.Kernel12Ideal.main_v68) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v10) = v1 c
          ∧ r.2.mem ((c.tc : Thread Cert.Reference12Ideal.nD Cert.Reference12Ideal.τ).loc Cert.Reference12Ideal.main_v15) = v2 c
          ∧ r.2.mem ((c.tc : Thread Cert.Reference12Ideal.nD Cert.Reference12Ideal.τ).loc Cert.Reference12Ideal.main_v20) = v3 c
          ∧ r.2.mem ((c.tc : Thread Cert.Reference12Ideal.nD Cert.Reference12Ideal.τ).loc Cert.Reference12Ideal.main_v60) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v51)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v51) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0)) (v1 : (c : Dev Cert.Kernel14Ideal.nD) → Buf (Elt Ideal) ((c.tc : Thread Cert.Kernel14Ideal.nD Cert.Kernel14Ideal.τ).loc Cert.Kernel14Ideal.main_v1_0)) (v2 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_v1_0) = v1 c
          ∧ r.2.mem ((c.tc : Thread Cert.Kernel14Ideal.nD Cert.Kernel14Ideal.τ).loc Cert.Kernel14Ideal.main_v1_1) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v38) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v39) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v49) = v0 c
          ∧ r.2.mem ((c.tc : Thread Cert.Reference15Ideal.nD Cert.Reference15Ideal.τ).loc Cert.Reference15Ideal.main_v33) = v1 c
          ∧ r.2.mem ((c.tc : Thread Cert.Reference15Ideal.nD Cert.Reference15Ideal.τ).loc Cert.Reference15Ideal.main_v50) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v13)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v13) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v14) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S2x4096x1024 : Shape := ⟨3, ![2, 4096, 1024]⟩
abbrev S_ : Shape := ⟨0, ![]⟩

class Facts : Prop where
  bcast_S_S2x4096x1024 : S_.BroadcastsInDim S2x4096x1024 (![] : Fin 0 → Fin S2x4096x1024.rank)

variable [Facts]

def fn {F : FTy → Type} [FloatOps F] (main_arg0 : FVec F S2x4096x1024 .f32) (main_arg1 : FVec F S2x4096x1024 .f32) (main_arg2 : FVec F S2x4096x1024 .f32) : IVec S2x4096x1024 1 × IVec S2x4096x1024 1 × IVec S2x4096x1024 1 :=
  let main_cst : FVec F S_ .f32 := constant S_ .f32 0xFF800000#32
  let main_v0 : FVec F S2x4096x1024 .f32 := broadcastInDim S2x4096x1024 ![] bcast_S_S2x4096x1024 main_cst
  let main_v1 : IVec S2x4096x1024 1 := cmpf .ogt main_arg0 main_v0
  let main_cst_0 : FVec F S_ .f32 := constant S_ .f32 0x7F800000#32
  let main_v2 : FVec F S2x4096x1024 .f32 := broadcastInDim S2x4096x1024 ![] bcast_S_S2x4096x1024 main_cst_0
  let main_v3 : IVec S2x4096x1024 1 := cmpf .olt main_arg0 main_v2
  let main_v4 : IVec S2x4096x1024 1 := andi main_v1 main_v3
  let main_cst_1 : FVec F S_ .f32 := constant S_ .f32 0xFF800000#32
  let main_v5 : FVec F S2x4096x1024 .f32 := broadcastInDim S2x4096x1024 ![] bcast_S_S2x4096x1024 main_cst_1
  let main_v6 : IVec S2x4096x1024 1 := cmpf .ogt main_arg1 main_v5
  let main_cst_2 : FVec F S_ .f32 := constant S_ .f32 0x7F800000#32
  let main_v7 : FVec F S2x4096x1024 .f32 := broadcastInDim S2x4096x1024 ![] bcast_S_S2x4096x1024 main_cst_2
  let main_v8 : IVec S2x4096x1024 1 := cmpf .olt main_arg1 main_v7
  let main_v9 : IVec S2x4096x1024 1 := andi main_v6 main_v8
  let main_cst_3 : FVec F S_ .f32 := constant S_ .f32 0xFF800000#32
  let main_v10 : FVec F S2x4096x1024 .f32 := broadcastInDim S2x4096x1024 ![] bcast_S_S2x4096x1024 main_cst_3
  let main_v11 : IVec S2x4096x1024 1 := cmpf .ogt main_arg2 main_v10
  let main_cst_4 : FVec F S_ .f32 := constant S_ .f32 0x7F800000#32
  let main_v12 : FVec F S2x4096x1024 .f32 := broadcastInDim S2x4096x1024 ![] bcast_S_S2x4096x1024 main_cst_4
  let main_v13 : IVec S2x4096x1024 1 := cmpf .olt main_arg2 main_v12
  let main_v14 : IVec S2x4096x1024 1 := andi main_v11 main_v13
  (main_v4, main_v9, main_v14)
-- ==== Kernel.lean ====
abbrev S2x4096x1024 : Shape := ⟨3, ![2, 4096, 1024]⟩
abbrev S1x256x1024 : Shape := ⟨3, ![1, 256, 1024]⟩
abbrev S8x1024 : Shape := ⟨2, ![8, 1024]⟩
abbrev S256x1024 : Shape := ⟨2, ![256, 1024]⟩
abbrev S1x1024 : Shape := ⟨2, ![1, 1024]⟩
abbrev S1x8x1024 : Shape := ⟨3, ![1, 8, 1024]⟩
abbrev S1x1x1024 : Shape := ⟨3, ![1, 1, 1024]⟩

abbrev nBuf : Space → Nat
  | .hbm => 6
  | .vmem => 22
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S8x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x8x1024, .f32⟩
  | .local _ .vmem, ⟨14, _⟩ => ⟨S1x8x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S8x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S2x4096x1024 : Shape := ⟨3, ![2, 4096, 1024]⟩
abbrev S2x1x1024 : Shape := ⟨3, ![2, 1, 1024]⟩
abbrev S2x1024 : Shape := ⟨2, ![2, 1024]⟩
abbrev S_ : Shape := ⟨0, ![]⟩
abbrev S4096x2x1024 : Shape := ⟨3, ![4096, 2, 1024]⟩
abbrev S1x2x1024 : Shape := ⟨3, ![1, 2, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S2x1x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S4096x2x1024, .f32⟩
  | .hbm, ⟨10, _⟩ => ⟨S4096x2x1024, .f32⟩
  | .hbm, ⟨11, _⟩ => ⟨S_, .f32⟩
  | .hbm, ⟨12, _⟩ => ⟨S4096x2x1024, .f32⟩
  | .hbm, ⟨13, _⟩ => ⟨S_, .f32⟩
  | .hbm, ⟨14, _⟩ => ⟨S4096x2x1024, .f32⟩
  | .hbm, ⟨15, _⟩ => ⟨S_, .i32⟩
  | .hbm, ⟨16, _⟩ => ⟨S4096x2x1024, .f32⟩
  | .hbm, ⟨17, _⟩ => ⟨S4096x2x1024, .f32⟩
  | .hbm, ⟨18, _⟩ => ⟨S_, .i32⟩
  | .hbm, ⟨19, _⟩ => ⟨S2x1024, .f32⟩
  | .hbm, ⟨20, _⟩ => ⟨S4096x2x1024, .f32⟩
  | .hbm, ⟨21, _⟩ => ⟨S4096x2x1024, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S1x2x1024, .f32⟩
  | .hbm, ⟨27, _⟩ => ⟨S2x1024, .f32⟩
  | .hbm, ⟨28, _⟩ => ⟨S_, .i32⟩
  | .hbm, ⟨29, _⟩ => ⟨S_, .i32⟩
  | .hbm, ⟨30, _⟩ => ⟨S1x2x1024, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S1x2x1024, .f32⟩
  | .hbm, ⟨35, _⟩ => ⟨S_, .i32⟩
  | .hbm, ⟨36, _⟩ => ⟨S_, .i32⟩
  | .hbm, ⟨37, _⟩ => ⟨S4096x2x1024, .f32⟩
  | .hbm, ⟨38, _⟩ => ⟨S1x2x1024, .f32⟩
  | .hbm, ⟨39, _⟩ => ⟨S_, .i32⟩
  | .hbm, ⟨40, _⟩ => ⟨S_, .i32⟩
  | .hbm, ⟨41, _⟩ => ⟨S4096x2x1024, .f32⟩
  | .hbm, ⟨42, _⟩ => ⟨S_, .i32⟩
  | .hbm, ⟨43, _⟩ => ⟨S_, .i32⟩
  | .hbm, ⟨44, _⟩ => ⟨S2x4096x1024, .f32⟩
  | .hbm, ⟨45, _⟩ => ⟨S2x4096x1024, .f32⟩
  | .hbm, ⟨46, _⟩ => ⟨S_, .f32⟩
  | .hbm, ⟨47, _⟩ => ⟨S2x1024, .f32⟩
  | .hbm, ⟨48, _⟩ => ⟨S2x4096x1024, .f32⟩
  | .hbm, ⟨49, _⟩ => ⟨S4096x2x1024, .f32⟩
  | .hbm, ⟨50, _⟩ => ⟨S_, .f32⟩
  | .hbm, ⟨51, _⟩ => ⟨S2x1024, .f32⟩
  | .hbm, ⟨52, _⟩ => ⟨S_, .f32⟩
  | .hbm, ⟨53, _⟩ => ⟨S4096x2x1024, .f32⟩
  | .hbm, ⟨54, _⟩ => ⟨S_, .f32⟩
  | .hbm, ⟨55, _⟩ => ⟨S4096x2x1024, .f32⟩
  | .hbm, ⟨56, _⟩ => ⟨S_, .i32⟩
  | .hbm, ⟨57, _⟩ => ⟨S4096x2x1024, .f32⟩
  | .hbm, ⟨58, _⟩ => ⟨S4096x2x1024, .f32⟩
  | .hbm, ⟨59, _⟩ => ⟨S4096x2x1024, .f32⟩
  | .hbm, ⟨60, _⟩ => ⟨S_, .i32⟩
  | .hbm, ⟨61, _⟩ => ⟨S2x1024, .f32⟩
  | .hbm, ⟨62, _⟩ => ⟨S4096x2x1024, .f32⟩
  | .hbm, ⟨63, _⟩ => ⟨S4096x2x1024, .f32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x2x1024, .f32⟩
  | .hbm, ⟨73, _⟩ => ⟨S2x1024, .f32⟩
  | .hbm, ⟨74, _⟩ => ⟨S_, .i32⟩
  | .hbm, ⟨75, _⟩ => ⟨S_, .i32⟩
  | .hbm, ⟨76, _⟩ => ⟨S1x2x1024, .f32⟩
  | .hbm, ⟨77, _⟩ => ⟨S2x1024, .f32⟩
  | .hbm, ⟨78, _⟩ => ⟨S_, .i32⟩
  | .hbm, ⟨79, _⟩ => ⟨S_, .i32⟩
  | .hbm, ⟨80, _⟩ => ⟨S1x2x1024, .f32⟩
  | .hbm, ⟨81, _⟩ => ⟨S2x1024, .f32⟩
  | .hbm, ⟨82, _⟩ => ⟨S2x1024, .f32⟩
  | .hbm, ⟨83, _⟩ => ⟨S2x1024, .f32⟩
  | .hbm, ⟨84, _⟩ => ⟨S2x1024, .f32⟩
  | .hbm, ⟨85, _⟩ => ⟨S1x2x1024, .f32⟩
  | .hbm, ⟨86, _⟩ => ⟨S_, .i32⟩
  | .hbm, ⟨87, _⟩ => ⟨S_, .i32⟩
  | .hbm, ⟨88, _⟩ => ⟨S4096x2x1024, .f32⟩
  | .hbm, ⟨89, _⟩ => ⟨S1x2x1024, .f32⟩
  | .hbm, ⟨90, _⟩ => ⟨S_, .i32⟩
  | .hbm, ⟨91, _⟩ => ⟨S_, .i32⟩
  | .hbm, ⟨92, _⟩ => ⟨S4096x2x1024, .f32⟩
  | .hbm, ⟨93, _⟩ => ⟨S_, .i32⟩
  | .hbm, ⟨94, _⟩ => ⟨S_, .i32⟩
  | .hbm, ⟨95, _⟩ => ⟨S2x4096x1024, .f32⟩
  | .hbm, ⟨96, _⟩ => ⟨S2x4096x1024, .f32⟩
  | .hbm, ⟨97, _⟩ => ⟨S2x4096x1024, .f32⟩
  | .hbm, ⟨98, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_c : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_while0c_c_12 : Ref sig .tc := ⟨.hbm, 22, rfl⟩
abbrev main_while0c_v23 : Ref sig .tc := ⟨.hbm, 23, rfl⟩
abbrev main_while0b_call2_c : Ref sig .tc := ⟨.hbm, 24, rfl⟩
abbrev main_while0b_call2_c_0 : Ref sig .tc := ⟨.hbm, 25, rfl⟩
abbrev main_while0b_call2_v0 : Ref sig .tc := ⟨.hbm, 26, rfl⟩
abbrev main_while0b_v23 : Ref sig .tc := ⟨.hbm, 27, rfl⟩
abbrev main_while0b_call3_c : Ref sig .tc := ⟨.hbm, 28, rfl⟩
abbrev main_while0b_call3_c_0 : Ref sig .tc := ⟨.hbm, 29, rfl⟩
abbrev main_while0b_call3_v0 : Ref sig .tc := ⟨.hbm, 30, rfl⟩
abbrev main_while0b_v24 : Ref sig .tc := ⟨.hbm, 31, rfl⟩
abbrev main_while0b_v25 : Ref sig .tc := ⟨.hbm, 32, rfl⟩
abbrev main_while0b_v26 : Ref sig .tc := ⟨.hbm, 33, rfl⟩
abbrev main_while0b_call4_v0 : Ref sig .tc := ⟨.hbm, 34, rfl⟩
abbrev main_while0b_call4_c : Ref sig .tc := ⟨.hbm, 35, rfl⟩
abbrev main_while0b_call4_c_0 : Ref sig .tc := ⟨.hbm, 36, rfl⟩
abbrev main_while0b_v27 : Ref sig .tc := ⟨.hbm, 37, rfl⟩
abbrev main_while0b_call5_v0 : Ref sig .tc := ⟨.hbm, 38, rfl⟩
abbrev main_while0b_call5_c : Ref sig .tc := ⟨.hbm, 39, rfl⟩
abbrev main_while0b_call5_c_0 : Ref sig .tc := ⟨.hbm, 40, rfl⟩
abbrev main_while0b_v28 : Ref sig .tc := ⟨.hbm, 41, rfl⟩
abbrev main_while0b_c_12 : Ref sig .tc := ⟨.hbm, 42, rfl⟩
abbrev main_while0b_v29 : Ref sig .tc := ⟨.hbm, 43, rfl⟩
abbrev main_v10 : Ref sig .tc := ⟨.hbm, 44, rfl⟩
abbrev main_v11 : Ref sig .tc := ⟨.hbm, 45, rfl⟩
abbrev main_cst_2 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_3 : Ref sig .tc := ⟨.hbm, 50, rfl⟩
abbrev main_v15 : Ref sig .tc := ⟨.hbm, 51, rfl⟩
abbrev main_cst_4 : Ref sig .tc := ⟨.hbm, 52, rfl⟩
abbrev main_v16 : Ref sig .tc := ⟨.hbm, 53, rfl⟩
abbrev main_cst_5 : Ref sig .tc := ⟨.hbm, 54, rfl⟩
abbrev main_v17 : Ref sig .tc := ⟨.hbm, 55, rfl⟩
abbrev main_c_6 : Ref sig .tc := ⟨.hbm, 56, rfl⟩
abbrev main_v18_0 : Ref sig .tc := ⟨.hbm, 57, rfl⟩
abbrev main_v18_1 : Ref sig .tc := ⟨.hbm, 58, rfl⟩
abbrev main_v18_2 : Ref sig .tc := ⟨.hbm, 59, rfl⟩
abbrev main_v18_3 : Ref sig .tc := ⟨.hbm, 60, rfl⟩
abbrev main_v18_4 : Ref sig .tc := ⟨.hbm, 61, rfl⟩
abbrev main_v18_5 : Ref sig .tc := ⟨.hbm, 62, rfl⟩
abbrev main_v18_6 : Ref sig .tc := ⟨.hbm, 63, rfl⟩
abbrev main_while1c_c_13 : Ref sig .tc := ⟨.hbm, 64, rfl⟩
abbrev main_while1c_v23 : Ref sig .tc := ⟨.hbm, 65, rfl⟩
abbrev main_while1b_c_13 : Ref sig .tc := ⟨.hbm, 66, rfl⟩
abbrev main_while1b_v23 : Ref sig .tc := ⟨.hbm, 67, rfl⟩
abbrev main_while1b_c_14 : Ref sig .tc := ⟨.hbm, 68, rfl⟩
abbrev main_while1b_v24 : Ref sig .tc := ⟨.hbm, 69, rfl⟩
abbrev main_while1b_call8_c : Ref sig .tc := ⟨.hbm, 70, rfl⟩
abbrev main_while1b_call8_c_0 : Ref sig .tc := ⟨.hbm, 71, rfl⟩
abbrev main_while1b_call8_v0 : Ref sig .tc := ⟨.hbm, 72, rfl⟩
abbrev main_while1b_v25 : Ref sig .tc := ⟨.hbm, 73, rfl⟩
abbrev main_while1b_call9_c : Ref sig .tc := ⟨.hbm, 74, rfl⟩
abbrev main_while1b_call9_c_0 : Ref sig .tc := ⟨.hbm, 75, rfl⟩
abbrev main_while1b_call9_v0 : Ref sig .tc := ⟨.hbm, 76, rfl⟩
abbrev main_while1b_v26 : Ref sig .tc := ⟨.hbm, 77, rfl⟩
abbrev main_while1b_call10_c : Ref sig .tc := ⟨.hbm, 78, rfl⟩
abbrev main_while1b_call10_c_0 : Ref sig .tc := ⟨.hbm, 79, rfl⟩
abbrev main_while1b_call10_v0 : Ref sig .tc := ⟨.hbm, 80, rfl⟩
abbrev main_while1b_v27 : Ref sig .tc := ⟨.hbm, 81, rfl⟩
abbrev main_while1b_v28 : Ref sig .tc := ⟨.hbm, 82, rfl⟩
abbrev main_while1b_v29 : Ref sig .tc := ⟨.hbm, 83, rfl⟩
abbrev main_while1b_v30 : Ref sig .tc := ⟨.hbm, 84, rfl⟩
abbrev main_while1b_call11_v0 : Ref sig .tc := ⟨.hbm, 85, rfl⟩
abbrev main_while1b_call11_c : Ref sig .tc := ⟨.hbm, 86, rfl⟩
abbrev main_while1b_call11_c_0 : Ref sig .tc := ⟨.hbm, 87, rfl⟩
abbrev main_while1b_v31 : Ref sig .tc := ⟨.hbm, 88, rfl⟩
abbrev main_while1b_call12_v0 : Ref sig .tc := ⟨.hbm, 89, rfl⟩
abbrev main_while1b_call12_c : Ref sig .tc := ⟨.hbm, 90, rfl⟩
abbrev main_while1b_call12_c_0 : Ref sig .tc := ⟨.hbm, 91, rfl⟩
abbrev main_while1b_v32 : Ref sig .tc := ⟨.hbm, 92, rfl⟩
abbrev main_while1b_c_15 : Ref sig .tc := ⟨.hbm, 93, rfl⟩
abbrev main_while1b_v33 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩
-- ==== Kernel2.lean ====
abbrev S8192x1024 : Shape := ⟨2, ![8192, 1024]⟩
abbrev S1x1024 : Shape := ⟨2, ![1, 1024]⟩
abbrev S4x1024x1024 : Shape := ⟨3, ![4, 1024, 1024]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S8192x4096 : Shape := ⟨2, ![8192, 4096]⟩
abbrev S1024x1024 : Shape := ⟨2, ![1024, 1024]⟩
abbrev S1x1024x1024 : Shape := ⟨3, ![1, 1024, 1024]⟩
abbrev S1024 : Shape := ⟨1, ![1024]⟩

abbrev nBuf : Space → Nat
  | .hbm => 13
  | .vmem => 41
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1024, .f32⟩
  | .hbm, ⟨3, _⟩ => ⟨S4096x1024, .f32⟩
  | .hbm, ⟨4, _⟩ => ⟨S8192x1024, .f32⟩
  | .hbm, ⟨5, _⟩ => ⟨S4x1024x1024, .bf16⟩
  | .hbm, ⟨6, _⟩ => ⟨S4096x1024, .bf16⟩
  | .hbm, ⟨7, _⟩ => ⟨S8192x1024, .bf16⟩
  | .hbm, ⟨8, _⟩ => ⟨S8192x4096, .bf16⟩
  | .hbm, ⟨9, _⟩ => ⟨S8192x4096, .bf16⟩
  | .hbm, ⟨10, _⟩ => ⟨S8192x4096, .bf16⟩
  | .hbm, ⟨11, _⟩ => ⟨S8192x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S1x1024x1024, .bf16⟩
  | .local _ .vmem, ⟨30, _⟩ => ⟨S1x1024x1024, .bf16⟩
  | .local _ .vmem, ⟨31, _⟩ => ⟨S1x1024x1024, .bf16⟩
  | .local _ .vmem, ⟨32, _⟩ => ⟨S1x1024x1024, .bf16⟩
  | .local _ .vmem, ⟨33, _⟩ => ⟨S512x1024, .f32⟩
  | .local _ .vmem, ⟨34, _⟩ => ⟨S512x1024, .f32⟩
  | .local _ .vmem, ⟨35, _⟩ => ⟨S1x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg8_0 : Ref sig .tc := ⟨.vmem, 33, rfl⟩
abbrev cc3_stg8_1 : Ref sig .tc := ⟨.vmem, 34, rfl⟩
abbrev cc3_stg9_0 : Ref sig .tc := ⟨.vmem, 35, rfl⟩
abbrev cc3_stg10_0 : Ref sig .tc := ⟨.vmem, 36, rfl⟩
abbrev cc3_stg10_1 : Ref sig .tc := ⟨.vmem, 37, rfl⟩
abbrev cc3_stg11_0 : Ref sig .tc := ⟨.vmem, 38, rfl⟩
abbrev cc3_stg11_1 : Ref sig .tc := ⟨.vmem, 39, rfl⟩
abbrev cc3_stg12_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem8_0 : DmaSem sig := 33
abbrev cc3_sem8_1 : DmaSem sig := 34
abbrev cc3_sem9_0 : DmaSem sig := 35
abbrev cc3_sem10_0 : DmaSem sig := 36
abbrev cc3_sem10_1 : DmaSem sig := 37
abbrev cc3_sem11_0 : DmaSem sig := 38
abbrev cc3_sem11_1 : DmaSem sig := 39
abbrev cc3_sem12_0 : DmaSem sig := 40

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨2, ![16, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc3_transform_2 (i : grid3.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc3_transform_3 (i : grid3.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_5 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc3_transform_6 (i : grid3.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc3_transform_7 (i : grid3.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_12 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S1x1024x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, true]

abbrev stage3_5 : Fin 1 → Memref sig .tc .vmem S1x1024x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, true]

abbrev stage3_6 : Fin 1 → Memref sig .tc .vmem S1x1024x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, true]

abbrev stage3_7 : Fin 1 → Memref sig .tc .vmem S1x1024x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, true]

abbrev stage3_8 : Fin 2 → Memref sig .tc .vmem S512x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 1 → Memref sig .tc .vmem S1x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, true]

abbrev stage3_10 : Fin 2 → Memref sig .tc .vmem S512x1024 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S512x1024 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 1 → Memref sig .tc .vmem S1x1024 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false, true]
-- ==== Reference2Ideal.lean ====
abbrev S8192x1024 : Shape := ⟨2, ![8192, 1024]⟩
abbrev S1x1024 : Shape := ⟨2, ![1, 1024]⟩
abbrev S4x1024x1024 : Shape := ⟨3, ![4, 1024, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1024x4x1024 : Shape := ⟨3, ![1024, 4, 1024]⟩
abbrev S1024x4096 : Shape := ⟨2, ![1024, 4096]⟩
abbrev S8192x4096 : Shape := ⟨2, ![8192, 4096]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1024, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x4x1024, .f32⟩
  | .hbm, ⟨25, _⟩ => ⟨S1024x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .i1⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1024x4096, .f32⟩
  | .hbm, ⟨43, _⟩ => ⟨S4096x1024, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S4096x1024, .f32⟩
  | .hbm, ⟨50, _⟩ => ⟨S1024x4096, .f32⟩
  | .hbm, ⟨51, _⟩ => ⟨S8192x1024, .f32⟩
  | .hbm, ⟨52, _⟩ => ⟨S1024x4x1024, .f32⟩
  | .hbm, ⟨53, _⟩ => ⟨S4x1024x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S4x1024x1024 : Shape := ⟨3, ![4, 1024, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1024x4x1024 : Shape := ⟨3, ![1024, 4, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 29
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1024, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x4x1024, .f32⟩
  | .hbm, ⟨21, _⟩ => ⟨S1024x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .bf16⟩
  | .hbm, ⟨28, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S1x1024 : Shape := ⟨2, ![1, 1024]⟩
abbrev S4x1024x1024 : Shape := ⟨3, ![4, 1024, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1024x4x1024 : Shape := ⟨3, ![1024, 4, 1024]⟩
abbrev S1024x4096 : Shape := ⟨2, ![1024, 4096]⟩
abbrev S8192x4096 : Shape := ⟨2, ![8192, 4096]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1024, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x4x1024, .f32⟩
  | .hbm, ⟨25, _⟩ => ⟨S1024x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .i1⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1024x4096, .f32⟩
  | .hbm, ⟨43, _⟩ => ⟨S4096x1024, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S4096x1024, .f32⟩
  | .hbm, ⟨50, _⟩ => ⟨S1024x4096, .f32⟩
  | .hbm, ⟨51, _⟩ => ⟨S8192x1024, .f32⟩
  | .hbm, ⟨52, _⟩ => ⟨S1024x4x1024, .f32⟩
  | .hbm, ⟨53, _⟩ => ⟨S4x1024x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S4x1024x1024 : Shape := ⟨3, ![4, 1024, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1024x4x1024 : Shape := ⟨3, ![1024, 4, 1024]⟩
abbrev S1024x4096 : Shape := ⟨2, ![1024, 4096]⟩
abbrev S8192x4096 : Shape := ⟨2, ![8192, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 44
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1024, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x4x1024, .f32⟩
  | .hbm, ⟨21, _⟩ => ⟨S1024x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .i1⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S8192x1024, .f32⟩
  | .hbm, ⟨36, _⟩ => ⟨S8192x1024, .bf16⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x4096, .bf16⟩
  | .hbm, ⟨43, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1x1024 : Shape := ⟨2, ![1, 1024]⟩
abbrev S4x1024x1024 : Shape := ⟨3, ![4, 1024, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1024x4x1024 : Shape := ⟨3, ![1024, 4, 1024]⟩
abbrev S1024x4096 : Shape := ⟨2, ![1024, 4096]⟩
abbrev S8192x4096 : Shape := ⟨2, ![8192, 4096]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1024, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x4x1024, .f32⟩
  | .hbm, ⟨25, _⟩ => ⟨S1024x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .i1⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1024x4096, .f32⟩
  | .hbm, ⟨43, _⟩ => ⟨S4096x1024, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S4096x1024, .f32⟩
  | .hbm, ⟨50, _⟩ => ⟨S1024x4096, .f32⟩
  | .hbm, ⟨51, _⟩ => ⟨S8192x1024, .f32⟩
  | .hbm, ⟨52, _⟩ => ⟨S1024x4x1024, .f32⟩
  | .hbm, ⟨53, _⟩ => ⟨S4x1024x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S4x1024x1024 : Shape := ⟨3, ![4, 1024, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1024x4x1024 : Shape := ⟨3, ![1024, 4, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 29
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1024, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x4x1024, .f32⟩
  | .hbm, ⟨20, _⟩ => ⟨S1024x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .bf16⟩
  | .hbm, ⟨27, _⟩ => ⟨S4096x1024, .bf16⟩
  | .hbm, ⟨28, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x1024 : Shape := ⟨2, ![8192, 1024]⟩
abbrev S1x1024 : Shape := ⟨2, ![1, 1024]⟩
abbrev S4x1024x1024 : Shape := ⟨3, ![4, 1024, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1024x4x1024 : Shape := ⟨3, ![1024, 4, 1024]⟩
abbrev S1024x4096 : Shape := ⟨2, ![1024, 4096]⟩
abbrev S8192x4096 : Shape := ⟨2, ![8192, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1024, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x4x1024, .f32⟩
  | .hbm, ⟨20, _⟩ => ⟨S1024x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x5120 : Shape := ⟨2, ![1024, 5120]⟩
abbrev S8192x5120 : Shape := ⟨2, ![8192, 5120]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024 : Shape := ⟨1, ![1024]⟩

abbrev nBuf : Space → Nat
  | .hbm => 20
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5120, .f32⟩
  | .hbm, ⟨3, _⟩ => ⟨S8192x1024, .f32⟩
  | .hbm, ⟨4, _⟩ => ⟨S8192x5120, .f32⟩
  | .hbm, ⟨5, _⟩ => ⟨S1024x5120, .bf16⟩
  | .hbm, ⟨6, _⟩ => ⟨S8192x1024, .bf16⟩
  | .hbm, ⟨7, _⟩ => ⟨S8192x5120, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S8192x1024, .bf16⟩
  | .hbm, ⟨16, _⟩ => ⟨S8192x1024, .f32⟩
  | .hbm, ⟨17, _⟩ => ⟨S8192x1024, .bf16⟩
  | .hbm, ⟨18, _⟩ => ⟨S8192x1024, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg10_1 : Ref sig .tc := ⟨.vmem, 27, rfl⟩
abbrev cc2_stg11_0 : Ref sig .tc := ⟨.vmem, 28, rfl⟩
abbrev cc2_stg12_0 : Ref sig .tc := ⟨.vmem, 29, rfl⟩
abbrev cc2_stg12_1 : Ref sig .tc := ⟨.vmem, 30, rfl⟩
abbrev cc2_stg13_0 : Ref sig .tc := ⟨.vmem, 31, rfl⟩
abbrev cc2_stg13_1 : Ref sig .tc := ⟨.vmem, 32, rfl⟩
abbrev cc2_stg14_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem10_1 : DmaSem sig := 27
abbrev cc2_sem11_0 : DmaSem sig := 28
abbrev cc2_sem12_0 : DmaSem sig := 29
abbrev cc2_sem12_1 : DmaSem sig := 30
abbrev cc2_sem13_0 : DmaSem sig := 31
abbrev cc2_sem13_1 : DmaSem sig := 32
abbrev cc2_sem14_0 : DmaSem sig := 33

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 5, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc2_transform_7 (i : grid2.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc2_transform_8 (i : grid2.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc2_transform_9 (i : grid2.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, c4_i32.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .vmem S1024x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, true]

abbrev stage2_6 : Fin 1 → Memref sig .tc .vmem S1024x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, true]

abbrev stage2_7 : Fin 1 → Memref sig .tc .vmem S1024x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, true]

abbrev stage2_8 : Fin 1 → Memref sig .tc .vmem S1024x1024 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, true]

abbrev stage2_9 : Fin 1 → Memref sig .tc .vmem S1024x1024 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, true]

abbrev stage2_10 : Fin 2 → Memref sig .tc .vmem S512x1024 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 1 → Memref sig .tc .vmem S1x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, true]

abbrev stage2_12 : Fin 2 → Memref sig .tc .vmem S512x1024 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S512x1024 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 1 → Memref sig .tc .vmem S1x1024 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, true]
-- ==== Reference6Ideal.lean ====
abbrev S8192x1024 : Shape := ⟨2, ![8192, 1024]⟩
abbrev S1x1024 : Shape := ⟨2, ![1, 1024]⟩
abbrev S1024x5120 : Shape := ⟨2, ![1024, 5120]⟩
abbrev S8192x5120 : Shape := ⟨2, ![8192, 5120]⟩
abbrev S_ : Shape := ⟨0, ![]⟩
abbrev S8192 : Shape := ⟨1, ![8192]⟩
abbrev S8192x1 : Shape := ⟨2, ![8192, 1]⟩
abbrev S5120x1024 : Shape := ⟨2, ![5120, 1024]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5120, .f32⟩
  | .hbm, ⟨3, _⟩ => ⟨S8192x1024, .f32⟩
  | .hbm, ⟨4, _⟩ => ⟨S8192x5120, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5120, .f32⟩
  | .hbm, ⟨25, _⟩ => ⟨S5120x1024, .f32⟩
  | .hbm, ⟨26, _⟩ => ⟨S1024x5120, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩

abbrev nBuf : Space → Nat
  | .hbm => 22
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .bf16⟩
  | .hbm, ⟨21, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x1024, .f32⟩
  | .hbm, ⟨21, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S1024x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference8Ideal.lean ====
abbrev S8192x1024 : Shape := ⟨2, ![8192, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S8192x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1024x5120 : Shape := ⟨2, ![1024, 5120]⟩
abbrev S1024x128 : Shape := ⟨2, ![1024, 128]⟩
abbrev S8192x5120 : Shape := ⟨2, ![8192, 5120]⟩
abbrev S8192x128 : Shape := ⟨2, ![8192, 128]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x128 : Shape := ⟨2, ![512, 128]⟩
abbrev S1024 : Shape := ⟨1, ![1024]⟩

abbrev nBuf : Space → Nat
  | .hbm => 24
  | .vmem => 42
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5120, .f32⟩
  | .hbm, ⟨3, _⟩ => ⟨S1024x128, .f32⟩
  | .hbm, ⟨4, _⟩ => ⟨S8192x1024, .f32⟩
  | .hbm, ⟨5, _⟩ => ⟨S8192x5120, .f32⟩
  | .hbm, ⟨6, _⟩ => ⟨S8192x128, .f32⟩
  | .hbm, ⟨7, _⟩ => ⟨S1024x5120, .bf16⟩
  | .hbm, ⟨8, _⟩ => ⟨S1024x128, .bf16⟩
  | .hbm, ⟨9, _⟩ => ⟨S8192x1024, .bf16⟩
  | .hbm, ⟨10, _⟩ => ⟨S8192x5120, .f32⟩
  | .hbm, ⟨11, _⟩ => ⟨S8192x128, .f32⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S8192x1024, .bf16⟩
  | .hbm, ⟨16, _⟩ => ⟨S8192x1024, .f32⟩
  | .hbm, ⟨17, _⟩ => ⟨S8192x1024, .bf16⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S8192x1024, .bf16⟩
  | .hbm, ⟨22, _⟩ => ⟨S8192x1024, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x128, .bf16⟩
  | .local _ .vmem, ⟨14, _⟩ => ⟨S1024x128, .f32⟩
  | .local _ .vmem, ⟨15, _⟩ => ⟨S1024x128, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x128, .f32⟩
  | .local _ .vmem, ⟨27, _⟩ => ⟨S512x128, .f32⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1024x128, .bf16⟩
  | .local _ .vmem, ⟨34, _⟩ => ⟨S512x1024, .f32⟩
  | .local _ .vmem, ⟨35, _⟩ => ⟨S512x1024, .f32⟩
  | .local _ .vmem, ⟨36, _⟩ => ⟨S1x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc3_stg5_0 : Ref sig .tc := ⟨.vmem, 26, rfl⟩
abbrev cc3_stg5_1 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg10_0 : Ref sig .tc := ⟨.vmem, 32, rfl⟩
abbrev cc3_stg11_0 : Ref sig .tc := ⟨.vmem, 33, rfl⟩
abbrev cc3_stg12_0 : Ref sig .tc := ⟨.vmem, 34, rfl⟩
abbrev cc3_stg12_1 : Ref sig .tc := ⟨.vmem, 35, rfl⟩
abbrev cc3_stg13_0 : Ref sig .tc := ⟨.vmem, 36, rfl⟩
abbrev cc3_stg14_0 : Ref sig .tc := ⟨.vmem, 37, rfl⟩
abbrev cc3_stg14_1 : Ref sig .tc := ⟨.vmem, 38, rfl⟩
abbrev cc3_stg15_0 : Ref sig .tc := ⟨.vmem, 39, rfl⟩
abbrev cc3_stg15_1 : Ref sig .tc := ⟨.vmem, 40, rfl⟩
abbrev cc3_stg16_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem3_1 : DmaSem sig := 23
abbrev cc3_sem4_0 : DmaSem sig := 24
abbrev cc3_sem4_1 : DmaSem sig := 25
abbrev cc3_sem5_0 : DmaSem sig := 26
abbrev cc3_sem5_1 : DmaSem sig := 27
abbrev cc3_sem6_0 : DmaSem sig := 28
abbrev cc3_sem7_0 : DmaSem sig := 29
abbrev cc3_sem8_0 : DmaSem sig := 30
abbrev cc3_sem9_0 : DmaSem sig := 31
abbrev cc3_sem10_0 : DmaSem sig := 32
abbrev cc3_sem11_0 : DmaSem sig := 33
abbrev cc3_sem12_0 : DmaSem sig := 34
abbrev cc3_sem12_1 : DmaSem sig := 35
abbrev cc3_sem13_0 : DmaSem sig := 36
abbrev cc3_sem14_0 : DmaSem sig := 37
abbrev cc3_sem14_1 : DmaSem sig := 38
abbrev cc3_sem15_0 : DmaSem sig := 39
abbrev cc3_sem15_1 : DmaSem sig := 40
abbrev cc3_sem16_0 : DmaSem sig := 41

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 5, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![16, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_7 (i : grid3.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc3_transform_8 (i : grid3.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc3_transform_9 (i : grid3.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc3_transform_10 (i : grid3.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, c4_i32.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_12 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_13 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_14 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_16 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S512x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S512x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 1 → Memref sig .tc .vmem S1024x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, true]

abbrev stage3_7 : Fin 1 → Memref sig .tc .vmem S1024x1024 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, true]

abbrev stage3_8 : Fin 1 → Memref sig .tc .vmem S1024x1024 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, true]

abbrev stage3_9 : Fin 1 → Memref sig .tc .vmem S1024x1024 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, true]

abbrev stage3_10 : Fin 1 → Memref sig .tc .vmem S1024x1024 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, true]

abbrev stage3_11 : Fin 1 → Memref sig .tc .vmem S1024x128 .bf16 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, true]

abbrev stage3_12 : Fin 2 → Memref sig .tc .vmem S512x1024 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

abbrev stage3_13 : Fin 1 → Memref sig .tc .vmem S1x1024 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false, true]

abbrev stage3_14 : Fin 2 → Memref sig .tc .vmem S512x1024 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]

abbrev stage3_15 : Fin 2 → Memref sig .tc .vmem S512x1024 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true, true]

abbrev stage3_16 : Fin 1 → Memref sig .tc .vmem S1x1024 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false, true]
-- ==== Reference10Ideal.lean ====
abbrev S8192x1024 : Shape := ⟨2, ![8192, 1024]⟩
abbrev S1x1024 : Shape := ⟨2, ![1, 1024]⟩
abbrev S1024x5120 : Shape := ⟨2, ![1024, 5120]⟩
abbrev S1024x128 : Shape := ⟨2, ![1024, 128]⟩
abbrev S8192x5120 : Shape := ⟨2, ![8192, 5120]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x1024 : Shape := ⟨2, ![128, 1024]⟩
abbrev S5120x1024 : Shape := ⟨2, ![5120, 1024]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5120, .f32⟩
  | .hbm, ⟨3, _⟩ => ⟨S1024x128, .f32⟩
  | .hbm, ⟨4, _⟩ => ⟨S8192x1024, .f32⟩
  | .hbm, ⟨5, _⟩ => ⟨S8192x5120, .f32⟩
  | .hbm, ⟨6, _⟩ => ⟨S8192x128, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x5120, .f32⟩
  | .hbm, ⟨27, _⟩ => ⟨S8192x128, .f32⟩
  | .hbm, ⟨28, _⟩ => ⟨S128x1024, .f32⟩
  | .hbm, ⟨29, _⟩ => ⟨S1024x128, .f32⟩
  | .hbm, ⟨30, _⟩ => ⟨S8192x1024, .f32⟩
  | .hbm, ⟨31, _⟩ => ⟨S5120x1024, .f32⟩
  | .hbm, ⟨32, _⟩ => ⟨S1024x5120, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel11.lean ====
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 16
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S8192x1024, .f32⟩
  | .hbm, ⟨5, _⟩ => ⟨S2048x1024, .bf16⟩
  | .hbm, ⟨6, _⟩ => ⟨S8192x1024, .bf16⟩
  | .hbm, ⟨7, _⟩ => ⟨S1024x1024, .bf16⟩
  | .hbm, ⟨8, _⟩ => ⟨S8192x1024, .f32⟩
  | .hbm, ⟨9, _⟩ => ⟨S8192x1024, .bf16⟩
  | .hbm, ⟨10, _⟩ => ⟨S1024x1024, .bf16⟩
  | .hbm, ⟨11, _⟩ => ⟨S8192x1024, .f32⟩
  | .hbm, ⟨12, _⟩ => ⟨S1024x1024, .bf16⟩
  | .hbm, ⟨13, _⟩ => ⟨S8192x1024, .f32⟩
  | .hbm, ⟨14, _⟩ => ⟨S1024x1024, .bf16⟩
  | .hbm, ⟨15, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .bf16⟩
  | .local _ .vmem, ⟨22, _⟩ => ⟨S1024x1024, .f32⟩
  | .local _ .vmem, ⟨23, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference11Ideal.lean ====
abbrev S8192x1024 : Shape := ⟨2, ![8192, 1024]⟩
abbrev S2048x1024 : Shape := ⟨2, ![2048, 1024]⟩
abbrev S8192x2048 : Shape := ⟨2, ![8192, 2048]⟩
abbrev S1024x2048 : Shape := ⟨2, ![1024, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S8192x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x2048, .f32⟩
  | .hbm, ⟨10, _⟩ => ⟨S2048x1024, .f32⟩
  | .hbm, ⟨11, _⟩ => ⟨S8192x2048, .f32⟩
  | .hbm, ⟨12, _⟩ => ⟨S8192x1024, .f32⟩
  | .hbm, ⟨13, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel12.lean ====
abbrev S8192x1024 : Shape := ⟨2, ![8192, 1024]⟩
abbrev S2x16x64x64 : Shape := ⟨4, ![2, 16, 64, 64]⟩
abbrev S1x16x64x64 : Shape := ⟨4, ![1, 16, 64, 64]⟩
abbrev S16x64x64 : Shape := ⟨3, ![16, 64, 64]⟩
abbrev S16x16 : Shape := ⟨2, ![16, 16]⟩
abbrev S_ : Shape := ⟨0, ![]⟩
abbrev S16x1x16x1 : Shape := ⟨4, ![16, 1, 16, 1]⟩
abbrev S16x64x1x64 : Shape := ⟨4, ![16, 64, 1, 64]⟩
abbrev S16x64x16x64 : Shape := ⟨4, ![16, 64, 16, 64]⟩
abbrev S1024x1024 : Shape := ⟨2, ![1024, 1024]⟩
abbrev S512x1024 : Shape := ⟨2, ![512, 1024]⟩

abbrev nBuf : Space → Nat
  | .hbm => 82
  | .vmem => 38
  | .smem => 0
  | _ => 0

abbrev bufTy : (tb : Table) → Fin (tcTables nBuf tb) → BufTy
  | .hbm, ⟨0, _⟩ => ⟨S8192x1024, .f32⟩
  | .hbm, ⟨1, _⟩ => ⟨S2x16x64x64, .f32⟩
  | .hbm, ⟨2, _⟩ => ⟨S2x16x64x64, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1x16x64x64, .f32⟩
  | .hbm, ⟨10, _⟩ => ⟨S16x64x64, .f32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S16x16, .f32⟩
  | .hbm, ⟨18, _⟩ => ⟨S16x1x16x1, .f32⟩
  | .hbm, ⟨19, _⟩ => ⟨S16x64x1x64, .f32⟩
  | .hbm, ⟨20, _⟩ => ⟨S16x64x16x64, .f32⟩
  | .hbm, ⟨21, _⟩ => ⟨S16x64x16x64, .f32⟩
  | .hbm, ⟨22, _⟩ => ⟨S16x64x16x64, .f32⟩
  | .hbm, ⟨23, _⟩ => ⟨S1024x1024, .f32⟩
  | .hbm, ⟨24, _⟩ => ⟨S1024x1024, .bf16⟩
  | .hbm, ⟨25, _⟩ => ⟨S1x16x64x64, .f32⟩
  | .hbm, ⟨26, _⟩ => ⟨S16x64x64, .f32⟩
  | .hbm, ⟨27, _⟩ => ⟨S16x16, .i32⟩
  | .hbm, ⟨28, _⟩ => ⟨S16x16, .i32⟩
  | .hbm, ⟨29, _⟩ => ⟨S_, .i32⟩
  | .hbm, ⟨30, _⟩ => ⟨S16x16, .i32⟩
  | .hbm, ⟨31, _⟩ => ⟨S16x16, .i32⟩
  | .hbm, ⟨32, _⟩ => ⟨S16x16, .i1⟩
  | .hbm, ⟨33, _⟩ => ⟨S16x16, .f32⟩
  | .hbm, ⟨34, _⟩ => ⟨S16x1x16x1, .f32⟩
  | .hbm, ⟨35, _⟩ => ⟨S16x64x1x64, .f32⟩
  | .hbm, ⟨36, _⟩ => ⟨S16x64x16x64, .f32⟩
  | .hbm, ⟨37, _⟩ => ⟨S16x64x16x64, .f32⟩
  | .hbm, ⟨38, _⟩ => ⟨S16x64x16x64, .f32⟩
  | .hbm, ⟨39, _⟩ => ⟨S1024x1024, .f32⟩
  | .hbm, ⟨40, _⟩ => ⟨S1024x1024, .bf16⟩
  | .hbm, ⟨41, _⟩ => ⟨S1x16x64x64, .f32⟩
  | .hbm, ⟨42, _⟩ => ⟨S16x64x64, .f32⟩
  | .hbm, ⟨43, _⟩ => ⟨S16x16, .i32⟩
  | .hbm, ⟨44, _⟩ => ⟨S16x16, .i32⟩
  | .hbm, ⟨45, _⟩ => ⟨S_, .i32⟩
  | .hbm, ⟨46, _⟩ => ⟨S16x16, .i32⟩
  | .hbm, ⟨47, _⟩ => ⟨S16x16, .i32⟩
  | .hbm, ⟨48, _⟩ => ⟨S16x16, .i1⟩
  | .hbm, ⟨49, _⟩ => ⟨S16x16, .f32⟩
  | .hbm, ⟨50, _⟩ => ⟨S16x1x16x1, .f32⟩
  | .hbm, ⟨51, _⟩ => ⟨S16x64x1x64, .f32⟩
  | .hbm, ⟨52, _⟩ => ⟨S16x64x16x64, .f32⟩
  | .hbm, ⟨53, _⟩ => ⟨S16x64x16x64, .f32⟩
  | .hbm, ⟨54, _⟩ => ⟨S16x64x16x64, .f32⟩
  | .hbm, ⟨55, _⟩ => ⟨S1024x1024, .f32⟩
  | .hbm, ⟨56, _⟩ => ⟨S1024x1024, .bf16⟩
  | .hbm, ⟨57, _⟩ => ⟨S1x16x64x64, .f32⟩
  | .hbm, ⟨58, _⟩ => ⟨S16x64x64, .f32⟩
  | .hbm, ⟨59, _⟩ => ⟨S16x16, .i32⟩
  | .hbm, ⟨60, _⟩ => ⟨S16x16, .i32⟩
  | .hbm, ⟨61, _⟩ => ⟨S_, .i32⟩
  | .hbm, ⟨62, _⟩ => ⟨S16x16, .i32⟩
  | .hbm, ⟨63, _⟩ => ⟨S16x16, .i32⟩
  | .hbm, ⟨64, _⟩ => ⟨S16x16, .i1⟩
  | .hbm, ⟨65, _⟩ => ⟨S16x16, .f32⟩
  | .hbm, ⟨66, _⟩ => ⟨S16x1x16x1, .f32⟩
  | .hbm, ⟨67, _⟩ => ⟨S16x64x1x64, .f32⟩
  | .hbm, ⟨68, _⟩ => ⟨S16x64x16x64, .f32⟩
  | .hbm, ⟨69, _⟩ => ⟨S16x64x16x64, .f32⟩
  | .hbm, ⟨70, _⟩ => ⟨S16x64x16x64, .f32⟩
  | .hbm, ⟨71, _⟩ => ⟨S1024x1024, .f32⟩
  | .hbm, ⟨72, _⟩ => ⟨S1024x1024, .bf16⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .bf16⟩
  | .hbm, ⟨78, _⟩ => ⟨S8192x1024, .bf16⟩
  | .hbm, ⟨79, _⟩ => ⟨S8192x1024, .bf16⟩
  | .hbm, ⟨80, _⟩ => ⟨S8192x1024, .bf16⟩
  | .hbm, ⟨81, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_2 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc4_stg3_0 : Ref sig .tc := ⟨.vmem, 26, rfl⟩
abbrev cc4_stg3_1 : Ref sig .tc := ⟨.vmem, 27, rfl⟩
abbrev cc4_stg4_0 : Ref sig .tc := ⟨.vmem, 28, rfl⟩
abbrev cc4_stg5_0 : Ref sig .tc := ⟨.vmem, 29, rfl⟩
abbrev cc4_stg6_0 : Ref sig .tc := ⟨.vmem, 30, rfl⟩
abbrev cc4_stg7_0 : Ref sig .tc := ⟨.vmem, 31, rfl⟩
abbrev cc4_stg8_0 : Ref sig .tc := ⟨.vmem, 32, rfl⟩
abbrev cc4_stg8_1 : Ref sig .tc := ⟨.vmem, 33, rfl⟩
abbrev cc4_stg9_0 : Ref sig .tc := ⟨.vmem, 34, rfl⟩
abbrev cc4_stg9_1 : Ref sig .tc := ⟨.vmem, 35, rfl⟩
abbrev cc4_stg10_0 : Ref sig .tc := ⟨.vmem, 36, rfl⟩
abbrev cc4_stg10_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc4_sem3_0 : DmaSem sig := 26
abbrev cc4_sem3_1 : DmaSem sig := 27
abbrev cc4_sem4_0 : DmaSem sig := 28
abbrev cc4_sem5_0 : DmaSem sig := 29
abbrev cc4_sem6_0 : DmaSem sig := 30
abbrev cc4_sem7_0 : DmaSem sig := 31
abbrev cc4_sem8_0 : DmaSem sig := 32
abbrev cc4_sem8_1 : DmaSem sig := 33
abbrev cc4_sem9_0 : DmaSem sig := 34
abbrev cc4_sem9_1 : DmaSem sig := 35
abbrev cc4_sem10_0 : DmaSem sig := 36
abbrev cc4_sem10_1 : DmaSem sig := 37

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨2, ![16, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_10 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 1 → Memref sig .tc .vmem S1024x1024 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, true]

abbrev stage4_5 : Fin 1 → Memref sig .tc .vmem S1024x1024 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, true]

abbrev stage4_6 : Fin 1 → Memref sig .tc .vmem S1024x1024 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, true]

abbrev stage4_7 : Fin 1 → Memref sig .tc .vmem S1024x1024 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, true]

abbrev stage4_8 : Fin 2 → Memref sig .tc .vmem S512x1024 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]

abbrev stage4_9 : Fin 2 → Memref sig .tc .vmem S512x1024 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev stage4_10 : Fin 2 → Memref sig .tc .vmem S512x1024 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true, true]
-- ==== Reference12Ideal.lean ====
abbrev S8192x1024 : Shape := ⟨2, ![8192, 1024]⟩
abbrev S2x16x64x64 : Shape := ⟨4, ![2, 16, 64, 64]⟩
abbrev S8192x16x64 : Shape := ⟨3, ![8192, 16, 64]⟩
abbrev S1x16x64x64 : Shape := ⟨4, ![1, 16, 64, 64]⟩
abbrev S16x64x64 : Shape := ⟨3, ![16, 64, 64]⟩
abbrev S16x64x8192 : Shape := ⟨3, ![16, 64, 8192]⟩
abbrev S16x8192x64 : Shape := ⟨3, ![16, 8192, 64]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x16x64x64, .f32⟩
  | .hbm, ⟨2, _⟩ => ⟨S2x16x64x64, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x16x64, .f32⟩
  | .hbm, ⟨10, _⟩ => ⟨S1x16x64x64, .f32⟩
  | .hbm, ⟨11, _⟩ => ⟨S16x64x64, .f32⟩
  | .hbm, ⟨12, _⟩ => ⟨S16x64x8192, .f32⟩
  | .hbm, ⟨13, _⟩ => ⟨S8192x16x64, .f32⟩
  | .hbm, ⟨14, _⟩ => ⟨S8192x1024, .f32⟩
  | .hbm, ⟨15, _⟩ => ⟨S1x16x64x64, .f32⟩
  | .hbm, ⟨16, _⟩ => ⟨S16x64x64, .f32⟩
  | .hbm, ⟨17, _⟩ => ⟨S16x64x8192, .f32⟩
  | .hbm, ⟨18, _⟩ => ⟨S8192x16x64, .f32⟩
  | .hbm, ⟨19, _⟩ => ⟨S8192x1024, .f32⟩
  | .hbm, ⟨20, _⟩ => ⟨S1x16x64x64, .f32⟩
  | .hbm, ⟨21, _⟩ => ⟨S16x64x64, .f32⟩
  | .hbm, ⟨22, _⟩ => ⟨S16x64x8192, .f32⟩
  | .hbm, ⟨23, _⟩ => ⟨S8192x16x64, .f32⟩
  | .hbm, ⟨24, _⟩ => ⟨S8192x1024, .f32⟩
  | .hbm, ⟨25, _⟩ => ⟨S1x16x64x64, .f32⟩
  | .hbm, ⟨26, _⟩ => ⟨S16x64x64, .f32⟩
  | .hbm, ⟨27, _⟩ => ⟨S16x64x8192, .f32⟩
  | .hbm, ⟨28, _⟩ => ⟨S8192x16x64, .f32⟩
  | .hbm, ⟨29, _⟩ => ⟨S8192x1024, .f32⟩
  | .hbm, ⟨30, _⟩ => ⟨S8192x1024, .f32⟩
  | .hbm, ⟨31, _⟩ => ⟨S8192x16x64, .f32⟩
  | .hbm, ⟨32, _⟩ => ⟨S16x64x8192, .f32⟩
  | .hbm, ⟨33, _⟩ => ⟨S16x8192x64, .f32⟩
  | .hbm, ⟨34, _⟩ => ⟨S8192x16x64, .f32⟩
  | .hbm, ⟨35, _⟩ => ⟨S16x64x64, .f32⟩
  | .hbm, ⟨36, _⟩ => ⟨S16x64x64, .f32⟩
  | .hbm, ⟨37, _⟩ => ⟨S1x16x64x64, .f32⟩
  | .hbm, ⟨38, _⟩ => ⟨S_, .f32⟩
  | .hbm, ⟨39, _⟩ => ⟨S2x16x64x64, .f32⟩
  | .hbm, ⟨40, _⟩ => ⟨S8192x16x64, .f32⟩
  | .hbm, ⟨41, _⟩ => ⟨S16x64x8192, .f32⟩
  | .hbm, ⟨42, _⟩ => ⟨S16x8192x64, .f32⟩
  | .hbm, ⟨43, _⟩ => ⟨S8192x16x64, .f32⟩
  | .hbm, ⟨44, _⟩ => ⟨S8192x16x64, .f32⟩
  | .hbm, ⟨45, _⟩ => ⟨S16x64x64, .f32⟩
  | .hbm, ⟨46, _⟩ => ⟨S16x64x64, .f32⟩
  | .hbm, ⟨47, _⟩ => ⟨S1x16x64x64, .f32⟩
  | .hbm, ⟨48, _⟩ => ⟨S_, .f32⟩
  | .hbm, ⟨49, _⟩ => ⟨S2x16x64x64, .f32⟩
  | .hbm, ⟨50, _⟩ => ⟨S8192x16x64, .f32⟩
  | .hbm, ⟨51, _⟩ => ⟨S16x64x8192, .f32⟩
  | .hbm, ⟨52, _⟩ => ⟨S16x8192x64, .f32⟩
  | .hbm, ⟨53, _⟩ => ⟨S8192x16x64, .f32⟩
  | .hbm, ⟨54, _⟩ => ⟨S8192x16x64, .f32⟩
  | .hbm, ⟨55, _⟩ => ⟨S16x64x64, .f32⟩
  | .hbm, ⟨56, _⟩ => ⟨S16x64x64, .f32⟩
  | .hbm, ⟨57, _⟩ => ⟨S1x16x64x64, .f32⟩
  | .hbm, ⟨58, _⟩ => ⟨S_, .f32⟩
  | .hbm, ⟨59, _⟩ => ⟨S2x16x64x64, .f32⟩
  | .hbm, ⟨60, _⟩ => ⟨S2x16x64x64, .f32⟩
  | .hbm, ⟨61, _⟩ => ⟨S8192x16x64, .f32⟩
  | .hbm, ⟨62, _⟩ => ⟨S16x64x8192, .f32⟩
  | .hbm, ⟨63, _⟩ => ⟨S16x8192x64, .f32⟩
  | .hbm, ⟨64, _⟩ => ⟨S8192x16x64, .f32⟩
  | .hbm, ⟨65, _⟩ => ⟨S8192x16x64, .f32⟩
  | .hbm, ⟨66, _⟩ => ⟨S16x64x64, .f32⟩
  | .hbm, ⟨67, _⟩ => ⟨S16x64x64, .f32⟩
  | .hbm, ⟨68, _⟩ => ⟨S1x16x64x64, .f32⟩
  | .hbm, ⟨69, _⟩ => ⟨S_, .f32⟩
  | .hbm, ⟨70, _⟩ => ⟨S2x16x64x64, .f32⟩
  | .hbm, ⟨71, _⟩ => ⟨S2x16x64x64, .f32⟩
  | .hbm, ⟨72, _⟩ => ⟨S8192x1024, .f32⟩
  | .hbm, ⟨73, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_0 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_1 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_2 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩

abbrev nD : Nat := 1
abbrev τ : Topo := Topo.v7x

variable {F : FTy → Type} [FloatOps F]
-- ==== Kernel13.lean ====
abbrev S8192x1024 : Shape := ⟨2, ![8192, 1024]⟩
abbrev S16x64x64 : Shape := ⟨3, ![16, 64, 64]⟩
abbrev S1024x1024 : Shape := ⟨2, ![1024, 1024]⟩
abbrev S16x64x16x64 : Shape := ⟨4, ![16, 64, 16, 64]⟩
abbrev S1x64x1x64 : Shape := ⟨4, ![1, 64, 1, 64]⟩
abbrev S64x64 : Shape := ⟨2, ![64, 64]⟩
abbrev S1x64x64 : Shape := ⟨3, ![1, 64, 64]⟩

abbrev nBuf : Space → Nat
  | .hbm => 55
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S16x64x64, .f32⟩
  | .hbm, ⟨2, _⟩ => ⟨S8192x1024, .f32⟩
  | .hbm, ⟨3, _⟩ => ⟨S8192x1024, .bf16⟩
  | .hbm, ⟨4, _⟩ => ⟨S1024x1024, .f32⟩
  | .hbm, ⟨5, _⟩ => ⟨S16x64x16x64, .f32⟩
  | .hbm, ⟨6, _⟩ => ⟨S1x64x1x64, .f32⟩
  | .hbm, ⟨7, _⟩ => ⟨S64x64, .f32⟩
  | .hbm, ⟨8, _⟩ => ⟨S1x64x1x64, .f32⟩
  | .hbm, ⟨9, _⟩ => ⟨S64x64, .f32⟩
  | .hbm, ⟨10, _⟩ => ⟨S1x64x1x64, .f32⟩
  | .hbm, ⟨11, _⟩ => ⟨S64x64, .f32⟩
  | .hbm, ⟨12, _⟩ => ⟨S1x64x1x64, .f32⟩
  | .hbm, ⟨13, _⟩ => ⟨S64x64, .f32⟩
  | .hbm, ⟨14, _⟩ => ⟨S1x64x1x64, .f32⟩
  | .hbm, ⟨15, _⟩ => ⟨S64x64, .f32⟩
  | .hbm, ⟨16, _⟩ => ⟨S1x64x1x64, .f32⟩
  | .hbm, ⟨17, _⟩ => ⟨S64x64, .f32⟩
  | .hbm, ⟨18, _⟩ => ⟨S1x64x1x64, .f32⟩
  | .hbm, ⟨19, _⟩ => ⟨S64x64, .f32⟩
  | .hbm, ⟨20, _⟩ => ⟨S1x64x1x64, .f32⟩
  | .hbm, ⟨21, _⟩ => ⟨S64x64, .f32⟩
  | .hbm, ⟨22, _⟩ => ⟨S1x64x1x64, .f32⟩
  | .hbm, ⟨23, _⟩ => ⟨S64x64, .f32⟩
  | .hbm, ⟨24, _⟩ => ⟨S1x64x1x64, .f32⟩
  | .hbm, ⟨25, _⟩ => ⟨S64x64, .f32⟩
  | .hbm, ⟨26, _⟩ => ⟨S1x64x1x64, .f32⟩
  | .hbm, ⟨27, _⟩ => ⟨S64x64, .f32⟩
  | .hbm, ⟨28, _⟩ => ⟨S1x64x1x64, .f32⟩
  | .hbm, ⟨29, _⟩ => ⟨S64x64, .f32⟩
  | .hbm, ⟨30, _⟩ => ⟨S1x64x1x64, .f32⟩
  | .hbm, ⟨31, _⟩ => ⟨S64x64, .f32⟩
  | .hbm, ⟨32, _⟩ => ⟨S1x64x1x64, .f32⟩
  | .hbm, ⟨33, _⟩ => ⟨S64x64, .f32⟩
  | .hbm, ⟨34, _⟩ => ⟨S1x64x1x64, .f32⟩
  | .hbm, ⟨35, _⟩ => ⟨S64x64, .f32⟩
  | .hbm, ⟨36, _⟩ => ⟨S1x64x1x64, .f32⟩
  | .hbm, ⟨37, _⟩ => ⟨S64x64, .f32⟩
  | .hbm, ⟨38, _⟩ => ⟨S1x64x64, .f32⟩
  | .hbm, ⟨39, _⟩ => ⟨S1x64x64, .f32⟩
  | .hbm, ⟨40, _⟩ => ⟨S1x64x64, .f32⟩
  | .hbm, ⟨41, _⟩ => ⟨S1x64x64, .f32⟩
  | .hbm, ⟨42, _⟩ => ⟨S1x64x64, .f32⟩
  | .hbm, ⟨43, _⟩ => ⟨S1x64x64, .f32⟩
  | .hbm, ⟨44, _⟩ => ⟨S1x64x64, .f32⟩
  | .hbm, ⟨45, _⟩ => ⟨S1x64x64, .f32⟩
  | .hbm, ⟨46, _⟩ => ⟨S1x64x64, .f32⟩
  | .hbm, ⟨47, _⟩ => ⟨S1x64x64, .f32⟩
  | .hbm, ⟨48, _⟩ => ⟨S1x64x64, .f32⟩
  | .hbm, ⟨49, _⟩ => ⟨S1x64x64, .f32⟩
  | .hbm, ⟨50, _⟩ => ⟨S1x64x64, .f32⟩
  | .hbm, ⟨51, _⟩ => ⟨S1x64x64, .f32⟩
  | .hbm, ⟨52, _⟩ => ⟨S1x64x64, .f32⟩
  | .hbm, ⟨53, _⟩ => ⟨S1x64x64, .f32⟩
  | .hbm, ⟨54, _⟩ => ⟨S16x64x64, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S16x64x64 : Shape := ⟨3, ![16, 64, 64]⟩
abbrev S8192x16x64 : Shape := ⟨3, ![8192, 16, 64]⟩
abbrev S16x64x8192 : Shape := ⟨3, ![16, 64, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x64x64, .f32⟩
  | .hbm, ⟨2, _⟩ => ⟨S8192x1024, .f32⟩
  | .hbm, ⟨3, _⟩ => ⟨S8192x16x64, .f32⟩
  | .hbm, ⟨4, _⟩ => ⟨S16x64x8192, .f32⟩
  | .hbm, ⟨5, _⟩ => ⟨S8192x16x64, .f32⟩
  | .hbm, ⟨6, _⟩ => ⟨S8192x1024, .f32⟩
  | .hbm, ⟨7, _⟩ => ⟨S8192x16x64, .f32⟩
  | .hbm, ⟨8, _⟩ => ⟨S16x64x8192, .f32⟩
  | .hbm, ⟨9, _⟩ => ⟨S16x64x64, .f32⟩
  | .hbm, ⟨10, _⟩ => ⟨S16x64x64, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S8192x1024 : Shape := ⟨2, ![8192, 1024]⟩
abbrev S8192x5120 : Shape := ⟨2, ![8192, 5120]⟩
abbrev S512x1024 : Shape := ⟨2, ![512, 1024]⟩

abbrev nBuf : Space → Nat
  | .hbm => 7
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x5120, .f32⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Reference14Ideal.lean ====
abbrev S8192x1024 : Shape := ⟨2, ![8192, 1024]⟩
abbrev S8192x5120 : Shape := ⟨2, ![8192, 5120]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x5120, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | .hbm, ⟨53, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel15.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference15Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel16.lean ====
abbrev S8192x1024 : Shape := ⟨2, ![8192, 1024]⟩
abbrev S1x1024 : Shape := ⟨2, ![1, 1024]⟩
abbrev S1024x128 : Shape := ⟨2, ![1024, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x128, .f32⟩
  | .hbm, ⟨3, _⟩ => ⟨S8192x128, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1x1024 : Shape := ⟨2, ![1, 1024]⟩
abbrev S1024x128 : Shape := ⟨2, ![1024, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x1024 : Shape := ⟨2, ![128, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x128, .f32⟩
  | .hbm, ⟨3, _⟩ => ⟨S8192x128, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x128, .f32⟩
  | .hbm, ⟨20, _⟩ => ⟨S128x1024, .f32⟩
  | .hbm, ⟨21, _⟩ => ⟨S1024x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Mlp.Terms.lean ====
/- The MLP block's quantities, as the reference computes them. -/
module

public import proofs.«01_k».proof.Proof.Gen.Reference2Ideal
public import Idealize.ShloMosaic.Lib.Pipeline.ValueKit

@[expose] public section

noncomputable section

namespace Cert.Mlp

open Cert.Reference2Ideal Cert.Reference2Ideal.Gen Idealize.ShloMosaic Idealize.ShloMosaic.TcCoe Idealize.SL.Sem

/-- The reciprocal root mean square of each row. -/
abbrev scale (x : FVec Ideal S8192x1024 .f32) : FVec Ideal S8192x1 .f32 :=
  Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))

/-- The rows scaled to unit root mean square, before the norm's weight. -/
abbrev unit (x : FVec Ideal S8192x1024 .f32) : FVec Ideal S8192x1024 .f32 :=
  mulf x (broadcastInDim S8192x1024 ![0, 1] bcast_S8192x1_S8192x1024_0_1 (scale x))

/-- The normalised rows. -/
abbrev normed (x : FVec Ideal S8192x1024 .f32) (g : FVec Ideal S1x1024 .f32) : FVec Ideal S8192x1024 .f32 :=
  mulf (unit x) (broadcastInDim S8192x1024 ![0, 1] bcast_S1x1024_S8192x1024_0_1 g)

/-- The first weight, its shards' columns side by side. -/
abbrev columns (w : FVec Ideal S4x1024x1024 .f32) : FVec Ideal S1024x4096 .f32 :=
  shapeCast S1024x4096 (transpose S1024x4x1024 [1, 0, 2] w transposes_S4x1024x1024_S1024x4x1024_1_0_2) shapeCasts_S1024x4x1024_S1024x4096

/-- The hidden layer before its activation, of the normalised rows `h`. -/
abbrev pre (h : FVec Ideal S8192x1024 .f32) (w : FVec Ideal S4x1024x1024 .f32) : FVec Ideal S8192x4096 .f32 :=
  Host.dotGeneral dot_S8192x1024_S1024x4096_S8192x4096_1_0_0_1_n_n none h (columns w)

/-- The positive part. -/
abbrev pos (a : FVec Ideal S8192x4096 .f32) : FVec Ideal S8192x4096 .f32 :=
  maximumf a (broadcastInDim S8192x4096 ![] bcast_S_S8192x4096 (constant S_ .f32 0x00000000#32))

/-- The activation: the positive part's square. -/
abbrev act (a : FVec Ideal S8192x4096 .f32) : FVec Ideal S8192x4096 .f32 := mulf (pos a) (pos a)

/-- The hidden layer's gradient before the activation: the incoming gradient `d` through the second weight, times the activation's slope. -/
abbrev slope (d : FVec Ideal S8192x1024 .f32) (a : FVec Ideal S8192x4096 .f32) (w : FVec Ideal S4096x1024 .f32) : FVec Ideal S8192x4096 .f32 :=
  select (cmpf .ogt a (broadcastInDim S8192x4096 ![] bcast_S_S8192x4096 (constant S_ .f32 0x00000000#32)))
    (mulf (Host.dotGeneral dot_S8192x1024_S4096x1024_S8192x4096_1_1_0_0_n_n none d w) (mulf (broadcastInDim S8192x4096 ![] bcast_S_S8192x4096 (constant S_ .f32 0x40000000#32)) (pos a)))
    (broadcastInDim S8192x4096 ![] bcast_S_S8192x4096 (constant S_ .f32 0x00000000#32))

/-- The mean square of each row, with the constant that keeps it from zero. -/
abbrev level (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The normalised rows' gradient, of the hidden layer's gradient `e`. -/
abbrev back (e : FVec Ideal S8192x4096 .f32) (w : FVec Ideal S4x1024x1024 .f32) : FVec Ideal S8192x1024 .f32 :=
  Host.dotGeneral dot_S8192x4096_S1024x4096_S8192x1024_1_1_0_0_n_n none e (columns w)

/-- What each row's mean square receives, of the gradient `u` of the rows scaled to unit root mean square. -/
abbrev pull (x u : FVec Ideal S8192x1024 .f32) : FVec Ideal S8192x1024 .f32 :=
  broadcastInDim S8192x1024 ![0] bcast_S8192_S8192x1024_0 (Host.reduceAdd (Host.divf (mulf (shapeCast S8192x1 (Host.reduceAdd (mulf x u) (constant S_ .f32 0x00000000#32) reducesTo_S8192x1024_S8192_d1 h_S_) shapeCasts_S8192_S8192x1) (mulf (broadcastInDim S8192x1 ![] bcast_S_S8192x1 (constant S_ .f32 0xBF000000#32)) (Host.divf (scale x) (level x)))) (broadcastInDim S8192x1 ![] bcast_S_S8192x1 (constant S_ .f32 0x44800000#32))) (constant S_ .f32 0x00000000#32) reducesTo_S8192x1_S8192_d1 h_S_)

/-- The block's input gradient, of the incoming gradient `d` and the normalised rows' gradient `e`. -/
abbrev gradInput (x : FVec Ideal S8192x1024 .f32) (g : FVec Ideal S1x1024 .f32) (d e : FVec Ideal S8192x1024 .f32) : FVec Ideal S8192x1024 .f32 :=
  addf (addf (addf d (mulf (mulf e (broadcastInDim S8192x1024 ![0, 1] bcast_S1x1024_S8192x1024_0_1 g)) (broadcastInDim S8192x1024 ![0, 1] bcast_S8192x1_S8192x1024_0_1 (scale x))))
    (mulf x (pull x (mulf e (broadcastInDim S8192x1024 ![0, 1] bcast_S1x1024_S8192x1024_0_1 g)))))
    (mulf (pull x (mulf e (broadcastInDim S8192x1024 ![0, 1] bcast_S1x1024_S8192x1024_0_1 g))) x)

/-- The norm's weight gradient. -/
abbrev gradNorm (x e : FVec Ideal S8192x1024 .f32) : FVec Ideal S1x1024 .f32 :=
  shapeCast S1x1024 (Host.reduceAdd (mulf (unit x) e) (constant S_ .f32 0x00000000#32) reducesTo_S8192x1024_S1024_d0 h_S_) shapeCasts_S1024_S1x1024

end Cert.Mlp

end
-- ==== Proof.Mlp.Hidden.lean ====
/- The MLP block's norm, first product and hidden gradient: what the three calls leave, as the reference's terms. -/
module

public import proofs.«01_k».proof.Proof.Gen.Kernel2Ideal.Frame
public import proofs.«01_k».proof.Proof.Mlp.Terms
public import Idealize.ShloMosaic.Lib.Pipeline.ValueKit

@[expose] public section

set_option maxRecDepth 16384

noncomputable section

namespace Cert.Grad

open Cert.Kernel2Ideal Cert.Kernel2Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The norm's blocks at every grid point. -/
theorem idx_norm : ∀ t : Fin cfg0.N, win0_0.index t = ![t.val, 0] ∧ win0_1.index t = ![0, 0] ∧ win0_2.index t = ![t.val, 0] :=
  (by decide +kernel : ∀ t : Fin grid0.N, _)

/-- The first product's blocks at every grid point. -/
theorem idx_up : ∀ t : Fin cfg1.N, win1_0.index t = ![t.val / 4, 0] ∧ win1_1.index t = ![t.val % 4, 0, 0] ∧ win1_2.index t = ![t.val / 4, t.val % 4] :=
  (by decide +kernel : ∀ t : Fin grid1.N, _)

/-- The hidden gradient's blocks at every grid point. -/
theorem idx_slope : ∀ t : Fin cfg2.N, win2_0.index t = ![t.val / 4, 0] ∧ win2_1.index t = ![t.val % 4, 0] ∧ win2_2.index t = ![t.val / 4, t.val % 4] ∧ win2_3.index t = ![t.val / 4, t.val % 4] :=
  (by decide +kernel : ∀ t : Fin grid2.N, _)

/-- The norm's call leaves the normalised rows. -/
theorem norm_final (c : Dev nD) : (dat0 V c).arrAt 2 cfg0.N = Mlp.normed (V c main_arg0) (V c main_arg1) := by
  refine (dat0 V c).arrAt_eq_of_covers 2 _ (by decide +kernel) fun t hf y => ?_
  blk_simp
  rw [after0_2]
  frame_out
  pointwise [k0_pay1, Mlp.normed]
  blk_point [iblk0, idx_norm t]

/-- The first product's call leaves the hidden layer before its activation. -/
theorem up_final (c : Dev nD) : (dat1 V c).arrAt 2 cfg1.N = Mlp.pre (V c main_v2) (V c main_v0) := by
  refine (dat1 V c).arrAt_eq_of_covers 2 _ (by decide +kernel) fun t hf y => ?_
  blk_simp
  rw [after1_2]
  frame_out
  pointwise [k1_pay1, k1_pay2, Mlp.pre]
  blk_point [iblk1, idx_up t]

/-- The activation's slope needs no case: where the value is not positive, its positive part is zero. -/
theorem slope_eq (p w a : EReal) : p * (w * max a 0) = if 0 < a then p * (w * max a 0) else 0 := by
  split
  · rfl
  · rw [max_eq_right (not_lt.mp ‹_›), mul_zero, mul_zero]

/-- The hidden gradient's call leaves the reference's. -/
theorem slope_final (c : Dev nD) : (dat2 V c).arrAt 3 cfg2.N = Mlp.slope (V c main_arg4) (V c main_v3_0) (V c main_v1) := by
  refine (dat2 V c).arrAt_eq_of_covers 3 _ (by decide +kernel) fun t hf y => ?_
  blk_simp
  rw [after2_3]
  frame_out
  pointwise [k2_pay1, Mlp.slope]
  rw [slope_eq]
  blk_point [iblk2, idx_slope t]

end Cert.Grad

end
-- ==== Proof.Mlp.Back.lean ====
/- The MLP block's last backward call: what it leaves, as the reference's terms. -/
module

public import proofs.«01_k».proof.Proof.Gen.Kernel2Ideal.Frame
public import proofs.«01_k».proof.Proof.Mlp.Terms
public import Idealize.ShloMosaic.Lib.Pipeline.ValueKit

@[expose] public section

set_option maxRecDepth 16384

noncomputable section

namespace Cert.Grad

open Cert.Kernel2Ideal Cert.Kernel2Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The hidden gradient's blocks, one per shard, at every grid point. -/
theorem idx_parts : ∀ t : Fin cfg3.N, win3_0.index t = ![t.val, 0] ∧ win3_1.index t = ![t.val, 1] ∧ win3_2.index t = ![t.val, 2] ∧ win3_3.index t = ![t.val, 3] :=
  (by decide +kernel : ∀ t : Fin grid3.N, _)

/-- The first weight's shards at every grid point. -/
theorem idx_shards : ∀ t : Fin cfg3.N, win3_4.index t = ![0, 0, 0] ∧ win3_5.index t = ![1, 0, 0] ∧ win3_6.index t = ![2, 0, 0] ∧ win3_7.index t = ![3, 0, 0] :=
  (by decide +kernel : ∀ t : Fin grid3.N, _)

/-- The rows' and the results' blocks at every grid point. -/
theorem idx_rows : ∀ t : Fin cfg3.N, win3_8.index t = ![t.val, 0] ∧ win3_9.index t = ![0, 0] ∧ win3_10.index t = ![t.val, 0] ∧ win3_11.index t = ![t.val, 0] ∧ win3_12.index t = ![0, 0] :=
  (by decide +kernel : ∀ t : Fin grid3.N, _)

/-- The block of the normalised rows' gradient at a grid point. -/
abbrev backBlock (c : Dev nD) (t : Fin cfg3.N) : FVec Ideal S512x1024 .f32 :=
  k3_pay1 (F := Ideal) (iblk3 V c 0 t) (iblk3 V c 4 t) (iblk3 V c 1 t) (iblk3 V c 5 t) (iblk3 V c 2 t) (iblk3 V c 6 t) (iblk3 V c 3 t) (iblk3 V c 7 t)

/-- A grid point's number. -/
theorem lt3 (t : Fin cfg3.N) : t.val < 16 := Nat.lt_of_lt_of_eq t.isLt N_3

/-- A row of a grid point's block in the whole array. -/
abbrev rowAt (t : Fin cfg3.N) (p : Fin 512) : Fin 8192 := ⟨t.val * 512 + p.val, by have := lt3 t; omega⟩

/-- The normalised rows' gradient, the sum of four products, is one product over all the hidden layer. -/
theorem backBlock_entry (c : Dev nD) (t : Fin cfg3.N) (p : Fin 512) (q : Fin 1024) :
    (backBlock V c t (ix2 p q) : EReal) = Mlp.back (V c main_v4) (V c main_v0) (ix2 (rowAt t p) q) := by
  pointwise [k3_pay1, Mlp.back]
  refine Eq.trans (b := ∑ s : Fin 4, ∑ k : Fin 1024, ((show FVec Ideal S8192x4096 .f32 from V c main_v4) (ix2 (rowAt t p) ⟨s.val * 1024 + k.val, by omega⟩) * (show FVec Ideal S4x1024x1024 .f32 from V c main_v0) (ix3 s q k) : EReal)) ?_ (Fin.sum_mul_add_congr fun s k hl => ?_)
  · rw [Fin.sum_univ_four]
    refine congrArg₂ (· + ·) (congrArg₂ (· + ·) (congrArg₂ (· + ·) ?_ ?_) ?_) ?_ <;> blk_point [iblk3, idx_parts t, idx_shards t]
  · blk_point []

/-- The rows' block at an entry. -/
theorem rows_entry (c : Dev nD) (t : Fin cfg3.N) (p : Fin 512) (k : Fin 1024) :
    ((show FVec Ideal S512x1024 .f32 from iblk3 V c 8 t) (ix2 p k) : EReal) = (show FVec Ideal S8192x1024 .f32 from V c main_arg0) (ix2 (rowAt t p) k) := by
  blk_point [iblk3, idx_rows t]

/-- The norm's weight's block at an entry. -/
theorem weight_entry (c : Dev nD) (t : Fin cfg3.N) (k : Fin 1024) :
    ((show FVec Ideal S1x1024 .f32 from iblk3 V c 9 t) (ix2 0 k) : EReal) = (show FVec Ideal S1x1024 .f32 from V c main_arg1) (ix2 0 k) := by
  blk_point [iblk3, idx_rows t]

/-- The incoming gradient's block at an entry. -/
theorem incoming_entry (c : Dev nD) (t : Fin cfg3.N) (p : Fin 512) (k : Fin 1024) :
    ((show FVec Ideal S512x1024 .f32 from iblk3 V c 10 t) (ix2 p k) : EReal) = (show FVec Ideal S8192x1024 .f32 from V c main_arg4) (ix2 (rowAt t p) k) := by
  blk_point [iblk3, idx_rows t]

/-- One row's input gradient is the reference's, whatever block the row comes from. -/
theorem input_point (X : FVec Ideal S8192x1024 .f32) (G : FVec Ideal S1x1024 .f32) (Y E : FVec Ideal S8192x1024 .f32) (x y e : FVec Ideal S512x1024 .f32) (g : FVec Ideal S1x1024 .f32) (i : Fin 8192) (p : Fin 512) (q : Fin 1024)
    (hx : ∀ k : Fin 1024, (x (ix2 p k) : EReal) = X (ix2 i k)) (hg : ∀ k : Fin 1024, (g (ix2 0 k) : EReal) = G (ix2 0 k)) (hy : (y (ix2 p q) : EReal) = Y (ix2 i q)) (he : ∀ k : Fin 1024, (e (ix2 p k) : EReal) = E (ix2 i k)) :
    (k3_pay5 (F := Ideal) e x g (k3_pay2 x) (Scalar.ofBits .f32 0x44800000#32) y (ix2 p q) : EReal) = Mlp.gradInput X G Y E (ix2 i q) := by
  pointwise [k3_pay5, k3_pay4, k3_pay3, k3_pay2, Mlp.gradInput]
  simp only [hx, hg, hy, he]
  refine (add_comm _ _).trans ?_
  rw [← add_assoc, ← add_assoc]

/-- The sum of a block's rows, each scaled and times its gradient, that the norm's weight receives. -/
abbrev part (x e : FVec Ideal S512x1024 .f32) (q : Fin 1024) : EReal :=
  ∑ r : Fin 512, (x (ix2 r q) * Ideal.rsqrt (Ideal.div (∑ k : Fin 1024, (x (ix2 r k) * x (ix2 r k) : EReal)) (Ideal.ofBits .f32 0x44800000#32) + Ideal.ofBits .f32 0x358637BD#32) * e (ix2 r q) : EReal)

/-- One step of the norm's weight gradient. -/
theorem step_entry (acc : FVec Ideal S1x1024 .f32) (x e : FVec Ideal S512x1024 .f32) (j : S1x1024.Idx) :
    (k3_pay7 (F := Ideal) e x (k3_pay2 x) (Scalar.ofBits .f32 0x44800000#32) acc j : EReal) = acc j + part x e (j 1) := by
  idx_vars j
  pointwise [k3_pay7, k3_pay4, k3_pay3, k3_pay2]

/-- The norm's weight gradient starts at zero. -/
theorem start_entry (j : S1x1024.Idx) : (k3_pay6 (F := Ideal) j : EReal) = 0 := by
  pointwise [k3_pay6]

/-- The reference's gradient of the norm's weight at an entry. -/
theorem gradNorm_entry (X E : FVec Ideal S8192x1024 .f32) (j : S1x1024.Idx) :
    (Mlp.gradNorm X E j : EReal) = ∑ r : Fin 8192, (X (ix2 r (j 1)) * Ideal.rsqrt (Ideal.div (∑ k : Fin 1024, (X (ix2 r k) * X (ix2 r k) : EReal)) (Ideal.ofBits .f32 0x44800000#32) + Ideal.ofBits .f32 0x358637BD#32) * E (ix2 r (j 1)) : EReal) := by
  idx_vars j
  pointwise [Mlp.gradNorm]

/-- One row's summand of the norm's weight gradient. -/
abbrev term (X E : FVec Ideal S8192x1024 .f32) (i : Fin 8192) (q : Fin 1024) : EReal :=
  (X (ix2 i q) * Ideal.rsqrt (Ideal.div (∑ k : Fin 1024, (X (ix2 i k) * X (ix2 i k) : EReal)) (Ideal.ofBits .f32 0x44800000#32) + Ideal.ofBits .f32 0x358637BD#32) * E (ix2 i q) : EReal)

/-- A block's summand is the whole array's. -/
theorem part_term (c : Dev nD) (t : Fin cfg3.N) (r : Fin 512) (q : Fin 1024) :
    ((show FVec Ideal S512x1024 .f32 from iblk3 V c 8 t) (ix2 r q) * Ideal.rsqrt (Ideal.div (∑ k : Fin 1024, ((show FVec Ideal S512x1024 .f32 from iblk3 V c 8 t) (ix2 r k) * (show FVec Ideal S512x1024 .f32 from iblk3 V c 8 t) (ix2 r k) : EReal)) (Ideal.ofBits .f32 0x44800000#32) + Ideal.ofBits .f32 0x358637BD#32) * backBlock V c t (ix2 r q) : EReal)
      = term (V c main_arg0) (Mlp.back (V c main_v4) (V c main_v0)) (rowAt t r) q := by
  rw [backBlock_entry V c]
  simp only [rows_entry V c]

/-- What a grid point leaves in the input gradient's block. -/
theorem outs_input (c : Dev nD) (t : Fin cfg3.N) :
    (outsAt3 V c t.val t.isLt).1 = k3_pay5 (F := Ideal) (backBlock V c t) (iblk3 V c 8 t) (iblk3 V c 9 t) (k3_pay2 (iblk3 V c 8 t)) (Scalar.ofBits .f32 0x44800000#32) (iblk3 V c 10 t) := by
  by_cases h : t.val % 16 = 0
  · rw [outsAt3_A V c t h]
    frame_out
  · rw [outsAt3_B V c t h]
    frame_out

/-- The call's first result: the block's input gradient. -/
theorem input_final (c : Dev nD) : (dat3 V c).arrAt 11 cfg3.N = Mlp.gradInput (V c main_arg0) (V c main_arg1) (V c main_arg4) (Mlp.back (V c main_v4) (V c main_v0)) := by
  refine (dat3 V c).arrAt_eq_of_covers 11 _ (by decide +kernel) fun t hf y => ?_
  blk_simp
  rw [after3_11, outs_input]
  idx_vars y
  refine (input_point (V c main_arg0) (V c main_arg1) (V c main_arg4) (Mlp.back (V c main_v4) (V c main_v0)) _ _ _ _ (rowAt t _) _ _
    (fun k => rows_entry V c t _ k) (fun k => weight_entry V c t k) (incoming_entry V c t _ _) (fun k => backBlock_entry V c t _ k)).trans ?_
  blk_point [idx_rows t]

/-- The call's second result: the norm's weight gradient. -/
theorem norm_weight_final (c : Dev nD) : (dat3 V c).arrAt 12 cfg3.N = Mlp.gradNorm (V c main_arg0) (Mlp.back (V c main_v4) (V c main_v0)) := by
  refine (dat3 V c).arrAt_eq_of_covers 12 _ (by decide +kernel) fun t hf y => ?_
  blk_simp
  rw [after3_12, Pipeline.eq_sum_fin_of_reset_step_apply_of_flush (fun n h => (outsAt3 V c n h).2) 16 (fun _ => (0 : EReal))
    (fun p j => part (iblk3 V c 8 p) (backBlock V c p) (j 1))
    (fun t h j => by rw [outsAt3_A V c t h]; frame_out; exact (step_entry _ _ _ _).trans (congrArg (· + _) (start_entry _)))
    (fun t h j => by rw [outsAt3_B V c t h]; frame_out; exact step_entry _ _ _ _)
    t ((flush3_12 t).mp hf) _, zero_add, gradNorm_entry]
  refine Fin.sum_mul_add_congr fun s k hl => ?_
  have ht := lt3 t
  have hm := (flush3_12 t).mp hf
  refine (part_term V c ⟨_, Pipeline.run_point_lt_of_flush t hm s⟩ k (y 1)).trans (congrArg₂ (term (V c main_arg0) (Mlp.back (V c main_v4) (V c main_v0))) (Fin.ext ?_) (Fin.ext ?_))
  · show (16 * (t.val / 16) + s.val) * 512 + k.val = s.val * 512 + k.val
    omega
  · blk_simp [idx_rows t]

end Cert.Grad

end
-- ==== Proof.Mlp.GradRun.lean ====
/- The MLP block's backward calls in order: their run, and what their two results hold. -/
module

public import proofs.«01_k».proof.Proof.Mlp.Hidden
public import proofs.«01_k».proof.Proof.Mlp.Back

@[expose] public section

set_option maxRecDepth 16384

noncomputable section

namespace Cert.Grad

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The four calls run to their end, and every array then holds what the last of them leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The run with its two results named and its arguments as launched. -/
theorem run : θ_run defs (onTc (τ := τ) (main (F := F))) ⟨m, fun _ => 0, ρ⟩ (fun r => ∀ c : Dev nD,
      r.2.mem ((c.tc : Thread nD τ).loc main_v5_0) = (dat3 (V4 m ρ) c).arrAt 11 cfg3.N
      ∧ r.2.mem ((c.tc : Thread nD τ).loc main_v5_1) = (dat3 (V4 m ρ) c).arrAt 12 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5_0 (by decide))).trans (W5_arr m ρ c 11),
     (h c _ (mem_uc main_v5_1 (by decide))).trans (W5_arr m ρ c 12),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Run

section Arrays

variable (m : (ℓ : Loc nD τ sig) → Buf (Elt Ideal) ℓ) (ρ : Dev nD → PrngReg)

/-- The first weight the calls are given: the argument, its format changed. -/
theorem first_weight (c : Dev nD) : (V1 m ρ c main_v0 : FVec Ideal S4x1024x1024 .bf16) = truncf (F := Ideal) (s := S4x1024x1024) (φ := .f32) .bf16 (m ((c : Thread nD τ).loc main_arg2)) bitsLt_bf16_f32 := by
  show StableHlo.after hostOps0 (W0 m ρ c) _ = _
  after_results

/-- The second weight the calls are given: the argument, its format changed. -/
theorem second_weight (c : Dev nD) : (V1 m ρ c main_v1 : FVec Ideal S4096x1024 .bf16) = truncf (F := Ideal) (s := S4096x1024) (φ := .f32) .bf16 (m ((c : Thread nD τ).loc main_arg3)) bitsLt_bf16_f32 := by
  show StableHlo.after hostOps0 (W0 m ρ c) _ = _
  after_results

/-- The normalised rows, after the first call. -/
theorem rows_at2 (c : Dev nD) : V2 m ρ c main_v2 = Mlp.normed (m ((c : Thread nD τ).loc main_arg0)) (m ((c : Thread nD τ).loc main_arg1)) := by
  refine (W2_arr m ρ c 2).trans ((norm_final (V1 m ρ) c).trans ?_)
  rw [show V1 m ρ c main_arg0 = _ from W1_args m ρ c main_arg0 (by decide), show V1 m ρ c main_arg1 = _ from W1_args m ρ c main_arg1 (by decide)]

/-- The hidden layer before its activation, after the second call. -/
theorem hidden_at3 (c : Dev nD) : V3 m ρ c main_v3_0 = Mlp.pre (Mlp.normed (m ((c : Thread nD τ).loc main_arg0)) (m ((c : Thread nD τ).loc main_arg1))) (m ((c : Thread nD τ).loc main_arg2)) := by
  refine (W3_arr m ρ c 2).trans ((up_final (V2 m ρ) c).trans ?_)
  rw [rows_at2, show V2 m ρ c main_v0 = _ from W2_of m ρ c main_v0 (by decide), show W1 m ρ c (Proc.devRef .tc main_v0) = _ from first_weight m ρ c]
  rfl

/-- The hidden layer's gradient, after the third call. -/
theorem slope_at4 (c : Dev nD) : V4 m ρ c main_v4 = Mlp.slope (m ((c : Thread nD τ).loc main_arg4)) (Mlp.pre (Mlp.normed (m ((c : Thread nD τ).loc main_arg0)) (m ((c : Thread nD τ).loc main_arg1))) (m ((c : Thread nD τ).loc main_arg2))) (m ((c : Thread nD τ).loc main_arg3)) := by
  refine (W4_arr m ρ c 3).trans ((slope_final (V3 m ρ) c).trans ?_)
  rw [hidden_at3, show V3 m ρ c main_arg4 = _ from W3_args m ρ c main_arg4 (by decide), show V3 m ρ c main_v1 = _ from W3_of m ρ c main_v1 (by decide), show W2 m ρ c (Proc.devRef .tc main_v1) = _ from W2_of m ρ c main_v1 (by decide), show W1 m ρ c (Proc.devRef .tc main_v1) = _ from second_weight m ρ c]
  rfl

/-- The first weight, before the last call. -/
theorem first_weight_at4 (c : Dev nD) : V4 m ρ c main_v0 = truncf (F := Ideal) (s := S4x1024x1024) (φ := .f32) .bf16 (m ((c : Thread nD τ).loc main_arg2)) bitsLt_bf16_f32 :=
  (W4_of m ρ c main_v0 (by decide)).trans ((W3_of m ρ c main_v0 (by decide)).trans ((W2_of m ρ c main_v0 (by decide)).trans (first_weight m ρ c)))

end Arrays

end Cert.Grad

end
-- ==== Proof.Mlp.GradClaim.lean ====
/- The MLP block's input gradient and its norm's weight gradient: the kernel's are the reference's. -/
module

public import proofs.«01_k».proof.Defs
public import proofs.«01_k».proof.Proof.Mlp.GradRun
public import proofs.«01_k».proof.Proof.Gen.Reference2Ideal.Run

@[expose] public section

set_option maxRecDepth 16384

noncomputable section

namespace Cert.Grad

open Cert.Kernel2Ideal Cert.Kernel2Ideal.Gen Idealize.ShloMosaic Idealize.ShloMosaic.TcCoe Idealize.SL.Sem

/-- The incoming gradient reshaped to its own shape is itself. -/
theorem incoming_same (d : FVec Ideal S8192x1024 .f32) : shapeCast S8192x1024 d Cert.Reference2Ideal.Gen.shapeCasts_S8192x1024_S8192x1024 = d :=
  shapeCast_self (s := S8192x1024) d Cert.Reference2Ideal.Gen.shapeCasts_S8192x1024_S8192x1024

/-- The block's input gradient and its norm's weight gradient, on real numbers: the kernel's calls leave the reference's. -/
theorem algebraic : Cert.algebraic_Kernel2Ideal_Reference2Ideal (hKernel2Ideal := Cert.Kernel2Ideal.Gen.facts) (hReference2Ideal := Cert.Reference2Ideal.Gen.facts) := by
  intro m ρ m' ρ' _ hargs
  refine ⟨fun c => (dat3 (V4 m ρ) c).arrAt 11 cfg3.N, fun c => (dat3 (V4 m ρ) c).arrAt 12 cfg3.N, (θ_run _ _ _).mono (fun _ h => h) (run m ρ),
    (θ_run _ _ _).mono (fun r h c => ?_) (Cert.Reference2Ideal.Value.run (F := Ideal) m' ρ')⟩
  obtain ⟨h0, h1, ha⟩ := h c
  obtain ⟨e0, e1, e2, e3, e4⟩ := hargs c
  refine ⟨h0.trans ?_, h1.trans ?_, ha⟩
  · show _ = (dat3 (V4 m ρ) c).arrAt 11 cfg3.N
    unfold Cert.Reference2Ideal.Value.res_main_v58
    rw [input_final, slope_at4, first_weight_at4, show V4 m ρ c main_arg0 = _ from W4_args m ρ c main_arg0 (by decide), show V4 m ρ c main_arg1 = _ from W4_args m ρ c main_arg1 (by decide), show V4 m ρ c main_arg4 = _ from W4_args m ρ c main_arg4 (by decide), e0, e1, e2, e3, e4, incoming_same]
    rfl
  · show _ = (dat3 (V4 m ρ) c).arrAt 12 cfg3.N
    rw [norm_weight_final, slope_at4, first_weight_at4, show V4 m ρ c main_arg0 = _ from W4_args m ρ c main_arg0 (by decide), e0, e1, e2, e3, e4, incoming_same]
    rfl

end Cert.Grad

end
-- ==== Proof.Mlp.Dw2.lean ====
/- The MLP block's gradient of its second weight: what the call leaves, as one product. -/
module

public import proofs.«01_k».proof.Proof.Gen.Kernel3Ideal.Value
public import proofs.«01_k».proof.Proof.Gen.Reference3Ideal
public import Idealize.ShloMosaic.Lib.Pipeline.ValueKit

@[expose] public section

set_option maxRecDepth 16384

noncomputable section

namespace Cert.Dw2

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The reference's product, of the hidden layer `R` and the incoming gradient `D`. -/
abbrev prod (R : FVec Ideal S8192x4096 .f32) (D : FVec Ideal S8192x1024 .f32) : FVec Ideal S4096x1024 .f32 :=
  transpose S4096x1024 [1, 0] (Host.dotGeneral Cert.Reference3Ideal.dot_S8192x1024_S8192x4096_S1024x4096_0_0_1_1_n_n none D R)
    Cert.Reference3Ideal.Gen.transposes_S1024x4096_S4096x1024_1_0

/-- The blocks' places at every grid point. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- One step's product at an entry. -/
theorem part_entry (x0 : FVec Ideal S1024x1024 .bf16) (x1 : FVec Ideal S1024x1024 .f32) (p q : Fin 1024) :
    (k0_pay1 (F := Ideal) x0 x1 (ix2 p q) : EReal) = ∑ k : Fin 1024, (x0 (ix2 k p) * x1 (ix2 k q) : EReal) := by
  pointwise [k0_pay1]

/-- The accumulator after the first step of a run. -/
theorem first_entry (x0 : FVec Ideal S1024x1024 .bf16) (x1 : FVec Ideal S1024x1024 .f32) (j : S1024x1024.Idx) :
    (k0_pay2 (F := Ideal) x0 x1 j : EReal) = 0 + ∑ k : Fin 1024, (x0 (ix2 k (j 0)) * x1 (ix2 k (j 1)) : EReal) := by
  idx_vars j
  rw [zero_add]
  pointwise [k0_pay2]
  exact part_entry _ _ _ _

/-- The accumulator after a later step. -/
theorem next_entry (x0 : FVec Ideal S1024x1024 .bf16) (x1 acc : FVec Ideal S1024x1024 .f32) (j : S1024x1024.Idx) :
    (k0_pay3 (F := Ideal) x0 x1 acc j : EReal) = acc j + ∑ k : Fin 1024, (x0 (ix2 k (j 0)) * x1 (ix2 k (j 1)) : EReal) := by
  idx_vars j
  pointwise [k0_pay3]
  exact congrArg _ (part_entry _ _ _ _)

/-- At the last step of a run the call writes out what it has accumulated. -/
theorem out_eq (c : Dev nD) (t : Fin cfg0.N) (h : t.val % 8 = 7) : (outsAt0 m c t.val t.isLt).1 = (outsAt0 m c t.val t.isLt).2 := by
  rw [outsAt0_C m c t (by omega) (by omega) h]
  frame_out

/-- The result array: the hidden layer's transpose times the incoming gradient. -/
theorem final (c : Dev nD) : (dats m 0 c).arrAt 2 cfg0.N = prod (V m c main_v17) (m ((c : Thread nD τ).loc main_arg4)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 8 (fun _ => (0 : EReal))
    (fun p j => ∑ k : Fin 1024, ((show FVec Ideal S1024x1024 .bf16 from iblk m c 0 p) (ix2 k (j 0)) * (show FVec Ideal S1024x1024 .f32 from iblk m c 1 p) (ix2 k (j 1)) : EReal))
    (fun t h j => by rw [outsAt0_A m c t h (by omega) (by omega)]; frame_out; exact first_entry _ _ _)
    (fun t h j => by
      by_cases h7 : t.val % 8 = 7
      · rw [outsAt0_C m c t h (by omega) h7]; frame_out; exact (congrArg (fun a => k0_pay3 _ _ a j) (Memref.IsWhole.read_unread _ _)).trans (next_entry _ _ _ _)
      · rw [outsAt0_B m c t h (by omega) h7]; frame_out; exact (congrArg (fun a => k0_pay3 _ _ a j) (Memref.IsWhole.read_unread _ _)).trans (next_entry _ _ _ _))
    t ((flush0_2 t).mp hf) _, zero_add]
  pointwise [prod]
  refine Fin.sum_mul_add_congr fun s k hl => ?_
  rw [mul_comm]
  blk_point [iblk, idx t, idx ⟨_, Pipeline.run_point_lt_of_flush t ((flush0_2 t).mp hf) s⟩]

end Cert.Dw2

end
-- ==== Proof.Mlp.Dw2Claim.lean ====
/- The MLP block's gradient of its second weight: the kernel's is the reference's. -/
module

public import proofs.«01_k».proof.Defs
public import proofs.«01_k».proof.Proof.Mlp.Dw2
public import proofs.«01_k».proof.Proof.Mlp.Terms
public import proofs.«01_k».proof.Proof.Gen.Reference3Ideal.Run

@[expose] public section

set_option maxRecDepth 16384

noncomputable section

namespace Cert.Dw2

open Cert.Kernel3Ideal Cert.Kernel3Ideal.Gen Idealize.ShloMosaic Idealize.ShloMosaic.TcCoe Idealize.SL.Sem

/-- What the call is given as the hidden layer: the reference's, its format changed. -/
theorem hidden_entry (m : (ℓ : Loc nD τ sig) → Buf (Elt Ideal) ℓ) (c : Dev nD) :
    (V m c main_v17 : FVec Ideal S8192x4096 .bf16) = truncf .bf16 (Mlp.act (Mlp.pre (Mlp.normed (m ((c : Thread nD τ).loc main_arg0)) (m ((c : Thread nD τ).loc main_arg1))) (m ((c : Thread nD τ).loc main_arg2)))) bitsLt_bf16_f32 := by
  entry_read
  rfl

/-- The block's gradient of its second weight, on real numbers: the kernel's call leaves the reference's. -/
theorem algebraic : Cert.algebraic_Kernel3Ideal_Reference3Ideal (hKernel3Ideal := Cert.Kernel3Ideal.Gen.facts) (hReference3Ideal := Cert.Reference3Ideal.Gen.facts) := by
  intro m ρ m' ρ' _ hargs
  refine ⟨fun c => (dats m 0 c).arrAt 2 cfg0.N, (θ_run _ _ _).mono (fun _ h => h) (Value.run_blocks m ρ), (θ_run _ _ _).mono (fun r h c => ?_) (Cert.Reference3Ideal.Value.run (F := Ideal) m' ρ')⟩
  obtain ⟨h0, ha⟩ := h c
  obtain ⟨e0, e1, e2, e3, e4⟩ := hargs c
  refine ⟨h0.trans ?_, ha⟩
  show _ = (dats m 0 c).arrAt 2 cfg0.N
  rw [final m c, hidden_entry m c, e0, e1, e2, e4]
  exact congrArg (prod _) (shapeCast_self (s := S8192x1024) (m ((c : Thread nD τ).loc main_arg4)) Cert.Reference3Ideal.Gen.shapeCasts_S8192x1024_S8192x1024)

end Cert.Dw2

end
-- ==== Proof.Mlp.Dw1.lean ====
/- The MLP block's gradient of its first weight: what the call leaves, as one product. -/
module

public import proofs.«01_k».proof.Proof.Gen.Kernel4Ideal.Value
public import proofs.«01_k».proof.Proof.Gen.Reference4Ideal
public import Idealize.ShloMosaic.Lib.Pipeline.ValueKit

@[expose] public section

set_option maxRecDepth 16384

noncomputable section

namespace Cert.Dw1

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The reference's product, of the normalised rows `H` and the hidden layer's gradient `A`, cut in four shards of columns. -/
abbrev prod (H : FVec Ideal S8192x1024 .f32) (A : FVec Ideal S8192x4096 .f32) : FVec Ideal S4x1024x1024 .f32 :=
  transpose S4x1024x1024 [1, 0, 2] (shapeCast Cert.Reference4Ideal.S1024x4x1024
    (transpose Cert.Reference4Ideal.S1024x4096 [1, 0] (Host.dotGeneral Cert.Reference4Ideal.dot_S8192x4096_S8192x1024_S4096x1024_0_0_1_1_n_n none A H)
      Cert.Reference4Ideal.Gen.transposes_S4096x1024_S1024x4096_1_0)
    Cert.Reference4Ideal.Gen.shapeCasts_S1024x4096_S1024x4x1024) Cert.Reference4Ideal.Gen.transposes_S1024x4x1024_S4x1024x1024_1_0_2

/-- The blocks' places at every grid point. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- One step's product at an entry. -/
theorem part_entry (x0 x1 : FVec Ideal S2048x1024 .bf16) (p q : Fin 1024) :
    (k0_pay1 (F := Ideal) x0 x1 (ix2 p q) : EReal) = ∑ k : Fin 2048, (x0 (ix2 k p) * x1 (ix2 k q) : EReal) := by
  pointwise [k0_pay1]

/-- The accumulator after the first step of a run. -/
theorem first_entry (x0 x1 : FVec Ideal S2048x1024 .bf16) (j : S1024x1024.Idx) :
    (k0_pay2 (F := Ideal) x0 x1 j : EReal) = 0 + ∑ k : Fin 2048, (x0 (ix2 k (j 0)) * x1 (ix2 k (j 1)) : EReal) := by
  idx_vars j
  rw [zero_add]
  pointwise [k0_pay2]
  exact part_entry _ _ _ _

/-- The accumulator after a later step. -/
theorem next_entry (x0 x1 : FVec Ideal S2048x1024 .bf16) (acc : FVec Ideal S1024x1024 .f32) (j : S1024x1024.Idx) :
    (k0_pay3 (F := Ideal) x0 x1 acc j : EReal) = acc j + ∑ k : Fin 2048, (x0 (ix2 k (j 0)) * x1 (ix2 k (j 1)) : EReal) := by
  idx_vars j
  pointwise [k0_pay3]
  exact congrArg _ (part_entry _ _ _ _)

/-- At the last step of a run the call writes out what it has accumulated. -/
theorem out_eq (c : Dev nD) (t : Fin cfg0.N) (h : t.val % 4 = 3) (s : Fin 1) (p q : Fin 1024) :
    ((outsAt0 m c t.val t.isLt).1 (ix3 s p q) : EReal) = (outsAt0 m c t.val t.isLt).2 (ix2 p q) := by
  rw [outsAt0_C m c t (by omega) (by omega) h]
  frame_out
  pointwise [k0_pay4]

/-- The result array: the normalised rows' transpose times the hidden layer's gradient. -/
theorem final (c : Dev nD) : (dats m 0 c).arrAt 2 cfg0.N = prod (V m c main_v23) (V m c main_v28) := by
  refine (dats m 0 c).arrAt_eq_of_covers 2 _ (by decide +kernel) fun t hf y => ?_
  idx_vars y
  blk_simp
  rw [after0_2, out_eq m c t ((flush0_2 t).mp hf), Pipeline.eq_sum_fin_of_reset_step_apply_of_flush (fun n h => (outsAt0 m c n h).2) 4 (fun _ => (0 : EReal))
    (fun p j => ∑ k : Fin 2048, ((show FVec Ideal S2048x1024 .bf16 from iblk m c 0 p) (ix2 k (j 0)) * (show FVec Ideal S2048x1024 .bf16 from iblk m c 1 p) (ix2 k (j 1)) : EReal))
    (fun t h j => by rw [outsAt0_A m c t h (by omega) (by omega)]; frame_out; exact first_entry _ _ _)
    (fun t h j => by
      by_cases h7 : t.val % 4 = 3
      · rw [outsAt0_C m c t h (by omega) h7]; frame_out; exact (congrArg (fun a => k0_pay3 _ _ a j) (Memref.IsWhole.read_unread _ _)).trans (next_entry _ _ _ _)
      · rw [outsAt0_B m c t h (by omega) h7]; frame_out; exact (congrArg (fun a => k0_pay3 _ _ a j) (Memref.IsWhole.read_unread _ _)).trans (next_entry _ _ _ _))
    t ((flush0_2 t).mp hf) _, zero_add]
  pointwise [prod]
  refine Fin.sum_mul_add_congr fun s k hl => ?_
  rw [mul_comm]
  blk_point [iblk, idx t, idx ⟨_, Pipeline.run_point_lt_of_flush t ((flush0_2 t).mp hf) s⟩]

end Cert.Dw1

end
-- ==== Proof.Mlp.Dw1Claim.lean ====
/- The MLP block's gradient of its first weight: the kernel's is the reference's. -/
module

public import proofs.«01_k».proof.Defs
public import proofs.«01_k».proof.Proof.Mlp.Dw1
public import proofs.«01_k».proof.Proof.Mlp.Terms
public import proofs.«01_k».proof.Proof.Gen.Reference4Ideal.Run

@[expose] public section

set_option maxRecDepth 16384

noncomputable section

namespace Cert.Dw1

open Cert.Kernel4Ideal Cert.Kernel4Ideal.Gen Idealize.ShloMosaic Idealize.ShloMosaic.TcCoe Idealize.SL.Sem

/-- What the call is given as the normalised rows: the reference's, their format changed. -/
theorem rows_entry (m : (ℓ : Loc nD τ sig) → Buf (Elt Ideal) ℓ) (c : Dev nD) :
    (V m c main_v23 : FVec Ideal S8192x1024 .bf16) = truncf .bf16 (Mlp.normed (m ((c : Thread nD τ).loc main_arg0)) (m ((c : Thread nD τ).loc main_arg1))) bitsLt_bf16_f32 := by
  entry_read
  rfl

/-- What the call is given as the hidden layer's gradient: the reference's, its format changed. -/
theorem slope_entry (m : (ℓ : Loc nD τ sig) → Buf (Elt Ideal) ℓ) (c : Dev nD) :
    (V m c main_v28 : FVec Ideal S8192x4096 .bf16) = truncf .bf16 (Mlp.slope (m ((c : Thread nD τ).loc main_arg4)) (Mlp.pre (Mlp.normed (m ((c : Thread nD τ).loc main_arg0)) (m ((c : Thread nD τ).loc main_arg1))) (m ((c : Thread nD τ).loc main_arg2))) (m ((c : Thread nD τ).loc main_arg3))) bitsLt_bf16_f32 := by
  entry_read
  rfl

/-- The block's gradient of its first weight, on real numbers: the kernel's call leaves the reference's. -/
theorem algebraic : Cert.algebraic_Kernel4Ideal_Reference4Ideal (hKernel4Ideal := Cert.Kernel4Ideal.Gen.facts) (hReference4Ideal := Cert.Reference4Ideal.Gen.facts) := by
  intro m ρ m' ρ' _ hargs
  refine ⟨fun c => (dats m 0 c).arrAt 2 cfg0.N, (θ_run _ _ _).mono (fun _ h => h) (Value.run_blocks m ρ), (θ_run _ _ _).mono (fun r h c => ?_) (Cert.Reference4Ideal.Value.run (F := Ideal) m' ρ')⟩
  obtain ⟨h0, ha⟩ := h c
  obtain ⟨e0, e1, e2, e3, e4⟩ := hargs c
  refine ⟨h0.trans ?_, ha⟩
  show _ = (dats m 0 c).arrAt 2 cfg0.N
  rw [final m c, rows_entry m c, slope_entry m c, e0, e1, e2, e3, e4]
  exact congrArg (fun d => prod (Mlp.normed (m ((c : Thread nD τ).loc main_arg0)) (m ((c : Thread nD τ).loc main_arg1))) (Mlp.slope d (Mlp.pre (Mlp.normed (m ((c : Thread nD τ).loc main_arg0)) (m ((c : Thread nD τ).loc main_arg1))) (m ((c : Thread nD τ).loc main_arg2))) (m ((c : Thread nD τ).loc main_arg3)))) (shapeCast_self (s := S8192x1024) (m ((c : Thread nD τ).loc main_arg4)) Cert.Reference4Ideal.Gen.shapeCasts_S8192x1024_S8192x1024)

end Cert.Dw1

end
-- ==== Proof.Mlp.Down.lean ====
/- The MLP block's second product and its residual: what the call leaves, as one product and one sum. -/
module

public import proofs.«01_k».proof.Proof.Gen.Kernel5Ideal.Value
public import proofs.«01_k».proof.Proof.Gen.Reference5Ideal
public import Idealize.ShloMosaic.Lib.Pipeline.ValueKit

@[expose] public section

set_option maxRecDepth 16384

noncomputable section

namespace Cert.Down

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The reference's product, of the hidden layer `R` and the second weight `W`, and the residual `X`. -/
abbrev prod (X : FVec Ideal S8192x1024 .f32) (R : FVec Ideal S8192x4096 .f32) (W : FVec Ideal S4096x1024 .f32) : FVec Ideal S8192x1024 .f32 :=
  addf X (Host.dotGeneral Cert.Reference5Ideal.dot_S8192x4096_S4096x1024_S8192x1024_1_0_0_1_n_n none R W)

/-- The blocks' places at every grid point. -/
theorem idx : ∀ t : Fin cfg0.N, win0_0.index t = ![t.val / 4, t.val % 4] ∧ win0_1.index t = ![t.val % 4, 0] ∧ win0_2.index t = ![t.val / 4, 0] ∧ win0_3.index t = ![t.val / 4, 0] :=
  (by decide +kernel : ∀ t : Fin grid0.N, _)

/-- One step's product at an entry. -/
theorem part_entry (x0 x1 : FVec Ideal S1024x1024 .bf16) (p q : Fin 1024) :
    (k0_pay1 (F := Ideal) x0 x1 (ix2 p q) : EReal) = ∑ k : Fin 1024, (x0 (ix2 p k) * x1 (ix2 k q) : EReal) := by
  pointwise [k0_pay1]

/-- The accumulator after the first step of a run. -/
theorem first_entry (x0 x1 : FVec Ideal S1024x1024 .bf16) (j : S1024x1024.Idx) :
    (k0_pay2 (F := Ideal) x0 x1 j : EReal) = 0 + ∑ k : Fin 1024, (x0 (ix2 (j 0) k) * x1 (ix2 k (j 1)) : EReal) := by
  idx_vars j
  rw [zero_add]
  pointwise [k0_pay2]
  exact part_entry _ _ _ _

/-- The accumulator after a later step. -/
theorem next_entry (x0 x1 : FVec Ideal S1024x1024 .bf16) (acc : FVec Ideal S1024x1024 .f32) (j : S1024x1024.Idx) :
    (k0_pay3 (F := Ideal) x0 x1 acc j : EReal) = acc j + ∑ k : Fin 1024, (x0 (ix2 (j 0) k) * x1 (ix2 k (j 1)) : EReal) := by
  idx_vars j
  pointwise [k0_pay3]
  exact congrArg _ (part_entry _ _ _ _)

/-- At the last step of a run the call writes out what it has accumulated and the residual's block. -/
theorem out_eq (c : Dev nD) (t : Fin cfg0.N) (h : t.val % 4 = 3) (j : S1024x1024.Idx) :
    ((outsAt0 m c t.val t.isLt).1 j : EReal) = (outsAt0 m c t.val t.isLt).2 j + (show FVec Ideal S1024x1024 .f32 from iblk m c 2 t) j := by
  rw [outsAt0_C m c t (by omega) (by omega) h]
  frame_out
  pointwise [k0_pay4]

/-- The result array: the residual and the hidden layer times the second weight. -/
theorem final (c : Dev nD) : (dats m 0 c).arrAt 3 cfg0.N = prod (m ((c : Thread nD τ).loc main_arg0)) (V m c main_v17) (V m c main_v18) := by
  refine (dats m 0 c).arrAt_eq_of_covers 3 _ (by decide +kernel) fun t hf y => ?_
  blk_simp
  rw [after0_3, out_eq m c t ((flush0_3 t).mp hf), Pipeline.eq_sum_fin_of_reset_step_apply_of_flush (fun n h => (outsAt0 m c n h).2) 4 (fun _ => (0 : EReal))
    (fun p j => ∑ k : Fin 1024, ((show FVec Ideal S1024x1024 .bf16 from iblk m c 0 p) (ix2 (j 0) k) * (show FVec Ideal S1024x1024 .bf16 from iblk m c 1 p) (ix2 k (j 1)) : EReal))
    (fun t h j => by rw [outsAt0_A m c t h (by omega) (by omega)]; frame_out; exact first_entry _ _ _)
    (fun t h j => by
      by_cases h7 : t.val % 4 = 3
      · rw [outsAt0_C m c t h (by omega) h7]; frame_out; exact (congrArg (fun a => k0_pay3 _ _ a j) (Memref.IsWhole.read_unread _ _)).trans (next_entry _ _ _ _)
      · rw [outsAt0_B m c t h (by omega) h7]; frame_out; exact (congrArg (fun a => k0_pay3 _ _ a j) (Memref.IsWhole.read_unread _ _)).trans (next_entry _ _ _ _))
    t ((flush0_3 t).mp hf) _, zero_add]
  pointwise [prod]
  rw [add_comm]
  refine congrArg₂ (· + ·) ?_ (Fin.sum_mul_add_congr fun s k hl => ?_)
  · blk_point [iblk, idx t]
  · blk_point [iblk, idx t, idx ⟨_, Pipeline.run_point_lt_of_flush t ((flush0_3 t).mp hf) s⟩]

end Cert.Down

end
-- ==== Proof.Mlp.DownClaim.lean ====
/- The MLP block's output: the kernel's is the reference's. -/
module

public import proofs.«01_k».proof.Defs
public import proofs.«01_k».proof.Proof.Mlp.Down
public import proofs.«01_k».proof.Proof.Mlp.Terms
public import proofs.«01_k».proof.Proof.Gen.Reference5Ideal.Run

@[expose] public section

set_option maxRecDepth 16384

noncomputable section

namespace Cert.Down

open Cert.Kernel5Ideal Cert.Kernel5Ideal.Gen Idealize.ShloMosaic Idealize.ShloMosaic.TcCoe Idealize.SL.Sem

/-- What the call is given as the hidden layer: the reference's, its format changed. -/
theorem hidden_entry (m : (ℓ : Loc nD τ sig) → Buf (Elt Ideal) ℓ) (c : Dev nD) :
    (V m c main_v17 : FVec Ideal S8192x4096 .bf16) = truncf .bf16 (Mlp.act (Mlp.pre (Mlp.normed (m ((c : Thread nD τ).loc main_arg0)) (m ((c : Thread nD τ).loc main_arg1))) (m ((c : Thread nD τ).loc main_arg2)))) bitsLt_bf16_f32 := by
  entry_read
  rfl

/-- What the call is given as the second weight: the argument, its format changed. -/
theorem weight_entry (m : (ℓ : Loc nD τ sig) → Buf (Elt Ideal) ℓ) (c : Dev nD) :
    (V m c main_v18 : FVec Ideal S4096x1024 .bf16) = (truncf (F := Ideal) (s := S4096x1024) (φ := .f32) .bf16 (m ((c : Thread nD τ).loc main_arg3)) bitsLt_bf16_f32 : FVec Ideal S4096x1024 .bf16) := by
  entry_read
  rfl

/-- The block's output, on real numbers: the kernel's call leaves the reference's. -/
theorem algebraic : Cert.algebraic_Kernel5Ideal_Reference5Ideal (hKernel5Ideal := Cert.Kernel5Ideal.Gen.facts) (hReference5Ideal := Cert.Reference5Ideal.Gen.facts) := by
  intro m ρ m' ρ' _ hargs
  refine ⟨fun c => (dats m 0 c).arrAt 3 cfg0.N, (θ_run _ _ _).mono (fun _ h => h) (Value.run_blocks m ρ), (θ_run _ _ _).mono (fun r h c => ?_) (Cert.Reference5Ideal.Value.run (F := Ideal) m' ρ')⟩
  obtain ⟨h0, ha⟩ := h c
  obtain ⟨e0, e1, e2, e3⟩ := hargs c
  refine ⟨h0.trans ?_, ha⟩
  show _ = (dats m 0 c).arrAt 3 cfg0.N
  rw [final m c, hidden_entry m c, weight_entry m c, e0, e1, e2, e3]
  rfl

end Cert.Down

end
-- ==== Proof.Mix.Proj.lean ====
/- The mixer's projection, forward and backward: what the three calls leave, as the reference's terms. -/
module

public import proofs.«01_k».proof.Proof.Gen.Kernel6Ideal.Frame
public import proofs.«01_k».proof.Proof.Gen.Reference6Ideal
public import proofs.«01_k».proof.Proof.Mlp.Back
public import Idealize.ShloMosaic.Lib.Pipeline.ValueKit

@[expose] public section

set_option maxRecDepth 16384

noncomputable section

namespace Cert.Proj

open Cert.Kernel6Ideal Cert.Kernel6Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The projection of the normalised rows `h`. -/
abbrev proj (h : FVec Ideal S8192x1024 .f32) (w : FVec Ideal S1024x5120 .f32) : FVec Ideal S8192x5120 .f32 :=
  Host.dotGeneral Cert.Reference6Ideal.dot_S8192x1024_S1024x5120_S8192x5120_1_0_0_1_n_n none h w

/-- The normalised rows' gradient, of the projection's gradient `d`. -/
abbrev back (d : FVec Ideal S8192x5120 .f32) (w : FVec Ideal S1024x5120 .f32) : FVec Ideal S8192x1024 .f32 :=
  Host.dotGeneral Cert.Reference6Ideal.dot_S8192x5120_S1024x5120_S8192x1024_1_1_0_0_n_n none d w

/-- The norm's blocks at every grid point. -/
theorem idx_norm : ∀ t : Fin cfg0.N, win0_0.index t = ![t.val, 0] ∧ win0_1.index t = ![0, 0] ∧ win0_2.index t = ![t.val, 0] :=
  (by decide +kernel : ∀ t : Fin grid0.N, _)

/-- The projection's blocks at every grid point. -/
theorem idx_proj : ∀ t : Fin cfg1.N, win1_0.index t = ![t.val / 5, 0] ∧ win1_1.index t = ![0, t.val % 5] ∧ win1_2.index t = ![t.val / 5, t.val % 5] :=
  (by decide +kernel : ∀ t : Fin grid1.N, _)

/-- The blocks of the projection's gradient, one per part, at every grid point. -/
theorem idx_parts : ∀ t : Fin cfg2.N, win2_0.index t = ![t.val, 0] ∧ win2_1.index t = ![t.val, 0] ∧ win2_2.index t = ![t.val, 0] ∧ win2_3.index t = ![t.val, 0] ∧ win2_4.index t = ![t.val, 0] :=
  (by decide +kernel : ∀ t : Fin grid2.N, _)

/-- The weight's blocks of columns at every grid point. -/
theorem idx_columns : ∀ t : Fin cfg2.N, win2_5.index t = ![0, 0] ∧ win2_6.index t = ![0, 1] ∧ win2_7.index t = ![0, 2] ∧ win2_8.index t = ![0, 3] ∧ win2_9.index t = ![0, 4] :=
  (by decide +kernel : ∀ t : Fin grid2.N, _)

/-- The rows' and the results' blocks at every grid point. -/
theorem idx_rows : ∀ t : Fin cfg2.N, win2_10.index t = ![t.val, 0] ∧ win2_11.index t = ![0, 0] ∧ win2_12.index t = ![t.val, 0] ∧ win2_13.index t = ![t.val, 0] ∧ win2_14.index t = ![0, 0] :=
  (by decide +kernel : ∀ t : Fin grid2.N, _)

/-- The norm's call leaves the normalised rows. -/
theorem norm_final (c : Dev nD) : (dat0 V c).arrAt 2 cfg0.N = Mlp.normed (V c main_arg0) (V c main_arg1) := by
  refine (dat0 V c).arrAt_eq_of_covers 2 _ (by decide +kernel) fun t hf y => ?_
  blk_simp
  rw [after0_2]
  frame_out
  pointwise [k0_pay1, Mlp.normed]
  blk_point [iblk0, idx_norm t]

/-- The projection's call leaves the projection. -/
theorem proj_final (c : Dev nD) : (dat1 V c).arrAt 2 cfg1.N = proj (V c main_v1) (V c main_v0) := by
  refine (dat1 V c).arrAt_eq_of_covers 2 _ (by decide +kernel) fun t hf y => ?_
  blk_simp
  rw [after1_2]
  frame_out
  pointwise [k1_pay1, proj]
  blk_point [iblk1, idx_proj t]

/-- A grid point's number. -/
theorem lt2 (t : Fin cfg2.N) : t.val < 16 := Nat.lt_of_lt_of_eq t.isLt N_2

/-- A row of a grid point's block in the whole array. -/
abbrev rowAt (t : Fin cfg2.N) (p : Fin 512) : Fin 8192 := ⟨t.val * 512 + p.val, by have := lt2 t; omega⟩

/-- Five arrays of 1024 columns are, side by side, the columns of the projection's gradient `D`. -/
structure Parts (a b d e f : FVec Ideal S8192x1024 .bf16) (D : FVec Ideal S8192x5120 .f32) : Prop where
  /-- The first part's columns. -/
  first : ∀ (i : Fin 8192) (k : Fin 1024), (a (ix2 i k) : EReal) = D (ix2 i ⟨0 * 1024 + k.val, by omega⟩)
  /-- The second part's columns. -/
  second : ∀ (i : Fin 8192) (k : Fin 1024), (b (ix2 i k) : EReal) = D (ix2 i ⟨1 * 1024 + k.val, by omega⟩)
  /-- The third part's columns. -/
  third : ∀ (i : Fin 8192) (k : Fin 1024), (d (ix2 i k) : EReal) = D (ix2 i ⟨2 * 1024 + k.val, by omega⟩)
  /-- The fourth part's columns. -/
  fourth : ∀ (i : Fin 8192) (k : Fin 1024), (e (ix2 i k) : EReal) = D (ix2 i ⟨3 * 1024 + k.val, by omega⟩)
  /-- The fifth part's columns. -/
  fifth : ∀ (i : Fin 8192) (k : Fin 1024), (f (ix2 i k) : EReal) = D (ix2 i ⟨4 * 1024 + k.val, by omega⟩)

/-- The five slices of the projection's gradient are its columns. -/
theorem slices_parts (D : FVec Ideal S8192x5120 .f32) : Parts
    (truncf (F := Ideal) (s := S8192x1024) (φ := .f32) .bf16 (extractStridedSlice S8192x1024 ![0, 0] D slices_S8192x5120_S8192x1024_0_0) bitsLt_bf16_f32)
    (truncf (F := Ideal) (s := S8192x1024) (φ := .f32) .bf16 (extractStridedSlice S8192x1024 ![0, 1024] D slices_S8192x5120_S8192x1024_0_1024) bitsLt_bf16_f32)
    (truncf (F := Ideal) (s := S8192x1024) (φ := .f32) .bf16 (extractStridedSlice S8192x1024 ![0, 2048] D slices_S8192x5120_S8192x1024_0_2048) bitsLt_bf16_f32)
    (truncf (F := Ideal) (s := S8192x1024) (φ := .f32) .bf16 (extractStridedSlice S8192x1024 ![0, 3072] D slices_S8192x5120_S8192x1024_0_3072) bitsLt_bf16_f32)
    (truncf (F := Ideal) (s := S8192x1024) (φ := .f32) .bf16 (extractStridedSlice S8192x1024 ![0, 4096] D slices_S8192x5120_S8192x1024_0_4096) bitsLt_bf16_f32) D where
  first := fun i k => by pointwise []
  second := fun i k => by pointwise []
  third := fun i k => by pointwise []
  fourth := fun i k => by pointwise []
  fifth := fun i k => by pointwise []

/-- The sum of five products, one per part, is one product over all the projection's columns. -/
theorem five_products (D : FVec Ideal S8192x5120 .f32) (W : FVec Ideal S1024x5120 .f32) (x0 x1 x2 x3 x4 : FVec Ideal S512x1024 .bf16) (w0 w1 w2 w3 w4 : FVec Ideal S1024x1024 .bf16)
    (i : Fin 8192) (p : Fin 512) (q : Fin 1024)
    (hx0 : ∀ k : Fin 1024, (x0 (ix2 p k) : EReal) = D (ix2 i ⟨0 * 1024 + k.val, by omega⟩)) (hw0 : ∀ k : Fin 1024, (w0 (ix2 q k) : EReal) = W (ix2 q ⟨0 * 1024 + k.val, by omega⟩))
    (hx1 : ∀ k : Fin 1024, (x1 (ix2 p k) : EReal) = D (ix2 i ⟨1 * 1024 + k.val, by omega⟩)) (hw1 : ∀ k : Fin 1024, (w1 (ix2 q k) : EReal) = W (ix2 q ⟨1 * 1024 + k.val, by omega⟩))
    (hx2 : ∀ k : Fin 1024, (x2 (ix2 p k) : EReal) = D (ix2 i ⟨2 * 1024 + k.val, by omega⟩)) (hw2 : ∀ k : Fin 1024, (w2 (ix2 q k) : EReal) = W (ix2 q ⟨2 * 1024 + k.val, by omega⟩))
    (hx3 : ∀ k : Fin 1024, (x3 (ix2 p k) : EReal) = D (ix2 i ⟨3 * 1024 + k.val, by omega⟩)) (hw3 : ∀ k : Fin 1024, (w3 (ix2 q k) : EReal) = W (ix2 q ⟨3 * 1024 + k.val, by omega⟩))
    (hx4 : ∀ k : Fin 1024, (x4 (ix2 p k) : EReal) = D (ix2 i ⟨4 * 1024 + k.val, by omega⟩)) (hw4 : ∀ k : Fin 1024, (w4 (ix2 q k) : EReal) = W (ix2 q ⟨4 * 1024 + k.val, by omega⟩)) :
    (k2_pay2 (F := Ideal) x0 w0 x1 w1 x2 w2 x3 w3 x4 w4 (ix2 p q) : EReal) = back D W (ix2 i q) := by
  pointwise [k2_pay2, back]
  refine Eq.trans (b := ∑ s : Fin 5, ∑ k : Fin 1024, (D (ix2 i ⟨s.val * 1024 + k.val, by omega⟩) * W (ix2 q ⟨s.val * 1024 + k.val, by omega⟩) : EReal)) ?_ (Fin.sum_mul_add_congr fun s k hl => ?_)
  · rw [Fin.sum_univ_five]
    exact congrArg₂ (· + ·) (congrArg₂ (· + ·) (congrArg₂ (· + ·) (congrArg₂ (· + ·)
      (Finset.sum_congr rfl fun k _ => congrArg₂ (· * ·) (hx0 k) (hw0 k)) (Finset.sum_congr rfl fun k _ => congrArg₂ (· * ·) (hx1 k) (hw1 k)))
      (Finset.sum_congr rfl fun k _ => congrArg₂ (· * ·) (hx2 k) (hw2 k))) (Finset.sum_congr rfl fun k _ => congrArg₂ (· * ·) (hx3 k) (hw3 k)))
      (Finset.sum_congr rfl fun k _ => congrArg₂ (· * ·) (hx4 k) (hw4 k))
  · blk_point []

/-- The block of the normalised rows' gradient at a grid point. -/
abbrev backBlock (c : Dev nD) (t : Fin cfg2.N) : FVec Ideal S512x1024 .f32 :=
  k2_pay2 (F := Ideal) (iblk2 V c 0 t) (iblk2 V c 5 t) (iblk2 V c 1 t) (iblk2 V c 6 t) (iblk2 V c 2 t) (iblk2 V c 7 t) (iblk2 V c 3 t) (iblk2 V c 8 t) (iblk2 V c 4 t) (iblk2 V c 9 t)

variable {V} in
/-- The normalised rows' gradient, the sum of five products, is one product over all the projection's columns. -/
theorem backBlock_entry {c : Dev nD} {D : FVec Ideal S8192x5120 .f32} (h : Parts (V c main_v4) (V c main_v6) (V c main_v8) (V c main_v10) (V c main_v12) D) (t : Fin cfg2.N) (p : Fin 512) (q : Fin 1024) :
    (backBlock V c t (ix2 p q) : EReal) = back D (V c main_v0) (ix2 (rowAt t p) q) := by
  exact five_products D (V c main_v0) _ _ _ _ _ _ _ _ _ _ (rowAt t p) p q
    (fun k => Eq.trans (by blk_point [iblk2, idx_parts t]) (h.first (rowAt t p) k)) (fun k => by blk_point [iblk2, idx_columns t])
    (fun k => Eq.trans (by blk_point [iblk2, idx_parts t]) (h.second (rowAt t p) k)) (fun k => by blk_point [iblk2, idx_columns t])
    (fun k => Eq.trans (by blk_point [iblk2, idx_parts t]) (h.third (rowAt t p) k)) (fun k => by blk_point [iblk2, idx_columns t])
    (fun k => Eq.trans (by blk_point [iblk2, idx_parts t]) (h.fourth (rowAt t p) k)) (fun k => by blk_point [iblk2, idx_columns t])
    (fun k => Eq.trans (by blk_point [iblk2, idx_parts t]) (h.fifth (rowAt t p) k)) (fun k => by blk_point [iblk2, idx_columns t])

/-- The rows' block at an entry. -/
theorem rows_entry (c : Dev nD) (t : Fin cfg2.N) (p : Fin 512) (k : Fin 1024) :
    ((show FVec Ideal S512x1024 .f32 from iblk2 V c 10 t) (ix2 p k) : EReal) = (show FVec Ideal S8192x1024 .f32 from V c main_arg0) (ix2 (rowAt t p) k) := by
  blk_point [iblk2, idx_rows t]

/-- The norm's weight's block at an entry. -/
theorem weight_entry (c : Dev nD) (t : Fin cfg2.N) (k : Fin 1024) :
    ((show FVec Ideal S1x1024 .f32 from iblk2 V c 11 t) (ix2 0 k) : EReal) = (show FVec Ideal S1x1024 .f32 from V c main_arg1) (ix2 0 k) := by
  blk_point [iblk2, idx_rows t]

/-- The residual's gradient's block at an entry. -/
theorem incoming_entry (c : Dev nD) (t : Fin cfg2.N) (p : Fin 512) (k : Fin 1024) :
    ((show FVec Ideal S512x1024 .f32 from iblk2 V c 12 t) (ix2 p k) : EReal) = (show FVec Ideal S8192x1024 .f32 from V c main_arg3) (ix2 (rowAt t p) k) := by
  blk_point [iblk2, idx_rows t]

/-- A row's input gradient is written as the MLP block's call writes it. -/
theorem input_same (e x y : FVec Ideal S512x1024 .f32) (g : FVec Ideal S1x1024 .f32) :
    k2_pay6 (F := Ideal) e x g y = Kernel2Ideal.Gen.k3_pay5 (F := Ideal) e x g (Kernel2Ideal.Gen.k3_pay2 x) (Scalar.ofBits .f32 0x44800000#32) y := rfl

/-- A step of the norm's weight gradient is written as the MLP block's call writes it. -/
theorem step_same (e x : FVec Ideal S512x1024 .f32) (a : FVec Ideal S1x1024 .f32) :
    k2_pay1 (F := Ideal) (k2_pay5 e x) a = Kernel2Ideal.Gen.k3_pay7 (F := Ideal) e x (Kernel2Ideal.Gen.k3_pay2 x) (Scalar.ofBits .f32 0x44800000#32) a := rfl

/-- So is its start. -/
theorem start_same : k2_pay7 (F := Ideal) = Kernel2Ideal.Gen.k3_pay6 (F := Ideal) := rfl

variable {V} in
/-- A block's summand of the norm's weight gradient is the whole array's. -/
theorem part_term {c : Dev nD} {D : FVec Ideal S8192x5120 .f32} (h : Parts (V c main_v4) (V c main_v6) (V c main_v8) (V c main_v10) (V c main_v12) D) (t : Fin cfg2.N) (r : Fin 512) (q : Fin 1024) :
    ((show FVec Ideal S512x1024 .f32 from iblk2 V c 10 t) (ix2 r q) * Ideal.rsqrt (Ideal.div (∑ k : Fin 1024, ((show FVec Ideal S512x1024 .f32 from iblk2 V c 10 t) (ix2 r k) * (show FVec Ideal S512x1024 .f32 from iblk2 V c 10 t) (ix2 r k) : EReal)) (Ideal.ofBits .f32 0x44800000#32) + Ideal.ofBits .f32 0x358637BD#32) * backBlock V c t (ix2 r q) : EReal)
      = Grad.term (V c main_arg0) (back D (V c main_v0)) (rowAt t r) q := by
  rw [backBlock_entry h]
  simp only [rows_entry V c]

/-- What a grid point leaves in the input gradient's block. -/
theorem outs_input (c : Dev nD) (t : Fin cfg2.N) :
    (outsAt2 V c t.val t.isLt).1 = k2_pay6 (F := Ideal) (backBlock V c t) (iblk2 V c 10 t) (iblk2 V c 11 t) (iblk2 V c 12 t) := by
  by_cases h : t.val % 16 = 0
  · rw [outsAt2_A V c t h]
    frame_out
  · rw [outsAt2_B V c t h]
    frame_out

variable {V} in
/-- The last call's first result: the layer's input gradient. -/
theorem input_final {c : Dev nD} {D : FVec Ideal S8192x5120 .f32} (h : Parts (V c main_v4) (V c main_v6) (V c main_v8) (V c main_v10) (V c main_v12) D) : (dat2 V c).arrAt 13 cfg2.N = Mlp.gradInput (V c main_arg0) (V c main_arg1) (V c main_arg3) (back D (V c main_v0)) := by
  refine (dat2 V c).arrAt_eq_of_covers 13 _ (by decide +kernel) fun t hf y => ?_
  blk_simp
  rw [after2_13, outs_input, input_same]
  idx_vars y
  refine (Grad.input_point (V c main_arg0) (V c main_arg1) (V c main_arg3) (back D (V c main_v0)) _ _ _ _ (rowAt t _) _ _
    (fun k => rows_entry V c t _ k) (fun k => weight_entry V c t k) (incoming_entry V c t _ _) (fun k => backBlock_entry h t _ k)).trans ?_
  blk_point [idx_rows t]

variable {V} in
/-- The last call's second result: the norm's weight gradient. -/
theorem norm_weight_final {c : Dev nD} {D : FVec Ideal S8192x5120 .f32} (h : Parts (V c main_v4) (V c main_v6) (V c main_v8) (V c main_v10) (V c main_v12) D) : (dat2 V c).arrAt 14 cfg2.N = Mlp.gradNorm (V c main_arg0) (back D (V c main_v0)) := by
  refine (dat2 V c).arrAt_eq_of_covers 14 _ (by decide +kernel) fun t hf y => ?_
  blk_simp
  rw [after2_14, Pipeline.eq_sum_fin_of_reset_step_apply_of_flush (fun n h => (outsAt2 V c n h).2) 16 (fun _ => (0 : EReal))
    (fun p j => Grad.part (iblk2 V c 10 p) (backBlock V c p) (j 1))
    (fun t h j => by rw [outsAt2_A V c t h]; frame_out; exact (congrFun (step_same _ _ _) j).trans ((Grad.step_entry _ _ _ _).trans (congrArg (· + _) ((congrFun start_same j).trans (Grad.start_entry _)))))
    (fun t h j => by rw [outsAt2_B V c t h]; frame_out; exact (congrFun (step_same _ _ _) j).trans (Grad.step_entry _ _ _ _))
    t ((flush2_14 t).mp hf) _, zero_add, Grad.gradNorm_entry]
  refine Fin.sum_mul_add_congr fun s k hl => ?_
  have ht := lt2 t
  have hm := (flush2_14 t).mp hf
  refine (part_term h ⟨_, Pipeline.run_point_lt_of_flush t hm s⟩ k (y 1)).trans (congrArg₂ (Grad.term (V c main_arg0) (back D (V c main_v0))) (Fin.ext ?_) (Fin.ext ?_))
  · show (16 * (t.val / 16) + s.val) * 512 + k.val = s.val * 512 + k.val
    omega
  · blk_simp [idx_rows t]

end Cert.Proj

end
-- ==== Proof.Mix.ProjClaim.lean ====
/- The mixer's projection, its input gradient and its norm's weight gradient: the kernel's are the reference's. -/
module

public import proofs.«01_k».proof.Defs
public import proofs.«01_k».proof.Proof.Mix.Proj
public import proofs.«01_k».proof.Proof.Gen.Reference6Ideal.Run

@[expose] public section

set_option maxRecDepth 16384

noncomputable section

namespace Cert.Proj

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The three calls run to their end, and every array then holds what the last of them leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The run with its three results named and its arguments as launched. -/
theorem run : θ_run defs (onTc (τ := τ) (main (F := F))) ⟨m, fun _ => 0, ρ⟩ (fun r => ∀ c : Dev nD,
      r.2.mem ((c.tc : Thread nD τ).loc main_v2) = (dat1 (V2 m ρ) c).arrAt 2 cfg1.N
      ∧ r.2.mem ((c.tc : Thread nD τ).loc main_v13_0) = (dat2 (V4 m ρ) c).arrAt 13 cfg2.N
      ∧ r.2.mem ((c.tc : Thread nD τ).loc main_v13_1) = (dat2 (V4 m ρ) c).arrAt 14 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v2 (by decide))).trans ((W5_of m ρ c main_v2 (by decide)).trans ((W4_of m ρ c main_v2 (by decide)).trans (W3_arr m ρ c 2))),
     (h c _ (mem_uc main_v13_0 (by decide))).trans (W5_arr m ρ c 13),
     (h c _ (mem_uc main_v13_1 (by decide))).trans (W5_arr m ρ c 14),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Run

variable (m : (ℓ : Loc nD τ sig) → Buf (Elt Ideal) ℓ) (ρ : Dev nD → PrngReg)

/-- The weight the calls are given: the argument, its format changed. -/
theorem weight_at1 (c : Dev nD) : (V1 m ρ c main_v0 : FVec Ideal S1024x5120 .bf16) = truncf (F := Ideal) (s := S1024x5120) (φ := .f32) .bf16 (m ((c : Thread nD τ).loc main_arg2)) bitsLt_bf16_f32 := by
  show StableHlo.after hostOps0 (W0 m ρ c) _ = _
  after_results

/-- The normalised rows, after the first call. -/
theorem rows_at2 (c : Dev nD) : V2 m ρ c main_v1 = Mlp.normed (m ((c : Thread nD τ).loc main_arg0)) (m ((c : Thread nD τ).loc main_arg1)) := by
  refine (W2_arr m ρ c 2).trans ((norm_final (V1 m ρ) c).trans ?_)
  rw [show V1 m ρ c main_arg0 = _ from W1_args m ρ c main_arg0 (by decide), show V1 m ρ c main_arg1 = _ from W1_args m ρ c main_arg1 (by decide)]

/-- The weight, before the last call. -/
theorem weight_at4 (c : Dev nD) : V4 m ρ c main_v0 = truncf (F := Ideal) (s := S1024x5120) (φ := .f32) .bf16 (m ((c : Thread nD τ).loc main_arg2)) bitsLt_bf16_f32 :=
  (W4_of m ρ c main_v0 (by decide)).trans ((W3_of m ρ c main_v0 (by decide)).trans ((W2_of m ρ c main_v0 (by decide)).trans (weight_at1 m ρ c)))

/-- The projection, of the arguments. -/
theorem first (c : Dev nD) : (dat1 (V2 m ρ) c).arrAt 2 cfg1.N = proj (Mlp.normed (m ((c : Thread nD τ).loc main_arg0)) (m ((c : Thread nD τ).loc main_arg1))) (m ((c : Thread nD τ).loc main_arg2)) := by
  rw [proj_final, rows_at2, show V2 m ρ c main_v0 = _ from W2_of m ρ c main_v0 (by decide), show W1 m ρ c (Proc.devRef .tc main_v0) = _ from weight_at1 m ρ c]
  rfl

/-- The projection's gradient, before the last call: the argument. -/
theorem incoming_at3 (c : Dev nD) : W3 m ρ c (Proc.devRef .tc main_arg4) = m ((c : Thread nD τ).loc main_arg4) := W3_args m ρ c main_arg4 (by decide)

/-- The parts the last call is given are the columns of the projection's gradient. -/
theorem parts_at4 (c : Dev nD) : Parts (V4 m ρ c main_v4) (V4 m ρ c main_v6) (V4 m ρ c main_v8) (V4 m ρ c main_v10) (V4 m ρ c main_v12) (m ((c : Thread nD τ).loc main_arg4)) := by
  have h0 : V4 m ρ c main_v4 = truncf (F := Ideal) (s := S8192x1024) (φ := .f32) .bf16 (extractStridedSlice S8192x1024 ![0, 0] (W3 m ρ c (Proc.devRef .tc main_arg4)) slices_S8192x5120_S8192x1024_0_0) bitsLt_bf16_f32 := by
    show StableHlo.after hostOps2 (W3 m ρ c) _ = _; after_results
  have h1 : V4 m ρ c main_v6 = truncf (F := Ideal) (s := S8192x1024) (φ := .f32) .bf16 (extractStridedSlice S8192x1024 ![0, 1024] (W3 m ρ c (Proc.devRef .tc main_arg4)) slices_S8192x5120_S8192x1024_0_1024) bitsLt_bf16_f32 := by
    show StableHlo.after hostOps2 (W3 m ρ c) _ = _; after_results
  have h2 : V4 m ρ c main_v8 = truncf (F := Ideal) (s := S8192x1024) (φ := .f32) .bf16 (extractStridedSlice S8192x1024 ![0, 2048] (W3 m ρ c (Proc.devRef .tc main_arg4)) slices_S8192x5120_S8192x1024_0_2048) bitsLt_bf16_f32 := by
    show StableHlo.after hostOps2 (W3 m ρ c) _ = _; after_results
  have h3 : V4 m ρ c main_v10 = truncf (F := Ideal) (s := S8192x1024) (φ := .f32) .bf16 (extractStridedSlice S8192x1024 ![0, 3072] (W3 m ρ c (Proc.devRef .tc main_arg4)) slices_S8192x5120_S8192x1024_0_3072) bitsLt_bf16_f32 := by
    show StableHlo.after hostOps2 (W3 m ρ c) _ = _; after_results
  have h4 : V4 m ρ c main_v12 = truncf (F := Ideal) (s := S8192x1024) (φ := .f32) .bf16 (extractStridedSlice S8192x1024 ![0, 4096] (W3 m ρ c (Proc.devRef .tc main_arg4)) slices_S8192x5120_S8192x1024_0_4096) bitsLt_bf16_f32 := by
    show StableHlo.after hostOps2 (W3 m ρ c) _ = _; after_results
  rw [h0, h1, h2, h3, h4, incoming_at3]
  exact slices_parts _

/-- The input gradient, of the arguments. -/
theorem second (c : Dev nD) : (dat2 (V4 m ρ) c).arrAt 13 cfg2.N = Mlp.gradInput (m ((c : Thread nD τ).loc main_arg0)) (m ((c : Thread nD τ).loc main_arg1)) (m ((c : Thread nD τ).loc main_arg3)) (back (m ((c : Thread nD τ).loc main_arg4)) (m ((c : Thread nD τ).loc main_arg2))) := by
  rw [input_final (parts_at4 m ρ c), weight_at4, show V4 m ρ c main_arg0 = _ from W4_args m ρ c main_arg0 (by decide), show V4 m ρ c main_arg1 = _ from W4_args m ρ c main_arg1 (by decide), show V4 m ρ c main_arg3 = _ from W4_args m ρ c main_arg3 (by decide)]
  rfl

/-- The norm's weight gradient, of the arguments. -/
theorem third (c : Dev nD) : (dat2 (V4 m ρ) c).arrAt 14 cfg2.N = Mlp.gradNorm (m ((c : Thread nD τ).loc main_arg0)) (back (m ((c : Thread nD τ).loc main_arg4)) (m ((c : Thread nD τ).loc main_arg2))) := by
  rw [norm_weight_final (parts_at4 m ρ c), weight_at4, show V4 m ρ c main_arg0 = _ from W4_args m ρ c main_arg0 (by decide)]
  rfl

/-- The projection, the input gradient and the norm's weight gradient, on real numbers: the kernel's calls leave the reference's. -/
theorem algebraic : Cert.algebraic_Kernel6Ideal_Reference6Ideal (hKernel6Ideal := Cert.Kernel6Ideal.Gen.facts) (hReference6Ideal := Cert.Reference6Ideal.Gen.facts) := by
  intro m ρ m' ρ' _ hargs
  refine ⟨fun c => (dat1 (V2 m ρ) c).arrAt 2 cfg1.N, fun c => (dat2 (V4 m ρ) c).arrAt 13 cfg2.N, fun c => (dat2 (V4 m ρ) c).arrAt 14 cfg2.N, (θ_run _ _ _).mono (fun _ h => h) (run m ρ),
    (θ_run _ _ _).mono (fun r h c => ?_) (Cert.Reference6Ideal.Value.run (F := Ideal) m' ρ')⟩
  obtain ⟨h0, h1, h2, ha⟩ := h c
  obtain ⟨e0, e1, e2, e3, e4⟩ := hargs c
  refine ⟨h0.trans ?_, h1.trans ?_, h2.trans ?_, ha⟩
  · show _ = (dat1 (V2 m ρ) c).arrAt 2 cfg1.N
    rw [first, e0, e1, e2]
  · show _ = (dat2 (V4 m ρ) c).arrAt 13 cfg2.N
    unfold Cert.Reference6Ideal.Value.res_main_v38
    rw [second, e0, e1, e2, e3, e4]
  · show _ = (dat2 (V4 m ρ) c).arrAt 14 cfg2.N
    rw [third, e0, e2, e4]

end Cert.Proj

end
-- ==== Proof.Mix.ProjWeight.lean ====
/- The projection's gradient of 1024 columns of its weight: what the call leaves, as one product. -/
module

public import proofs.«01_k».proof.Proof.Gen.Kernel7Ideal.Value
public import proofs.«01_k».proof.Proof.Gen.Reference7Ideal
public import Idealize.ShloMosaic.Lib.Pipeline.ValueKit

@[expose] public section

set_option maxRecDepth 16384

noncomputable section

namespace Cert.ProjWeight

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The reference's product, of the normalised rows `R` and the columns' incoming gradient `D`. -/
abbrev prod (R D : FVec Ideal S8192x1024 .f32) : FVec Ideal S1024x1024 .f32 :=
  transpose S1024x1024 [1, 0] (Host.dotGeneral Cert.Reference7Ideal.dot_S8192x1024_S8192x1024_S1024x1024_0_0_1_1_n_n none D R)
    Cert.Reference7Ideal.Gen.transposes_S1024x1024_S1024x1024_1_0

/-- The blocks' places at every grid point. -/
theorem idx : ∀ t : Fin cfg0.N, win0_0.index t = ![t.val % 4, 0] ∧ win0_1.index t = ![t.val % 4, 0] ∧ win0_2.index t = ![t.val / 4, 0] :=
  (by decide +kernel : ∀ t : Fin grid0.N, _)

/-- A grid point's number. -/
theorem lt0 (t : Fin cfg0.N) : t.val < 4 := Nat.lt_of_lt_of_eq t.isLt N_0

/-- One step's product at an entry. -/
theorem part_entry (x0 x1 : FVec Ideal S2048x1024 .bf16) (p q : Fin 1024) :
    (k0_pay1 (F := Ideal) x0 x1 (ix2 p q) : EReal) = ∑ k : Fin 2048, (x0 (ix2 k p) * x1 (ix2 k q) : EReal) := by
  pointwise [k0_pay1]

/-- The accumulator after the first step of a run. -/
theorem first_entry (x0 x1 : FVec Ideal S2048x1024 .bf16) (j : S1024x1024.Idx) :
    (k0_pay2 (F := Ideal) x0 x1 j : EReal) = 0 + ∑ k : Fin 2048, (x0 (ix2 k (j 0)) * x1 (ix2 k (j 1)) : EReal) := by
  idx_vars j
  rw [zero_add]
  pointwise [k0_pay2]
  exact part_entry _ _ _ _

/-- The accumulator after a later step. -/
theorem next_entry (x0 x1 : FVec Ideal S2048x1024 .bf16) (acc : FVec Ideal S1024x1024 .f32) (j : S1024x1024.Idx) :
    (k0_pay3 (F := Ideal) x0 x1 acc j : EReal) = acc j + ∑ k : Fin 2048, (x0 (ix2 k (j 0)) * x1 (ix2 k (j 1)) : EReal) := by
  idx_vars j
  pointwise [k0_pay3]
  exact congrArg _ (part_entry _ _ _ _)

/-- At the last step of a run the call writes out what it has accumulated. -/
theorem out_eq (c : Dev nD) (t : Fin cfg0.N) (h : t.val % 4 = 3) : (outsAt0 m c t.val t.isLt).1 = (outsAt0 m c t.val t.isLt).2 := by
  rw [outsAt0_C m c t (by have := lt0 t; omega) (by have := lt0 t; omega) h]
  frame_out

/-- The result array: the normalised rows' transpose times the columns' incoming gradient. -/
theorem final (c : Dev nD) : (dats m 0 c).arrAt 2 cfg0.N = prod (V m c main_v12) (V m c main_v13) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 4 (fun _ => (0 : EReal))
    (fun p j => ∑ k : Fin 2048, ((show FVec Ideal S2048x1024 .bf16 from iblk m c 0 p) (ix2 k (j 0)) * (show FVec Ideal S2048x1024 .bf16 from iblk m c 1 p) (ix2 k (j 1)) : EReal))
    (fun t h j => by rw [outsAt0_A m c t h (by have := lt0 t; omega) (by have := lt0 t; omega)]; frame_out; exact first_entry _ _ _)
    (fun t h j => by
      by_cases h3 : t.val % 4 = 3
      · rw [outsAt0_C m c t h (by have := lt0 t; omega) h3]; frame_out; exact (congrArg (fun a => k0_pay3 _ _ a j) (Memref.IsWhole.read_unread _ _)).trans (next_entry _ _ _ _)
      · rw [outsAt0_B m c t h (by have := lt0 t; omega) h3]; frame_out; exact (congrArg (fun a => k0_pay3 _ _ a j) (Memref.IsWhole.read_unread _ _)).trans (next_entry _ _ _ _))
    t ((flush0_2 t).mp hf) _, zero_add]
  pointwise [prod]
  refine Fin.sum_mul_add_congr fun s k hl => ?_
  rw [mul_comm]
  blk_point [iblk, idx t, idx ⟨_, Pipeline.run_point_lt_of_flush t ((flush0_2 t).mp hf) s⟩]

end Cert.ProjWeight

end
-- ==== Proof.Mix.ProjWeightClaim.lean ====
/- The projection's gradient of 1024 columns of its weight: the kernel's is the reference's. -/
module

public import proofs.«01_k».proof.Defs
public import proofs.«01_k».proof.Proof.Mix.ProjWeight
public import proofs.«01_k».proof.Proof.Mlp.Terms
public import proofs.«01_k».proof.Proof.Gen.Reference7Ideal.Run

@[expose] public section

set_option maxRecDepth 16384

noncomputable section

namespace Cert.ProjWeight

open Cert.Kernel7Ideal Cert.Kernel7Ideal.Gen Idealize.ShloMosaic Idealize.ShloMosaic.TcCoe Idealize.SL.Sem

/-- What the call is given as the normalised rows: the reference's, their format changed. -/
theorem rows_entry (m : (ℓ : Loc nD τ sig) → Buf (Elt Ideal) ℓ) (c : Dev nD) :
    (V m c main_v12 : FVec Ideal S8192x1024 .bf16) = truncf .bf16 (Mlp.normed (m ((c : Thread nD τ).loc main_arg0)) (m ((c : Thread nD τ).loc main_arg1))) bitsLt_bf16_f32 := by
  entry_read
  rfl

/-- What the call is given as the columns' incoming gradient: the argument, its format changed. -/
theorem incoming_entry (m : (ℓ : Loc nD τ sig) → Buf (Elt Ideal) ℓ) (c : Dev nD) :
    (V m c main_v13 : FVec Ideal S8192x1024 .bf16) = truncf (F := Ideal) (s := S8192x1024) (φ := .f32) .bf16 (m ((c : Thread nD τ).loc main_arg3)) bitsLt_bf16_f32 := by
  entry_read
  rfl

/-- The projection's gradient of its weight's columns, on real numbers: the kernel's call leaves the reference's. -/
theorem algebraic : Cert.algebraic_Kernel7Ideal_Reference7Ideal (hKernel7Ideal := Cert.Kernel7Ideal.Gen.facts) (hReference7Ideal := Cert.Reference7Ideal.Gen.facts) := by
  intro m ρ m' ρ' _ hargs
  refine ⟨fun c => (dats m 0 c).arrAt 2 cfg0.N, (θ_run _ _ _).mono (fun _ h => h) (Value.run_blocks m ρ), (θ_run _ _ _).mono (fun r h c => ?_) (Cert.Reference7Ideal.Value.run (F := Ideal) m' ρ')⟩
  obtain ⟨h0, ha⟩ := h c
  obtain ⟨e0, e1, e2, e3⟩ := hargs c
  refine ⟨h0.trans ?_, ha⟩
  show _ = (dats m 0 c).arrAt 2 cfg0.N
  rw [final m c, rows_entry m c, incoming_entry m c, e0, e1, e3]
  rfl

end Cert.ProjWeight

end
-- ==== Proof.Mix.Out.lean ====
/- The mixer's output product with the residual, and its gradient of the mixer's result: what the two calls leave. -/
module

public import proofs.«01_k».proof.Proof.Gen.Kernel8Ideal.Frame
public import proofs.«01_k».proof.Proof.Gen.Reference8Ideal
public import Idealize.ShloMosaic.Lib.Pipeline.ValueKit

@[expose] public section

set_option maxRecDepth 16384

noncomputable section

namespace Cert.MixOut

open Cert.Kernel8Ideal Cert.Kernel8Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The reference's output: the rows `x` plus the mixer's result `r` through the weight. -/
abbrev out (x r : FVec Ideal S8192x1024 .f32) (w : FVec Ideal S1024x1024 .f32) : FVec Ideal S8192x1024 .f32 :=
  addf x (Host.dotGeneral Cert.Reference8Ideal.dot_S8192x1024_S1024x1024_S8192x1024_1_0_0_1_n_n none r w)

/-- The reference's gradient of the mixer's result: the incoming gradient `d` through the weight. -/
abbrev back (d : FVec Ideal S8192x1024 .f32) (w : FVec Ideal S1024x1024 .f32) : FVec Ideal S8192x1024 .f32 :=
  Host.dotGeneral Cert.Reference8Ideal.dot_S8192x1024_S1024x1024_S8192x1024_1_1_0_0_n_n none d w

/-- The output product's blocks at every grid point. -/
theorem idx_out : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The gradient's blocks at every grid point. -/
theorem idx_back : ∀ t : Fin cfg1.N, win1_0.index t = ![t.val, 0] ∧ win1_1.index t = ![0, 0] ∧ win1_2.index t = ![t.val, 0] :=
  (by decide +kernel : ∀ t : Fin grid1.N, _)

/-- The output product's call leaves the reference's output. -/
theorem out_final (c : Dev nD) : (dat0 V c).arrAt 3 cfg0.N = out (V c main_arg0) (V c main_v1) (V c main_v0) := by
  refine (dat0 V c).arrAt_eq_of_covers 3 _ (by decide +kernel) fun t hf y => ?_
  blk_simp
  rw [after0_3]
  frame_out
  pointwise [k0_pay1, out]
  rw [add_comm]
  blk_point [iblk0, idx_out t]

/-- The gradient's call leaves the reference's gradient. -/
theorem back_final (c : Dev nD) : (dat1 V c).arrAt 2 cfg1.N = back (V c main_arg3) (V c main_v0) := by
  refine (dat1 V c).arrAt_eq_of_covers 2 _ (by decide +kernel) fun t hf y => ?_
  blk_simp
  rw [after1_2]
  frame_out
  pointwise [k1_pay1, back]
  blk_point [iblk1, idx_back t]

end Cert.MixOut

end
-- ==== Proof.Mix.OutClaim.lean ====
/- The mixer's output product with the residual, and its gradient of the mixer's result: the kernel's are the reference's. -/
module

public import proofs.«01_k».proof.Defs
public import proofs.«01_k».proof.Proof.Mix.Out
public import proofs.«01_k».proof.Proof.Gen.Reference8Ideal.Run

@[expose] public section

set_option maxRecDepth 16384

noncomputable section

namespace Cert.MixOut

open Cert.Kernel8Ideal Cert.Kernel8Ideal.Gen Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The two calls run to their end, and every array then holds what the last of them leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The run with its two results named and its arguments as launched. -/
theorem run : θ_run defs (onTc (τ := τ) (main (F := F))) ⟨m, fun _ => 0, ρ⟩ (fun r => ∀ c : Dev nD,
      r.2.mem ((c.tc : Thread nD τ).loc main_v2) = (dat0 (V1 m ρ) c).arrAt 3 cfg0.N
      ∧ r.2.mem ((c.tc : Thread nD τ).loc main_v3) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans ((W3_of m ρ c main_v2 (by decide)).trans (W2_arr m ρ c 3)),
     (h c _ (mem_uc main_v3 (by decide))).trans (W3_arr m ρ c 2),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Run

variable (m : (ℓ : Loc nD τ sig) → Buf (Elt Ideal) ℓ) (ρ : Dev nD → PrngReg)

/-- The weight the calls are given: the argument, its format changed. -/
theorem weight_at1 (c : Dev nD) : (V1 m ρ c main_v0 : FVec Ideal S1024x1024 .bf16) = truncf (F := Ideal) (s := S1024x1024) (φ := .f32) .bf16 (m ((c : Thread nD τ).loc main_arg2)) bitsLt_bf16_f32 := by
  show StableHlo.after hostOps0 (W0 m ρ c) _ = _
  after_results

/-- The mixer's result the first call is given: the argument, its format changed. -/
theorem result_at1 (c : Dev nD) : (V1 m ρ c main_v1 : FVec Ideal S8192x1024 .bf16) = truncf (F := Ideal) (s := S8192x1024) (φ := .f32) .bf16 (m ((c : Thread nD τ).loc main_arg1)) bitsLt_bf16_f32 := by
  show StableHlo.after hostOps0 (W0 m ρ c) _ = _
  after_results

/-- The first call's result, of the arguments. -/
theorem first (c : Dev nD) : (dat0 (V1 m ρ) c).arrAt 3 cfg0.N = out (m ((c : Thread nD τ).loc main_arg0)) (m ((c : Thread nD τ).loc main_arg1)) (m ((c : Thread nD τ).loc main_arg2)) := by
  rw [out_final, weight_at1, result_at1, show V1 m ρ c main_arg0 = _ from W1_args m ρ c main_arg0 (by decide)]
  rfl

/-- The second call's result, of the arguments. -/
theorem second (c : Dev nD) : (dat1 (V2 m ρ) c).arrAt 2 cfg1.N = back (m ((c : Thread nD τ).loc main_arg3)) (m ((c : Thread nD τ).loc main_arg2)) := by
  rw [back_final, show V2 m ρ c main_v0 = _ from W2_of m ρ c main_v0 (by decide), show W1 m ρ c (Proc.devRef .tc main_v0) = _ from weight_at1 m ρ c, show V2 m ρ c main_arg3 = _ from W2_args m ρ c main_arg3 (by decide)]
  rfl

/-- The mixer's output and the gradient of the mixer's result, on real numbers: the kernel's calls leave the reference's. -/
theorem algebraic : Cert.algebraic_Kernel8Ideal_Reference8Ideal (hKernel8Ideal := Cert.Kernel8Ideal.Gen.facts) (hReference8Ideal := Cert.Reference8Ideal.Gen.facts) := by
  intro m ρ m' ρ' _ hargs
  refine ⟨fun c => (dat0 (V1 m ρ) c).arrAt 3 cfg0.N, fun c => (dat1 (V2 m ρ) c).arrAt 2 cfg1.N, (θ_run _ _ _).mono (fun _ h => h) (run m ρ),
    (θ_run _ _ _).mono (fun r h c => ?_) (Cert.Reference8Ideal.Value.run (F := Ideal) m' ρ')⟩
  obtain ⟨h0, h1, ha⟩ := h c
  obtain ⟨e0, e1, e2, e3⟩ := hargs c
  refine ⟨h0.trans ?_, h1.trans ?_, ha⟩
  · show _ = (dat0 (V1 m ρ) c).arrAt 3 cfg0.N
    rw [first, e0, e1, e2]
  · show _ = (dat1 (V2 m ρ) c).arrAt 2 cfg1.N
    rw [second, e2, e3]
    exact congrArg (back · _) (shapeCast_self (s := S8192x1024) (m ((c : Thread nD τ).loc main_arg3)) Cert.Reference8Ideal.Gen.shapeCasts_S8192x1024_S8192x1024)

end Cert.MixOut

end
-- ==== Proof.Mix.OutWeight.lean ====
/- The mixer's output product's gradient of its weight: what the call leaves, as one product. -/
module

public import proofs.«01_k».proof.Proof.Gen.Kernel9Ideal.Value
public import proofs.«01_k».proof.Proof.Gen.Reference9Ideal
public import Idealize.ShloMosaic.Lib.Pipeline.ValueKit

@[expose] public section

set_option maxRecDepth 16384

noncomputable section

namespace Cert.OutWeight

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The reference's product, of the mixer's result `R` and the incoming gradient `D`. -/
abbrev prod (R : FVec Ideal S8192x1024 .f32) (D : FVec Ideal S8192x1024 .f32) : FVec Ideal S1024x1024 .f32 :=
  transpose S1024x1024 [1, 0] (Host.dotGeneral Cert.Reference9Ideal.dot_S8192x1024_S8192x1024_S1024x1024_0_0_1_1_n_n none D R)
    Cert.Reference9Ideal.Gen.transposes_S1024x1024_S1024x1024_1_0

/-- The blocks' places at every grid point. -/
theorem idx : ∀ t : Fin cfg0.N, win0_0.index t = ![t.val % 8, 0] ∧ win0_1.index t = ![t.val % 8, 0] ∧ win0_2.index t = ![t.val / 8, 0] :=
  (by decide +kernel : ∀ t : Fin grid0.N, _)

/-- A grid point's number. -/
theorem lt0 (t : Fin cfg0.N) : t.val < 8 := Nat.lt_of_lt_of_eq t.isLt N_0

/-- One step's product at an entry. -/
theorem part_entry (x0 : FVec Ideal S1024x1024 .bf16) (x1 : FVec Ideal S1024x1024 .f32) (p q : Fin 1024) :
    (k0_pay1 (F := Ideal) x0 x1 (ix2 p q) : EReal) = ∑ k : Fin 1024, (x0 (ix2 k p) * x1 (ix2 k q) : EReal) := by
  pointwise [k0_pay1]

/-- The accumulator after the first step of a run. -/
theorem first_entry (x0 : FVec Ideal S1024x1024 .bf16) (x1 : FVec Ideal S1024x1024 .f32) (j : S1024x1024.Idx) :
    (k0_pay2 (F := Ideal) x0 x1 j : EReal) = 0 + ∑ k : Fin 1024, (x0 (ix2 k (j 0)) * x1 (ix2 k (j 1)) : EReal) := by
  idx_vars j
  rw [zero_add]
  pointwise [k0_pay2]
  exact part_entry _ _ _ _

/-- The accumulator after a later step. -/
theorem next_entry (x0 : FVec Ideal S1024x1024 .bf16) (x1 acc : FVec Ideal S1024x1024 .f32) (j : S1024x1024.Idx) :
    (k0_pay3 (F := Ideal) x0 x1 acc j : EReal) = acc j + ∑ k : Fin 1024, (x0 (ix2 k (j 0)) * x1 (ix2 k (j 1)) : EReal) := by
  idx_vars j
  pointwise [k0_pay3]
  exact congrArg _ (part_entry _ _ _ _)

/-- At the last step of a run the call writes out what it has accumulated. -/
theorem out_eq (c : Dev nD) (t : Fin cfg0.N) (h : t.val % 8 = 7) : (outsAt0 m c t.val t.isLt).1 = (outsAt0 m c t.val t.isLt).2 := by
  rw [outsAt0_C m c t (by have := lt0 t; omega) (by have := lt0 t; omega) h]
  frame_out

/-- The result array: the mixer's result's transpose times the incoming gradient. -/
theorem final (c : Dev nD) : (dats m 0 c).arrAt 2 cfg0.N = prod (V m c main_v0) (m ((c : Thread nD τ).loc main_arg3)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 8 (fun _ => (0 : EReal))
    (fun p j => ∑ k : Fin 1024, ((show FVec Ideal S1024x1024 .bf16 from iblk m c 0 p) (ix2 k (j 0)) * (show FVec Ideal S1024x1024 .f32 from iblk m c 1 p) (ix2 k (j 1)) : EReal))
    (fun t h j => by rw [outsAt0_A m c t h (by have := lt0 t; omega) (by have := lt0 t; omega)]; frame_out; exact first_entry _ _ _)
    (fun t h j => by
      by_cases h7 : t.val % 8 = 7
      · rw [outsAt0_C m c t h (by have := lt0 t; omega) h7]; frame_out; exact (congrArg (fun a => k0_pay3 _ _ a j) (Memref.IsWhole.read_unread _ _)).trans (next_entry _ _ _ _)
      · rw [outsAt0_B m c t h (by have := lt0 t; omega) h7]; frame_out; exact (congrArg (fun a => k0_pay3 _ _ a j) (Memref.IsWhole.read_unread _ _)).trans (next_entry _ _ _ _))
    t ((flush0_2 t).mp hf) _, zero_add]
  pointwise [prod]
  refine Fin.sum_mul_add_congr fun s k hl => ?_
  rw [mul_comm]
  blk_point [iblk, idx t, idx ⟨_, Pipeline.run_point_lt_of_flush t ((flush0_2 t).mp hf) s⟩]

end Cert.OutWeight

end
-- ==== Proof.Mix.OutWeightClaim.lean ====
/- The mixer's output product's gradient of its weight: the kernel's is the reference's. -/
module

public import proofs.«01_k».proof.Defs
public import proofs.«01_k».proof.Proof.Mix.OutWeight
public import proofs.«01_k».proof.Proof.Gen.Reference9Ideal.Run

@[expose] public section

set_option maxRecDepth 16384

noncomputable section

namespace Cert.OutWeight

open Cert.Kernel9Ideal Cert.Kernel9Ideal.Gen Idealize.ShloMosaic Idealize.ShloMosaic.TcCoe Idealize.SL.Sem

/-- What the call is given as the mixer's result: the argument, its format changed. -/
theorem result_entry (m : (ℓ : Loc nD τ sig) → Buf (Elt Ideal) ℓ) (c : Dev nD) :
    (V m c main_v0 : FVec Ideal S8192x1024 .bf16) = truncf (F := Ideal) (s := S8192x1024) (φ := .f32) .bf16 (m ((c : Thread nD τ).loc main_arg1)) bitsLt_bf16_f32 := by
  entry_read
  rfl

/-- The output product's gradient of its weight, on real numbers: the kernel's call leaves the reference's. -/
theorem algebraic : Cert.algebraic_Kernel9Ideal_Reference9Ideal (hKernel9Ideal := Cert.Kernel9Ideal.Gen.facts) (hReference9Ideal := Cert.Reference9Ideal.Gen.facts) := by
  intro m ρ m' ρ' _ hargs
  refine ⟨fun c => (dats m 0 c).arrAt 2 cfg0.N, (θ_run _ _ _).mono (fun _ h => h) (Value.run_blocks m ρ), (θ_run _ _ _).mono (fun r h c => ?_) (Cert.Reference9Ideal.Value.run (F := Ideal) m' ρ')⟩
  obtain ⟨h0, ha⟩ := h c
  obtain ⟨e0, e1, e2, e3⟩ := hargs c
  refine ⟨h0.trans ?_, ha⟩
  show _ = (dats m 0 c).arrAt 2 cfg0.N
  rw [final m c, result_entry m c, e1, e3]
  exact congrArg (prod _) (shapeCast_self (s := S8192x1024) (m ((c : Thread nD τ).loc main_arg3)) Cert.Reference9Ideal.Gen.shapeCasts_S8192x1024_S8192x1024)

end Cert.OutWeight

end
-- ==== Proof.Mix.Proj0.lean ====
/- Layer 0's projection with the projection of the time steps, forward and backward: what the four calls leave, as the reference's terms. -/
module

public import proofs.«01_k».proof.Proof.Gen.Kernel10Ideal.Frame
public import proofs.«01_k».proof.Proof.Gen.Reference10Ideal
public import proofs.«01_k».proof.Proof.Mix.Proj

@[expose] public section

set_option maxRecDepth 16384

noncomputable section

namespace Cert.Proj0

open Cert.Kernel10Ideal Cert.Kernel10Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The projection of the normalised rows `h`. -/
abbrev proj (h : FVec Ideal S8192x1024 .f32) (w : FVec Ideal S1024x5120 .f32) : FVec Ideal S8192x5120 .f32 :=
  Host.dotGeneral Cert.Reference10Ideal.dot_S8192x1024_S1024x5120_S8192x5120_1_0_0_1_n_n none h w

/-- The projection of the time steps, of the normalised rows `h`. -/
abbrev steps (h : FVec Ideal S8192x1024 .f32) (w : FVec Ideal S1024x128 .f32) : FVec Ideal S8192x128 .f32 :=
  Host.dotGeneral Cert.Reference10Ideal.dot_S8192x1024_S1024x128_S8192x128_1_0_0_1_n_n none h w

/-- The normalised rows' gradient, of the projection's gradient `d` and the time steps' gradient `t`. -/
abbrev back (d : FVec Ideal S8192x5120 .f32) (t : FVec Ideal S8192x128 .f32) (w : FVec Ideal S1024x5120 .f32) (u : FVec Ideal S1024x128 .f32) : FVec Ideal S8192x1024 .f32 :=
  addf (Host.dotGeneral Cert.Reference10Ideal.dot_S8192x128_S1024x128_S8192x1024_1_1_0_0_n_n none t u) (Host.dotGeneral Cert.Reference10Ideal.dot_S8192x5120_S1024x5120_S8192x1024_1_1_0_0_n_n none d w)

/-- The norm's blocks at every grid point. -/
theorem idx_norm : ∀ t : Fin cfg0.N, win0_0.index t = ![t.val, 0] ∧ win0_1.index t = ![0, 0] ∧ win0_2.index t = ![t.val, 0] :=
  (by decide +kernel : ∀ t : Fin grid0.N, _)

/-- The projection's blocks at every grid point. -/
theorem idx_proj : ∀ t : Fin cfg1.N, win1_0.index t = ![t.val / 5, 0] ∧ win1_1.index t = ![0, t.val % 5] ∧ win1_2.index t = ![t.val / 5, t.val % 5] :=
  (by decide +kernel : ∀ t : Fin grid1.N, _)

/-- The time steps' blocks at every grid point. -/
theorem idx_steps : ∀ t : Fin cfg2.N, win2_0.index t = ![t.val, 0] ∧ win2_1.index t = ![0, 0] ∧ win2_2.index t = ![t.val, 0] :=
  (by decide +kernel : ∀ t : Fin grid2.N, _)

/-- The blocks of the projection's gradient, one per part, and of the time steps' gradient, at every grid point. -/
theorem idx_parts : ∀ t : Fin cfg3.N, win3_0.index t = ![t.val, 0] ∧ win3_1.index t = ![t.val, 0] ∧ win3_2.index t = ![t.val, 0] ∧ win3_3.index t = ![t.val, 0] ∧ win3_4.index t = ![t.val, 0] ∧ win3_5.index t = ![t.val, 0] :=
  (by decide +kernel : ∀ t : Fin grid3.N, _)

/-- The weights' blocks of columns at every grid point. -/
theorem idx_columns : ∀ t : Fin cfg3.N, win3_6.index t = ![0, 0] ∧ win3_7.index t = ![0, 1] ∧ win3_8.index t = ![0, 2] ∧ win3_9.index t = ![0, 3] ∧ win3_10.index t = ![0, 4] ∧ win3_11.index t = ![0, 0] :=
  (by decide +kernel : ∀ t : Fin grid3.N, _)

/-- The rows' and the results' blocks at every grid point. -/
theorem idx_rows : ∀ t : Fin cfg3.N, win3_12.index t = ![t.val, 0] ∧ win3_13.index t = ![0, 0] ∧ win3_14.index t = ![t.val, 0] ∧ win3_15.index t = ![t.val, 0] ∧ win3_16.index t = ![0, 0] :=
  (by decide +kernel : ∀ t : Fin grid3.N, _)

/-- The norm's call leaves the normalised rows. -/
theorem norm_final (c : Dev nD) : (dat0 V c).arrAt 2 cfg0.N = Mlp.normed (V c main_arg0) (V c main_arg1) := by
  refine (dat0 V c).arrAt_eq_of_covers 2 _ (by decide +kernel) fun t hf y => ?_
  blk_simp
  rw [after0_2]
  frame_out
  pointwise [k0_pay1, Mlp.normed]
  blk_point [iblk0, idx_norm t]

/-- The projection's call leaves the projection. -/
theorem proj_final (c : Dev nD) : (dat1 V c).arrAt 2 cfg1.N = proj (V c main_v2) (V c main_v0) := by
  refine (dat1 V c).arrAt_eq_of_covers 2 _ (by decide +kernel) fun t hf y => ?_
  blk_simp
  rw [after1_2]
  frame_out
  pointwise [k1_pay1, proj]
  blk_point [iblk1, idx_proj t]

/-- The time steps' call leaves their projection. -/
theorem steps_final (c : Dev nD) : (dat2 V c).arrAt 2 cfg2.N = steps (V c main_v2) (V c main_v1) := by
  refine (dat2 V c).arrAt_eq_of_covers 2 _ (by decide +kernel) fun t hf y => ?_
  blk_simp
  rw [after2_2]
  frame_out
  pointwise [k2_pay1, steps]
  blk_point [iblk2, idx_steps t]

/-- A grid point's number. -/
theorem lt3 (t : Fin cfg3.N) : t.val < 16 := Nat.lt_of_lt_of_eq t.isLt N_3

/-- A row of a grid point's block in the whole array. -/
abbrev rowAt (t : Fin cfg3.N) (p : Fin 512) : Fin 8192 := ⟨t.val * 512 + p.val, by have := lt3 t; omega⟩

/-- The five arrays the last call is given are the columns of the projection's gradient `D`. -/
abbrev Given (c : Dev nD) (D : FVec Ideal S8192x5120 .f32) : Prop := Proj.Parts (V c main_v6) (V c main_v8) (V c main_v10) (V c main_v12) (V c main_v14) D

/-- The five products of a grid point's block. -/
abbrev fiveBlock (c : Dev nD) (t : Fin cfg3.N) : FVec Ideal S512x1024 .f32 :=
  k3_pay3 (F := Ideal) (iblk3 V c 0 t) (iblk3 V c 6 t) (iblk3 V c 1 t) (iblk3 V c 7 t) (iblk3 V c 2 t) (iblk3 V c 8 t) (iblk3 V c 3 t) (iblk3 V c 9 t) (iblk3 V c 4 t) (iblk3 V c 10 t)

/-- The block of the normalised rows' gradient at a grid point: the five products and the time steps'. -/
abbrev backBlock (c : Dev nD) (t : Fin cfg3.N) : FVec Ideal S512x1024 .f32 :=
  k3_pay5 (F := Ideal) (fiveBlock V c t) (k3_pay4 (iblk3 V c 5 t)) (iblk3 V c 11 t)

/-- The five products are written as layer 1's call writes them. -/
theorem five_same (x0 x1 x2 x3 x4 : FVec Ideal S512x1024 .bf16) (w0 w1 w2 w3 w4 : FVec Ideal S1024x1024 .bf16) :
    k3_pay3 (F := Ideal) x0 w0 x1 w1 x2 w2 x3 w3 x4 w4 = Kernel6Ideal.Gen.k2_pay2 (F := Ideal) x0 w0 x1 w1 x2 w2 x3 w3 x4 w4 := rfl

/-- The time steps' product on top of the five, at an entry. -/
theorem last_entry (e : FVec Ideal S512x1024 .f32) (t : FVec Ideal S512x128 .f32) (u : FVec Ideal S1024x128 .bf16) (p : Fin 512) (q : Fin 1024) :
    (k3_pay5 (F := Ideal) e (k3_pay4 t) u (ix2 p q) : EReal) = e (ix2 p q) + ∑ k : Fin 128, t (ix2 p k) * u (ix2 q k) := by
  pointwise [k3_pay5, k3_pay4]

/-- The reference's gradient at an entry: the projection's and the time steps'. -/
theorem back_entry (d : FVec Ideal S8192x5120 .f32) (t : FVec Ideal S8192x128 .f32) (w : FVec Ideal S1024x5120 .f32) (u : FVec Ideal S1024x128 .f32) (i : Fin 8192) (q : Fin 1024) :
    (back d t w u (ix2 i q) : EReal) = Proj.back d w (ix2 i q) + ∑ k : Fin 128, t (ix2 i k) * u (ix2 q k) := by
  pointwise [back, Proj.back]
  rw [add_comm]

variable {V} in
/-- A block of the normalised rows' gradient is the whole array's. -/
theorem backBlock_entry {c : Dev nD} {D : FVec Ideal S8192x5120 .f32} (h : Given V c D) (t : Fin cfg3.N) (p : Fin 512) (q : Fin 1024) :
    (backBlock V c t (ix2 p q) : EReal) = back D (V c main_arg6) (V c main_v0) (V c main_v1) (ix2 (rowAt t p) q) := by
  refine (last_entry _ _ _ p q).trans (Eq.trans ?_ (back_entry D (V c main_arg6) (V c main_v0) (V c main_v1) (rowAt t p) q).symm)
  refine congrArg₂ (· + ·) ((congrFun (five_same _ _ _ _ _ _ _ _ _ _) _).trans <| Proj.five_products D (V c main_v0) _ _ _ _ _ _ _ _ _ _ (rowAt t p) p q
    (fun k => Eq.trans (by blk_point [iblk3, idx_parts t]) (h.first (rowAt t p) k)) (fun k => by blk_point [iblk3, idx_columns t])
    (fun k => Eq.trans (by blk_point [iblk3, idx_parts t]) (h.second (rowAt t p) k)) (fun k => by blk_point [iblk3, idx_columns t])
    (fun k => Eq.trans (by blk_point [iblk3, idx_parts t]) (h.third (rowAt t p) k)) (fun k => by blk_point [iblk3, idx_columns t])
    (fun k => Eq.trans (by blk_point [iblk3, idx_parts t]) (h.fourth (rowAt t p) k)) (fun k => by blk_point [iblk3, idx_columns t])
    (fun k => Eq.trans (by blk_point [iblk3, idx_parts t]) (h.fifth (rowAt t p) k)) (fun k => by blk_point [iblk3, idx_columns t]))
    (Finset.sum_congr rfl fun k _ => congrArg₂ (· * ·) ?_ ?_)
  · blk_point [iblk3, idx_parts t]
  · blk_point [iblk3, idx_columns t]

/-- The rows' block at an entry. -/
theorem rows_entry (c : Dev nD) (t : Fin cfg3.N) (p : Fin 512) (k : Fin 1024) :
    ((show FVec Ideal S512x1024 .f32 from iblk3 V c 12 t) (ix2 p k) : EReal) = (show FVec Ideal S8192x1024 .f32 from V c main_arg0) (ix2 (rowAt t p) k) := by
  blk_point [iblk3, idx_rows t]

/-- The norm's weight's block at an entry. -/
theorem weight_entry (c : Dev nD) (t : Fin cfg3.N) (k : Fin 1024) :
    ((show FVec Ideal S1x1024 .f32 from iblk3 V c 13 t) (ix2 0 k) : EReal) = (show FVec Ideal S1x1024 .f32 from V c main_arg1) (ix2 0 k) := by
  blk_point [iblk3, idx_rows t]

/-- The residual's gradient's block at an entry. -/
theorem incoming_entry (c : Dev nD) (t : Fin cfg3.N) (p : Fin 512) (k : Fin 1024) :
    ((show FVec Ideal S512x1024 .f32 from iblk3 V c 14 t) (ix2 p k) : EReal) = (show FVec Ideal S8192x1024 .f32 from V c main_arg4) (ix2 (rowAt t p) k) := by
  blk_point [iblk3, idx_rows t]

/-- A row's input gradient is written as the MLP block's call writes it. -/
theorem input_same (e : FVec Ideal S512x1024 .f32) (t : FVec Ideal S512x128 .bf16) (u : FVec Ideal S1024x128 .bf16) (x y : FVec Ideal S512x1024 .f32) (g : FVec Ideal S1x1024 .f32) :
    k3_pay9 (F := Ideal) e t u x g y = Kernel2Ideal.Gen.k3_pay5 (F := Ideal) (k3_pay5 e t u) x g (Kernel2Ideal.Gen.k3_pay2 x) (Scalar.ofBits .f32 0x44800000#32) y := rfl

/-- A step of the norm's weight gradient is written as the MLP block's call writes it. -/
theorem step_same (e : FVec Ideal S512x1024 .f32) (t : FVec Ideal S512x128 .bf16) (u : FVec Ideal S1024x128 .bf16) (x : FVec Ideal S512x1024 .f32) (a : FVec Ideal S1x1024 .f32) :
    k3_pay2 (F := Ideal) (k3_pay8 e t u x) a = Kernel2Ideal.Gen.k3_pay7 (F := Ideal) (k3_pay5 e t u) x (Kernel2Ideal.Gen.k3_pay2 x) (Scalar.ofBits .f32 0x44800000#32) a := rfl

/-- So is its start. -/
theorem start_same : k3_pay1 (F := Ideal) = Kernel2Ideal.Gen.k3_pay6 (F := Ideal) := rfl

variable {V} in
/-- A block's summand of the norm's weight gradient is the whole array's. -/
theorem part_term {c : Dev nD} {D : FVec Ideal S8192x5120 .f32} (h : Given V c D) (t : Fin cfg3.N) (r : Fin 512) (q : Fin 1024) :
    ((show FVec Ideal S512x1024 .f32 from iblk3 V c 12 t) (ix2 r q) * Ideal.rsqrt (Ideal.div (∑ k : Fin 1024, ((show FVec Ideal S512x1024 .f32 from iblk3 V c 12 t) (ix2 r k) * (show FVec Ideal S512x1024 .f32 from iblk3 V c 12 t) (ix2 r k) : EReal)) (Ideal.ofBits .f32 0x44800000#32) + Ideal.ofBits .f32 0x358637BD#32) * backBlock V c t (ix2 r q) : EReal)
      = Grad.term (V c main_arg0) (back D (V c main_arg6) (V c main_v0) (V c main_v1)) (rowAt t r) q := by
  rw [backBlock_entry h]
  simp only [rows_entry V c]

/-- What a grid point leaves in the input gradient's block. -/
theorem outs_input (c : Dev nD) (t : Fin cfg3.N) :
    (outsAt3 V c t.val t.isLt).1 = k3_pay9 (F := Ideal) (fiveBlock V c t) (k3_pay4 (iblk3 V c 5 t)) (iblk3 V c 11 t) (iblk3 V c 12 t) (iblk3 V c 13 t) (iblk3 V c 14 t) := by
  by_cases h : t.val % 16 = 0
  · rw [outsAt3_A V c t h]
    frame_out
  · rw [outsAt3_B V c t h]
    frame_out

variable {V} in
/-- The last call's first result: the layer's input gradient. -/
theorem input_final {c : Dev nD} {D : FVec Ideal S8192x5120 .f32} (h : Given V c D) : (dat3 V c).arrAt 15 cfg3.N = Mlp.gradInput (V c main_arg0) (V c main_arg1) (V c main_arg4) (back D (V c main_arg6) (V c main_v0) (V c main_v1)) := by
  refine (dat3 V c).arrAt_eq_of_covers 15 _ (by decide +kernel) fun t hf y => ?_
  blk_simp
  rw [after3_15, outs_input, input_same]
  idx_vars y
  refine (Grad.input_point (V c main_arg0) (V c main_arg1) (V c main_arg4) (back D (V c main_arg6) (V c main_v0) (V c main_v1)) _ _ _ _ (rowAt t _) _ _
    (fun k => rows_entry V c t _ k) (fun k => weight_entry V c t k) (incoming_entry V c t _ _) (fun k => backBlock_entry h t _ k)).trans ?_
  blk_point [idx_rows t]

variable {V} in
/-- The last call's second result: the norm's weight gradient. -/
theorem norm_weight_final {c : Dev nD} {D : FVec Ideal S8192x5120 .f32} (h : Given V c D) : (dat3 V c).arrAt 16 cfg3.N = Mlp.gradNorm (V c main_arg0) (back D (V c main_arg6) (V c main_v0) (V c main_v1)) := by
  refine (dat3 V c).arrAt_eq_of_covers 16 _ (by decide +kernel) fun t hf y => ?_
  blk_simp
  rw [after3_16, Pipeline.eq_sum_fin_of_reset_step_apply_of_flush (fun n h => (outsAt3 V c n h).2) 16 (fun _ => (0 : EReal))
    (fun p j => Grad.part (iblk3 V c 12 p) (backBlock V c p) (j 1))
    (fun t h j => by rw [outsAt3_A V c t h]; frame_out; exact (congrFun (step_same _ _ _ _ _) j).trans ((Grad.step_entry _ _ _ _).trans (congrArg (· + _) ((congrFun start_same j).trans (Grad.start_entry _)))))
    (fun t h j => by rw [outsAt3_B V c t h]; frame_out; exact (congrFun (step_same _ _ _ _ _) j).trans (Grad.step_entry _ _ _ _))
    t ((flush3_16 t).mp hf) _, zero_add, Grad.gradNorm_entry]
  refine Fin.sum_mul_add_congr fun s k hl => ?_
  have ht := lt3 t
  have hm := (flush3_16 t).mp hf
  refine (part_term h ⟨_, Pipeline.run_point_lt_of_flush t hm s⟩ k (y 1)).trans (congrArg₂ (Grad.term (V c main_arg0) (back D (V c main_arg6) (V c main_v0) (V c main_v1))) (Fin.ext ?_) (Fin.ext ?_))
  · show (16 * (t.val / 16) + s.val) * 512 + k.val = s.val * 512 + k.val
    omega
  · blk_simp [idx_rows t]

end Cert.Proj0

end
-- ==== Proof.Mix.Proj0Claim.lean ====
/- Layer 0's projection with the projection of the time steps, forward and backward: the kernel's are the reference's. -/
module

public import proofs.«01_k».proof.Defs
public import proofs.«01_k».proof.Proof.Mix.Proj0
public import proofs.«01_k».proof.Proof.Gen.Reference10Ideal.Run

@[expose] public section

set_option maxRecDepth 16384

noncomputable section

namespace Cert.Proj0

open Cert.Kernel10Ideal Cert.Kernel10Ideal.Gen Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The four calls run to their end, and every array then holds what the last of them leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The run with its four results named and its arguments as launched. -/
theorem run : θ_run defs (onTc (τ := τ) (main (F := F))) ⟨m, fun _ => 0, ρ⟩ (fun r => ∀ c : Dev nD,
      r.2.mem ((c.tc : Thread nD τ).loc main_v3) = (dat1 (V2 m ρ) c).arrAt 2 cfg1.N
      ∧ r.2.mem ((c.tc : Thread nD τ).loc main_v4) = (dat2 (V3 m ρ) c).arrAt 2 cfg2.N
      ∧ r.2.mem ((c.tc : Thread nD τ).loc main_v15_0) = (dat3 (V5 m ρ) c).arrAt 15 cfg3.N
      ∧ r.2.mem ((c.tc : Thread nD τ).loc main_v15_1) = (dat3 (V5 m ρ) c).arrAt 16 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v3 (by decide))).trans ((W6_of m ρ c main_v3 (by decide)).trans ((W5_of m ρ c main_v3 (by decide)).trans ((W4_of m ρ c main_v3 (by decide)).trans (W3_arr m ρ c 2)))),
     (h c _ (mem_uc main_v4 (by decide))).trans ((W6_of m ρ c main_v4 (by decide)).trans ((W5_of m ρ c main_v4 (by decide)).trans (W4_arr m ρ c 2))),
     (h c _ (mem_uc main_v15_0 (by decide))).trans (W6_arr m ρ c 15),
     (h c _ (mem_uc main_v15_1 (by decide))).trans (W6_arr m ρ c 16),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩) (run_all m ρ)

end Run

variable (m : (ℓ : Loc nD τ sig) → Buf (Elt Ideal) ℓ) (ρ : Dev nD → PrngReg)

/-- The projection's weight the calls are given: the argument, its format changed. -/
theorem weight_at1 (c : Dev nD) : V1 m ρ c main_v0 = truncf (F := Ideal) (s := S1024x5120) (φ := .f32) .bf16 (m ((c : Thread nD τ).loc main_arg2)) bitsLt_bf16_f32 := by
  show StableHlo.after hostOps0 (W0 m ρ c) _ = _
  after_results

/-- The time steps' weight the calls are given: the argument, its format changed. -/
theorem steps_at1 (c : Dev nD) : V1 m ρ c main_v1 = truncf (F := Ideal) (s := S1024x128) (φ := .f32) .bf16 (m ((c : Thread nD τ).loc main_arg3)) bitsLt_bf16_f32 := by
  show StableHlo.after hostOps0 (W0 m ρ c) _ = _
  after_results

/-- The normalised rows, after the first call. -/
theorem rows_at2 (c : Dev nD) : V2 m ρ c main_v2 = Mlp.normed (m ((c : Thread nD τ).loc main_arg0)) (m ((c : Thread nD τ).loc main_arg1)) := by
  refine (W2_arr m ρ c 2).trans ((norm_final (V1 m ρ) c).trans ?_)
  rw [show V1 m ρ c main_arg0 = _ from W1_args m ρ c main_arg0 (by decide), show V1 m ρ c main_arg1 = _ from W1_args m ρ c main_arg1 (by decide)]

/-- The normalised rows, before the time steps' call. -/
theorem rows_at3 (c : Dev nD) : V3 m ρ c main_v2 = Mlp.normed (m ((c : Thread nD τ).loc main_arg0)) (m ((c : Thread nD τ).loc main_arg1)) :=
  (W3_of m ρ c main_v2 (by decide)).trans (rows_at2 m ρ c)

/-- The projection's weight, before its call. -/
theorem weight_at2 (c : Dev nD) : V2 m ρ c main_v0 = truncf (F := Ideal) (s := S1024x5120) (φ := .f32) .bf16 (m ((c : Thread nD τ).loc main_arg2)) bitsLt_bf16_f32 :=
  (W2_of m ρ c main_v0 (by decide)).trans (weight_at1 m ρ c)

/-- The time steps' weight, before its call. -/
theorem steps_at3 (c : Dev nD) : V3 m ρ c main_v1 = truncf (F := Ideal) (s := S1024x128) (φ := .f32) .bf16 (m ((c : Thread nD τ).loc main_arg3)) bitsLt_bf16_f32 :=
  (W3_of m ρ c main_v1 (by decide)).trans ((W2_of m ρ c main_v1 (by decide)).trans (steps_at1 m ρ c))

/-- The projection's weight, before the last call. -/
theorem weight_at5 (c : Dev nD) : V5 m ρ c main_v0 = truncf (F := Ideal) (s := S1024x5120) (φ := .f32) .bf16 (m ((c : Thread nD τ).loc main_arg2)) bitsLt_bf16_f32 :=
  (W5_of m ρ c main_v0 (by decide)).trans ((W4_of m ρ c main_v0 (by decide)).trans ((W3_of m ρ c main_v0 (by decide)).trans (weight_at2 m ρ c)))

/-- The time steps' weight, before the last call. -/
theorem steps_at5 (c : Dev nD) : V5 m ρ c main_v1 = truncf (F := Ideal) (s := S1024x128) (φ := .f32) .bf16 (m ((c : Thread nD τ).loc main_arg3)) bitsLt_bf16_f32 :=
  (W5_of m ρ c main_v1 (by decide)).trans ((W4_of m ρ c main_v1 (by decide)).trans (steps_at3 m ρ c))

/-- The projection, of the arguments. -/
theorem first (c : Dev nD) : (dat1 (V2 m ρ) c).arrAt 2 cfg1.N = proj (Mlp.normed (m ((c : Thread nD τ).loc main_arg0)) (m ((c : Thread nD τ).loc main_arg1))) (m ((c : Thread nD τ).loc main_arg2)) := by
  rw [proj_final, rows_at2, weight_at2]
  rfl

/-- The projection of the time steps, of the arguments. -/
theorem second (c : Dev nD) : (dat2 (V3 m ρ) c).arrAt 2 cfg2.N = steps (Mlp.normed (m ((c : Thread nD τ).loc main_arg0)) (m ((c : Thread nD τ).loc main_arg1))) (m ((c : Thread nD τ).loc main_arg3)) := by
  rw [steps_final, rows_at3, steps_at3]
  rfl

/-- The projection's gradient, before the last call: the argument. -/
theorem incoming_at4 (c : Dev nD) : W4 m ρ c (Proc.devRef .tc main_arg5) = m ((c : Thread nD τ).loc main_arg5) := W4_args m ρ c main_arg5 (by decide)

/-- The parts the last call is given are the columns of the projection's gradient. -/
theorem given_at5 (c : Dev nD) : Given (V5 m ρ) c (m ((c : Thread nD τ).loc main_arg5)) := by
  have h0 : V5 m ρ c main_v6 = truncf (F := Ideal) (s := S8192x1024) (φ := .f32) .bf16 (extractStridedSlice S8192x1024 ![0, 0] (W4 m ρ c (Proc.devRef .tc main_arg5)) slices_S8192x5120_S8192x1024_0_0) bitsLt_bf16_f32 := by
    show StableHlo.after hostOps3 (W4 m ρ c) _ = _; after_results
  have h1 : V5 m ρ c main_v8 = truncf (F := Ideal) (s := S8192x1024) (φ := .f32) .bf16 (extractStridedSlice S8192x1024 ![0, 1024] (W4 m ρ c (Proc.devRef .tc main_arg5)) slices_S8192x5120_S8192x1024_0_1024) bitsLt_bf16_f32 := by
    show StableHlo.after hostOps3 (W4 m ρ c) _ = _; after_results
  have h2 : V5 m ρ c main_v10 = truncf (F := Ideal) (s := S8192x1024) (φ := .f32) .bf16 (extractStridedSlice S8192x1024 ![0, 2048] (W4 m ρ c (Proc.devRef .tc main_arg5)) slices_S8192x5120_S8192x1024_0_2048) bitsLt_bf16_f32 := by
    show StableHlo.after hostOps3 (W4 m ρ c) _ = _; after_results
  have h3 : V5 m ρ c main_v12 = truncf (F := Ideal) (s := S8192x1024) (φ := .f32) .bf16 (extractStridedSlice S8192x1024 ![0, 3072] (W4 m ρ c (Proc.devRef .tc main_arg5)) slices_S8192x5120_S8192x1024_0_3072) bitsLt_bf16_f32 := by
    show StableHlo.after hostOps3 (W4 m ρ c) _ = _; after_results
  have h4 : V5 m ρ c main_v14 = truncf (F := Ideal) (s := S8192x1024) (φ := .f32) .bf16 (extractStridedSlice S8192x1024 ![0, 4096] (W4 m ρ c (Proc.devRef .tc main_arg5)) slices_S8192x5120_S8192x1024_0_4096) bitsLt_bf16_f32 := by
    show StableHlo.after hostOps3 (W4 m ρ c) _ = _; after_results
  rw [Given, h0, h1, h2, h3, h4, incoming_at4]
  exact Proj.slices_parts _

/-- The input gradient, of the arguments. -/
theorem third (c : Dev nD) : (dat3 (V5 m ρ) c).arrAt 15 cfg3.N = Mlp.gradInput (m ((c : Thread nD τ).loc main_arg0)) (m ((c : Thread nD τ).loc main_arg1)) (m ((c : Thread nD τ).loc main_arg4)) (back (m ((c : Thread nD τ).loc main_arg5)) (m ((c : Thread nD τ).loc main_arg6)) (m ((c : Thread nD τ).loc main_arg2)) (m ((c : Thread nD τ).loc main_arg3))) := by
  rw [input_final (given_at5 m ρ c), weight_at5, steps_at5, show V5 m ρ c main_arg0 = _ from W5_args m ρ c main_arg0 (by decide), show V5 m ρ c main_arg1 = _ from W5_args m ρ c main_arg1 (by decide), show V5 m ρ c main_arg4 = _ from W5_args m ρ c main_arg4 (by decide), show V5 m ρ c main_arg6 = _ from W5_args m ρ c main_arg6 (by decide)]
  rfl

/-- The norm's weight gradient, of the arguments. -/
theorem fourth (c : Dev nD) : (dat3 (V5 m ρ) c).arrAt 16 cfg3.N = Mlp.gradNorm (m ((c : Thread nD τ).loc main_arg0)) (back (m ((c : Thread nD τ).loc main_arg5)) (m ((c : Thread nD τ).loc main_arg6)) (m ((c : Thread nD τ).loc main_arg2)) (m ((c : Thread nD τ).loc main_arg3))) := by
  rw [norm_weight_final (given_at5 m ρ c), weight_at5, steps_at5, show V5 m ρ c main_arg0 = _ from W5_args m ρ c main_arg0 (by decide), show V5 m ρ c main_arg6 = _ from W5_args m ρ c main_arg6 (by decide)]
  rfl

/-- Layer 0's two projections, the input gradient and the norm's weight gradient, on real numbers: the kernel's calls leave the reference's. -/
theorem algebraic : Cert.algebraic_Kernel10Ideal_Reference10Ideal (hKernel10Ideal := Cert.Kernel10Ideal.Gen.facts) (hReference10Ideal := Cert.Reference10Ideal.Gen.facts) := by
  intro m ρ m' ρ' _ hargs
  refine ⟨fun c => (dat1 (V2 m ρ) c).arrAt 2 cfg1.N, fun c => (dat2 (V3 m ρ) c).arrAt 2 cfg2.N, fun c => (dat3 (V5 m ρ) c).arrAt 15 cfg3.N, fun c => (dat3 (V5 m ρ) c).arrAt 16 cfg3.N, (θ_run _ _ _).mono (fun _ h => h) (run m ρ),
    (θ_run _ _ _).mono (fun r h c => ?_) (Cert.Reference10Ideal.Value.run (F := Ideal) m' ρ')⟩
  obtain ⟨h0, h1, h2, h3, ha⟩ := h c
  obtain ⟨e0, e1, e2, e3, e4, e5, e6⟩ := hargs c
  refine ⟨h0.trans ?_, h1.trans ?_, h2.trans ?_, h3.trans ?_, ha⟩
  · show _ = (dat1 (V2 m ρ) c).arrAt 2 cfg1.N
    rw [first, e0, e1, e2]
  · show _ = (dat2 (V3 m ρ) c).arrAt 2 cfg2.N
    rw [second, e0, e1, e3]
  · show _ = (dat3 (V5 m ρ) c).arrAt 15 cfg3.N
    unfold Cert.Reference10Ideal.Value.res_main_v43
    rw [third, e0, e1, e2, e3, e4, e5, e6]
  · show _ = (dat3 (V5 m ρ) c).arrAt 16 cfg3.N
    rw [fourth, e0, e2, e3, e5, e6]

end Cert.Proj0

end
-- ==== Proof.Mix.Out0.lean ====
/- Layer 0's output product, two halves one after the other, and its gradients of the two halves of the mixer's result: what the four calls leave. -/
module

public import proofs.«01_k».proof.Proof.Gen.Kernel11Ideal.Frame
public import proofs.«01_k».proof.Proof.Gen.Reference11Ideal
public import Idealize.ShloMosaic.Lib.Pipeline.ValueKit

@[expose] public section

set_option maxRecDepth 16384

noncomputable section

namespace Cert.MixOut0

open Cert.Kernel11Ideal Cert.Kernel11Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The two halves of the mixer's result, side by side. -/
abbrev joined (a b : FVec Ideal S8192x1024 .f32) : FVec Ideal Cert.Reference11Ideal.S8192x2048 .f32 :=
  concatenate Cert.Reference11Ideal.S8192x2048 1 [⟨S8192x1024, a⟩, ⟨S8192x1024, b⟩] Cert.Reference11Ideal.Gen.concatenates_S8192x1024_S8192x1024_S8192x2048_d1

/-- The reference's output: the rows `x` plus the mixer's result, of halves `a` and `b`, through the whole weight. -/
abbrev out (x a b : FVec Ideal S8192x1024 .f32) (w : FVec Ideal S2048x1024 .f32) : FVec Ideal S8192x1024 .f32 :=
  addf x (Host.dotGeneral Cert.Reference11Ideal.dot_S8192x2048_S2048x1024_S8192x1024_1_0_0_1_n_n none (joined a b) w)

/-- The reference's gradient of the mixer's result: the incoming gradient `d` through the whole weight. -/
abbrev back (d : FVec Ideal S8192x1024 .f32) (w : FVec Ideal S2048x1024 .f32) : FVec Ideal Cert.Reference11Ideal.S8192x2048 .f32 :=
  Host.dotGeneral Cert.Reference11Ideal.dot_S8192x1024_S2048x1024_S8192x2048_1_1_0_0_n_n none d w

/-- What one half's call adds: at row `i` and column `q`, the half's row times the weight's column, on top of what came before. -/
def add (x r : FVec Ideal S8192x1024 .f32) (w : FVec Ideal S1024x1024 .f32) : FVec Ideal S8192x1024 .f32 :=
  fun j => x j + ∑ k : Fin 1024, r (ix2 (j 0) k) * w (ix2 k (j 1))

/-- What one half's gradient is: at row `i` and column `q`, the incoming gradient's row times the half weight's row. -/
def half (d : FVec Ideal S8192x1024 .f32) (w : FVec Ideal S1024x1024 .f32) : FVec Ideal S8192x1024 .f32 :=
  fun j => ∑ k : Fin 1024, d (ix2 (j 0) k) * w (ix2 (j 1) k)

/-- The rows of the weight that meet the first half. -/
abbrev upper (w : FVec Ideal S2048x1024 .f32) : FVec Ideal S1024x1024 .f32 :=
  extractStridedSlice S1024x1024 ![0, 0] w slices_S2048x1024_S1024x1024_0_0

/-- The rows of the weight that meet the second half. -/
abbrev lower (w : FVec Ideal S2048x1024 .f32) : FVec Ideal S1024x1024 .f32 :=
  extractStridedSlice S1024x1024 ![1024, 0] w slices_S2048x1024_S1024x1024_1024_0

/-- The first product's blocks at every grid point. -/
theorem idx_first : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The second product's blocks at every grid point. -/
theorem idx_second : ∀ t : Fin cfg1.N, win1_0.index t = ![t.val, 0] ∧ win1_1.index t = ![0, 0] ∧ win1_2.index t = ![t.val, 0] ∧ win1_3.index t = ![t.val, 0] :=
  (by decide +kernel : ∀ t : Fin grid1.N, _)

/-- The first gradient's blocks at every grid point. -/
theorem idx_third : ∀ t : Fin cfg2.N, win2_0.index t = ![t.val, 0] ∧ win2_1.index t = ![0, 0] ∧ win2_2.index t = ![t.val, 0] :=
  (by decide +kernel : ∀ t : Fin grid2.N, _)

/-- The second gradient's blocks at every grid point. -/
theorem idx_fourth : ∀ t : Fin cfg3.N, win3_0.index t = ![t.val, 0] ∧ win3_1.index t = ![0, 0] ∧ win3_2.index t = ![t.val, 0] :=
  (by decide +kernel : ∀ t : Fin grid3.N, _)

/-- The first product's call adds its half. -/
theorem first_final (c : Dev nD) : (dat0 V c).arrAt 3 cfg0.N = add (V c main_arg0) (V c main_v1) (V c main_v2) := by
  refine (dat0 V c).arrAt_eq_of_covers 3 _ (by decide +kernel) fun t hf y => ?_
  blk_simp
  rw [after0_3]
  frame_out
  pointwise [k0_pay1, add]
  rw [add_comm]
  blk_point [iblk0, idx_first t]

/-- The second product's call adds its half. -/
theorem second_final (c : Dev nD) : (dat1 V c).arrAt 3 cfg1.N = add (V c main_v3) (V c main_v4) (V c main_v5) := by
  refine (dat1 V c).arrAt_eq_of_covers 3 _ (by decide +kernel) fun t hf y => ?_
  blk_simp
  rw [after1_3]
  frame_out
  pointwise [k1_pay1, add]
  rw [add_comm]
  blk_point [iblk1, idx_second t]

/-- The first gradient's call leaves its half. -/
theorem third_final (c : Dev nD) : (dat2 V c).arrAt 2 cfg2.N = half (V c main_arg4) (V c main_v7) := by
  refine (dat2 V c).arrAt_eq_of_covers 2 _ (by decide +kernel) fun t hf y => ?_
  blk_simp
  rw [after2_2]
  frame_out
  pointwise [k2_pay1, half]
  blk_point [iblk2, idx_third t]

/-- The second gradient's call leaves its half. -/
theorem fourth_final (c : Dev nD) : (dat3 V c).arrAt 2 cfg3.N = half (V c main_arg4) (V c main_v9) := by
  refine (dat3 V c).arrAt_eq_of_covers 2 _ (by decide +kernel) fun t hf y => ?_
  blk_simp
  rw [after3_2]
  frame_out
  pointwise [k3_pay1, half]
  blk_point [iblk3, idx_fourth t]

/-- The two halves added one after the other are the product over all the rows of the weight. -/
theorem add_add (x a b : FVec Ideal S8192x1024 .f32) (w : FVec Ideal S2048x1024 .f32) : add (add x a (upper w)) b (lower w) = out x a b w := by
  funext y
  idx_vars y
  pointwise [add, out]
  rw [add_assoc]

/-- The first half's gradient is the first half of the columns of the whole gradient. -/
theorem half_upper (d : FVec Ideal S8192x1024 .f32) (w : FVec Ideal S2048x1024 .f32) :
    half d (upper w) = extractStridedSlice S8192x1024 ![0, 0] (back d w) Cert.Reference11Ideal.Gen.slices_S8192x2048_S8192x1024_0_0 := by
  funext y
  idx_vars y
  pointwise [half, back]

/-- The second half's gradient is the second half of the columns of the whole gradient. -/
theorem half_lower (d : FVec Ideal S8192x1024 .f32) (w : FVec Ideal S2048x1024 .f32) :
    half d (lower w) = extractStridedSlice S8192x1024 ![0, 1024] (back d w) Cert.Reference11Ideal.Gen.slices_S8192x2048_S8192x1024_0_1024 := by
  funext y
  idx_vars y
  pointwise [half, back]

end Cert.MixOut0

end
-- ==== Proof.Mix.Out0Claim.lean ====
/- Layer 0's output product, two halves one after the other, and its gradients of the two halves of the mixer's result: the kernel's are the reference's. -/
module

public import proofs.«01_k».proof.Defs
public import proofs.«01_k».proof.Proof.Mix.Out0
public import proofs.«01_k».proof.Proof.Gen.Reference11Ideal.Run

@[expose] public section

set_option maxRecDepth 16384

noncomputable section

namespace Cert.MixOut0

open Cert.Kernel11Ideal Cert.Kernel11Ideal.Gen Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The four calls run to their end, and every array then holds what the last of them leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The run with its three results named and its arguments as launched. -/
theorem run : θ_run defs (onTc (τ := τ) (main (F := F))) ⟨m, fun _ => 0, ρ⟩ (fun r => ∀ c : Dev nD,
      r.2.mem ((c.tc : Thread nD τ).loc main_v6) = (dat1 (V3 m ρ) c).arrAt 3 cfg1.N
      ∧ r.2.mem ((c.tc : Thread nD τ).loc main_v8) = (dat2 (V5 m ρ) c).arrAt 2 cfg2.N
      ∧ r.2.mem ((c.tc : Thread nD τ).loc main_v10) = (dat3 (V7 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v6 (by decide))).trans ((W8_of m ρ c main_v6 (by decide)).trans ((W7_of m ρ c main_v6 (by decide)).trans ((W6_of m ρ c main_v6 (by decide)).trans ((W5_of m ρ c main_v6 (by decide)).trans (W4_arr m ρ c 3))))),
     (h c _ (mem_uc main_v8 (by decide))).trans ((W8_of m ρ c main_v8 (by decide)).trans ((W7_of m ρ c main_v8 (by decide)).trans (W6_arr m ρ c 2))),
     (h c _ (mem_uc main_v10 (by decide))).trans (W8_arr m ρ c 2),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c)⟩) (run_all m ρ)

end Run

variable (m : (ℓ : Loc nD τ sig) → Buf (Elt Ideal) ℓ) (ρ : Dev nD → PrngReg)

/-- The weight after the first host code: the argument, its format changed. -/
theorem weight_at1 (c : Dev nD) : (V1 m ρ c main_v0 : FVec Ideal S2048x1024 .bf16) = truncf (F := Ideal) (s := S2048x1024) (φ := .f32) .bf16 (m ((c : Thread nD τ).loc main_arg3)) bitsLt_bf16_f32 := by
  show StableHlo.after hostOps0 (W0 m ρ c) _ = _
  after_results

/-- The first half the first call is given: the argument, its format changed. -/
theorem result_at1 (c : Dev nD) : (V1 m ρ c main_v1 : FVec Ideal S8192x1024 .bf16) = truncf (F := Ideal) (s := S8192x1024) (φ := .f32) .bf16 (m ((c : Thread nD τ).loc main_arg1)) bitsLt_bf16_f32 := by
  show StableHlo.after hostOps0 (W0 m ρ c) _ = _
  after_results

/-- The rows of the weight the first call is given. -/
theorem upper_at1 (c : Dev nD) : (V1 m ρ c main_v2 : FVec Ideal S1024x1024 .bf16) = upper (m ((c : Thread nD τ).loc main_arg3)) := by
  show StableHlo.after hostOps0 (W0 m ρ c) _ = _
  after_results
  rfl

/-- The weight after the first call. -/
theorem weight_at2 (c : Dev nD) : (W2 m ρ c (Proc.devRef .tc main_v0) : FVec Ideal S2048x1024 .bf16) = truncf (F := Ideal) (s := S2048x1024) (φ := .f32) .bf16 (m ((c : Thread nD τ).loc main_arg3)) bitsLt_bf16_f32 := by
  rw [W2_of m ρ c main_v0 (by decide)]
  exact weight_at1 m ρ c

/-- The second half the second call is given: the argument, its format changed. -/
theorem result_at3 (c : Dev nD) : (V3 m ρ c main_v4 : FVec Ideal S8192x1024 .bf16) = truncf (F := Ideal) (s := S8192x1024) (φ := .f32) .bf16 (m ((c : Thread nD τ).loc main_arg2)) bitsLt_bf16_f32 := by
  show StableHlo.after hostOps1 (W2 m ρ c) _ = _
  after_results
  rw [W2_args m ρ c main_arg2 (by decide)]

/-- The rows of the weight the second call is given. -/
theorem lower_at3 (c : Dev nD) : (V3 m ρ c main_v5 : FVec Ideal S1024x1024 .bf16) = lower (m ((c : Thread nD τ).loc main_arg3)) := by
  show StableHlo.after hostOps1 (W2 m ρ c) _ = _
  after_results
  rw [weight_at2]
  rfl

/-- The weight after the second call. -/
theorem weight_at4 (c : Dev nD) : (W4 m ρ c (Proc.devRef .tc main_v0) : FVec Ideal S2048x1024 .bf16) = truncf (F := Ideal) (s := S2048x1024) (φ := .f32) .bf16 (m ((c : Thread nD τ).loc main_arg3)) bitsLt_bf16_f32 := by
  rw [W4_of m ρ c main_v0 (by decide), W3_of m ρ c main_v0 (by decide)]
  exact weight_at2 m ρ c

/-- The rows of the weight the third call is given. -/
theorem upper_at5 (c : Dev nD) : (V5 m ρ c main_v7 : FVec Ideal S1024x1024 .bf16) = upper (m ((c : Thread nD τ).loc main_arg3)) := by
  show StableHlo.after hostOps2 (W4 m ρ c) _ = _
  after_results
  rw [weight_at4]
  rfl

/-- The weight after the third call. -/
theorem weight_at6 (c : Dev nD) : (W6 m ρ c (Proc.devRef .tc main_v0) : FVec Ideal S2048x1024 .bf16) = truncf (F := Ideal) (s := S2048x1024) (φ := .f32) .bf16 (m ((c : Thread nD τ).loc main_arg3)) bitsLt_bf16_f32 := by
  rw [W6_of m ρ c main_v0 (by decide), W5_of m ρ c main_v0 (by decide)]
  exact weight_at4 m ρ c

/-- The rows of the weight the fourth call is given. -/
theorem lower_at7 (c : Dev nD) : (V7 m ρ c main_v9 : FVec Ideal S1024x1024 .bf16) = lower (m ((c : Thread nD τ).loc main_arg3)) := by
  show StableHlo.after hostOps3 (W6 m ρ c) _ = _
  after_results
  rw [weight_at6]
  rfl

/-- What the first call leaves, of the arguments: the rows with the first half's product added. -/
theorem first_at3 (c : Dev nD) : V3 m ρ c main_v3 = add (m ((c : Thread nD τ).loc main_arg0)) (m ((c : Thread nD τ).loc main_arg1)) (upper (m ((c : Thread nD τ).loc main_arg3))) := by
  rw [show V3 m ρ c main_v3 = _ from (W3_of m ρ c main_v3 (by decide)).trans (W2_arr m ρ c 3), first_final, result_at1, upper_at1, show V1 m ρ c main_arg0 = _ from W1_args m ρ c main_arg0 (by decide)]
  rfl

/-- The output, of the arguments. -/
theorem first (c : Dev nD) : (dat1 (V3 m ρ) c).arrAt 3 cfg1.N = out (m ((c : Thread nD τ).loc main_arg0)) (m ((c : Thread nD τ).loc main_arg1)) (m ((c : Thread nD τ).loc main_arg2)) (m ((c : Thread nD τ).loc main_arg3)) := by
  rw [second_final, first_at3, result_at3, lower_at3]
  exact add_add _ _ _ _

/-- A gradient given its own shape again is the same gradient. -/
theorem reshaped (d : FVec Ideal S8192x1024 .f32) (w : FVec Ideal S2048x1024 .f32) :
    back (shapeCast Cert.Reference11Ideal.S8192x1024 d Cert.Reference11Ideal.Gen.shapeCasts_S8192x1024_S8192x1024) w = back d w :=
  congrArg (back · w) (shapeCast_self (s := S8192x1024) d Cert.Reference11Ideal.Gen.shapeCasts_S8192x1024_S8192x1024)

/-- The first half's gradient, of the arguments. -/
theorem second (c : Dev nD) : (dat2 (V5 m ρ) c).arrAt 2 cfg2.N = extractStridedSlice S8192x1024 ![0, 0] (back (shapeCast Cert.Reference11Ideal.S8192x1024 (m ((c : Thread nD τ).loc main_arg4)) Cert.Reference11Ideal.Gen.shapeCasts_S8192x1024_S8192x1024) (m ((c : Thread nD τ).loc main_arg3))) Cert.Reference11Ideal.Gen.slices_S8192x2048_S8192x1024_0_0 := by
  rw [third_final, upper_at5, show V5 m ρ c main_arg4 = _ from W5_args m ρ c main_arg4 (by decide)]
  rw [reshaped]
  exact half_upper _ _

/-- The second half's gradient, of the arguments. -/
theorem third (c : Dev nD) : (dat3 (V7 m ρ) c).arrAt 2 cfg3.N = extractStridedSlice S8192x1024 ![0, 1024] (back (shapeCast Cert.Reference11Ideal.S8192x1024 (m ((c : Thread nD τ).loc main_arg4)) Cert.Reference11Ideal.Gen.shapeCasts_S8192x1024_S8192x1024) (m ((c : Thread nD τ).loc main_arg3))) Cert.Reference11Ideal.Gen.slices_S8192x2048_S8192x1024_0_1024 := by
  rw [fourth_final, lower_at7, show V7 m ρ c main_arg4 = _ from W7_args m ρ c main_arg4 (by decide)]
  rw [reshaped]
  exact half_lower _ _

/-- Layer 0's output and the gradients of the mixer's two halves, on real numbers: the kernel's calls leave the reference's. -/
theorem algebraic : Cert.algebraic_Kernel11Ideal_Reference11Ideal (hKernel11Ideal := Cert.Kernel11Ideal.Gen.facts) (hReference11Ideal := Cert.Reference11Ideal.Gen.facts) := by
  intro m ρ m' ρ' _ hargs
  refine ⟨fun c => (dat1 (V3 m ρ) c).arrAt 3 cfg1.N, fun c => (dat2 (V5 m ρ) c).arrAt 2 cfg2.N, fun c => (dat3 (V7 m ρ) c).arrAt 2 cfg3.N, (θ_run _ _ _).mono (fun _ h => h) (run m ρ),
    (θ_run _ _ _).mono (fun r h c => ?_) (Cert.Reference11Ideal.Value.run (F := Ideal) m' ρ')⟩
  obtain ⟨h0, h1, h2, ha⟩ := h c
  obtain ⟨e0, e1, e2, e3, e4⟩ := hargs c
  refine ⟨h0.trans ?_, h1.trans ?_, h2.trans ?_, ha⟩
  · show _ = (dat1 (V3 m ρ) c).arrAt 3 cfg1.N
    rw [first, e0, e1, e2, e3]
  · show _ = (dat2 (V5 m ρ) c).arrAt 2 cfg2.N
    rw [second, e3, e4]
  · show _ = (dat3 (V7 m ρ) c).arrAt 2 cfg3.N
    rw [third, e3, e4]

end Cert.MixOut0

end
-- ==== Proof.Gates.Terms.lean ====
/- The gates' products: a matrix whose diagonal blocks are the gates' weights, and products by it, one block at a time. -/
module

public import proofs.«01_k».proof.Proof.Gen.Kernel12Ideal
public import proofs.«01_k».proof.Proof.Gen.Reference12Ideal
public import Idealize.ShloMosaic.Lib.Pipeline.ValueKit

@[expose] public section

set_option maxRecDepth 16384

noncomputable section

namespace Cert.Gates

open Cert.Kernel12Ideal Cert.Kernel12Ideal.Gen Idealize.ShloMosaic Idealize.ShloMosaic.TcCoe Idealize.SL.Sem

/-- The 16 by 16 identity matrix, as the host makes it: one where the row's number is the column's. -/
abbrev eye : FVec Ideal S16x16 .f32 :=
  uitofp .f32 (cmpi .eq (addi (iotaInDim S16x16 32 0) (broadcastInDim S16x16 ![] bcast_S_S16x16 (constantI S_ 32 0#32))) (iotaInDim S16x16 32 1))

/-- The identity matrix at an entry. -/
theorem eye_entry (i j : Fin 16) : (eye (ix2 i j) : EReal) = if i = j then 1 else 0 := by
  have hb : ∀ i j : Fin 16, IntOp.cmpi .eq (IntOp.addi (BitVec.ofNat 32 i.val) 0#32) (BitVec.ofNat 32 j.val) = if i = j then 1#1 else 0#1 := by decide +kernel
  pointwise [eye]
  rw [hb]
  split_ifs
  · show (((1#1 : BitVec 1).toNat : ℝ) : EReal) = 1
    norm_num
  · show (((0#1 : BitVec 1).toNat : ℝ) : EReal) = 0
    norm_num

/-- The matrix of 1024 rows and columns that has the 16 given blocks on its diagonal. -/
abbrev diag (w : FVec Ideal S16x64x64 .f32) : FVec Ideal S1024x1024 .f32 :=
  shapeCast S1024x1024 (mulf (broadcastInDim S16x64x16x64 ![0, 1, 2, 3] bcast_S16x1x16x1_S16x64x16x64_0_1_2_3 (broadcastInDim S16x1x16x1 ![0, 2] bcast_S16x16_S16x1x16x1_0_2 eye))
    (broadcastInDim S16x64x16x64 ![0, 1, 2, 3] bcast_S16x64x1x64_S16x64x16x64_0_1_2_3 (broadcastInDim S16x64x1x64 ![0, 1, 3] bcast_S16x64x64_S16x64x1x64_0_1_3 w))) shapeCasts_S16x64x16x64_S1024x1024

/-- The forward direction's blocks. -/
abbrev pick0 (w : FVec Ideal S2x16x64x64 .f32) : FVec Ideal S16x64x64 .f32 :=
  shapeCast S16x64x64 (extractStridedSlice S1x16x64x64 ![0, 0, 0, 0] w slices_S2x16x64x64_S1x16x64x64_0_0_0_0) shapeCasts_S1x16x64x64_S16x64x64

/-- The backward direction's blocks. -/
abbrev pick1 (w : FVec Ideal S2x16x64x64 .f32) : FVec Ideal S16x64x64 .f32 :=
  shapeCast S16x64x64 (extractStridedSlice S1x16x64x64 ![1, 0, 0, 0] w slices_S2x16x64x64_S1x16x64x64_1_0_0_0) shapeCasts_S1x16x64x64_S16x64x64

/-- A block's number. -/
abbrev blk (q : Fin 1024) : Fin 16 := ⟨q.val / 64, by omega⟩

/-- A place in its block. -/
abbrev pos (q : Fin 1024) : Fin 64 := ⟨q.val % 64, by omega⟩

/-- A block's place in the whole. -/
abbrev at_ (b : Fin 16) (c : Fin 64) : Fin 1024 := ⟨b.val * 64 + c.val, by omega⟩

/-- The matrix of blocks at an entry: the block's entry on the diagonal, nothing off it. -/
theorem diag_entry (w : FVec Ideal S16x64x64 .f32) (k q : Fin 1024) :
    (diag w (ix2 k q) : EReal) = (if blk k = blk q then 1 else 0) * w (ix3 (blk k) (pos k) (pos q)) := by
  rw [← eye_entry]
  pointwise [diag]

/-- The reference's gate product. -/
abbrev gate (u : FVec Ideal S8192x1024 .f32) (w : FVec Ideal S16x64x64 .f32) : FVec Ideal S8192x1024 .f32 :=
  shapeCast S8192x1024 (transpose Cert.Reference12Ideal.S8192x16x64 [2, 0, 1] (Host.dotGeneral Cert.Reference12Ideal.dot_S16x64x64_S8192x16x64_S16x64x8192_1_2_2_0_0_1 none w (shapeCast Cert.Reference12Ideal.S8192x16x64 u Cert.Reference12Ideal.Gen.shapeCasts_S8192x1024_S8192x16x64)) Cert.Reference12Ideal.Gen.transposes_S16x64x8192_S8192x16x64_2_0_1) Cert.Reference12Ideal.Gen.shapeCasts_S8192x16x64_S8192x1024

/-- The reference's gate product at an entry: a sum over its block. -/
theorem gate_entry (u : FVec Ideal S8192x1024 .f32) (w : FVec Ideal S16x64x64 .f32) (i : Fin 8192) (q : Fin 1024) :
    (gate u w (ix2 i q) : EReal) = ∑ c : Fin 64, u (ix2 i (at_ (blk q) c)) * w (ix3 (blk q) c (pos q)) := by
  pointwise [gate]
  exact Finset.sum_congr rfl fun c _ => mul_comm _ _

/-- A product by the matrix of blocks is a sum over one block: every other entry of the column is nothing. -/
theorem sum_diag (f : Fin 1024 → EReal) (w : FVec Ideal S16x64x64 .f32) (q : Fin 1024) :
    ∑ k : Fin 1024, f k * diag w (ix2 k q) = ∑ c : Fin 64, f (at_ (blk q) c) * w (ix3 (blk q) c (pos q)) := by
  refine Eq.trans (Fin.sum_mul_add_congr (S := 16) (n := 64) (F := fun s c => f (at_ s c) * diag w (ix2 (at_ s c) q)) fun s c hl => rfl).symm ?_
  rw [Finset.sum_eq_single (blk q)]
  · refine Finset.sum_congr rfl fun c _ => ?_
    have hb : blk (at_ (blk q) c) = blk q := Fin.ext (by simp only [at_, blk]; omega)
    have hp : pos (at_ (blk q) c) = c := Fin.ext (by simp only [at_, pos]; omega)
    rw [diag_entry, hb, hp, if_pos rfl, one_mul]
  · intro s _ hs
    refine Finset.sum_eq_zero fun c _ => ?_
    have hb : blk (at_ s c) = s := Fin.ext (by simp only [at_, blk]; omega)
    rw [diag_entry, hb, if_neg hs, zero_mul, mul_zero]
  · exact fun h => absurd (Finset.mem_univ _) h

/-- So is a product by its transpose. -/
theorem sum_diag_transpose (f : Fin 1024 → EReal) (w : FVec Ideal S16x64x64 .f32) (q : Fin 1024) :
    ∑ k : Fin 1024, f k * diag w (ix2 q k) = ∑ d : Fin 64, f (at_ (blk q) d) * w (ix3 (blk q) (pos q) d) := by
  refine Eq.trans (Fin.sum_mul_add_congr (S := 16) (n := 64) (F := fun s c => f (at_ s c) * diag w (ix2 q (at_ s c))) fun s c hl => rfl).symm ?_
  rw [Finset.sum_eq_single (blk q)]
  · refine Finset.sum_congr rfl fun c _ => ?_
    have hb : blk (at_ (blk q) c) = blk q := Fin.ext (by simp only [at_, blk]; omega)
    have hp : pos (at_ (blk q) c) = c := Fin.ext (by simp only [at_, pos]; omega)
    rw [diag_entry, hb, hp, if_pos rfl, one_mul]
  · intro s _ hs
    refine Finset.sum_eq_zero fun c _ => ?_
    have hb : blk (at_ s c) = s := Fin.ext (by simp only [at_, blk]; omega)
    rw [diag_entry, hb, if_neg (fun h => hs h.symm), zero_mul, mul_zero]
  · exact fun h => absurd (Finset.mem_univ _) h

/-- The reference's gradient of the gates' input through one gate, before its blocks are joined. -/
abbrev back (d : FVec Ideal S8192x1024 .f32) (w : FVec Ideal S16x64x64 .f32) : FVec Ideal Cert.Reference12Ideal.S8192x16x64 .f32 :=
  transpose Cert.Reference12Ideal.S8192x16x64 [1, 0, 2] (Host.dotGeneral Cert.Reference12Ideal.dot_S16x64x8192_S16x64x64_S16x8192x64_1_2_2_1_0_0 none (transpose Cert.Reference12Ideal.S16x64x8192 [1, 2, 0] (shapeCast Cert.Reference12Ideal.S8192x16x64 d Cert.Reference12Ideal.Gen.shapeCasts_S8192x1024_S8192x16x64) Cert.Reference12Ideal.Gen.transposes_S8192x16x64_S16x64x8192_1_2_0) w) Cert.Reference12Ideal.Gen.transposes_S16x8192x64_S8192x16x64_1_0_2

/-- The reference's gradient of the gates' input: the two recurrences' and the four gates'. -/
abbrev grad (e0 e1 d0 d1 d2 d3 : FVec Ideal S8192x1024 .f32) (w0 w1 w2 w3 : FVec Ideal S16x64x64 .f32) : FVec Ideal S8192x1024 .f32 :=
  addf (addf e0 e1) (shapeCast S8192x1024 (addf (addf (addf (back d3 w3) (back d2 w2)) (back d1 w1)) (back d0 w0)) Cert.Reference12Ideal.Gen.shapeCasts_S8192x16x64_S8192x1024)

/-- One gate's summand of the gradient at an entry. -/
abbrev share (d : FVec Ideal S8192x1024 .f32) (w : FVec Ideal S16x64x64 .f32) (i : Fin 8192) (q : Fin 1024) : EReal :=
  ∑ c : Fin 64, d (ix2 i (at_ (blk q) c)) * w (ix3 (blk q) (pos q) c)

/-- The gradient at an entry. -/
theorem grad_entry (e0 e1 d0 d1 d2 d3 : FVec Ideal S8192x1024 .f32) (w0 w1 w2 w3 : FVec Ideal S16x64x64 .f32) (i : Fin 8192) (q : Fin 1024) :
    (grad e0 e1 d0 d1 d2 d3 w0 w1 w2 w3 (ix2 i q) : EReal) = share d0 w0 i q + share d1 w1 i q + share d2 w2 i q + share d3 w3 i q + e0 (ix2 i q) + e1 (ix2 i q) := by
  pointwise [grad]
  change e0 (ix2 i q) + e1 (ix2 i q) + (share d3 w3 i q + share d2 w2 i q + share d1 w1 i q + share d0 w0 i q) = _
  generalize share d0 w0 i q = s0, share d1 w1 i q = s1, share d2 w2 i q = s2, share d3 w3 i q = s3
  ac_rfl

/-- What a gate's call leaves: the product of the rows and a matrix. -/
def prod (u : FVec Ideal S8192x1024 .f32) (W : FVec Ideal S1024x1024 .f32) : FVec Ideal S8192x1024 .f32 :=
  fun j => ∑ k : Fin 1024, u (ix2 (j 0) k) * W (ix2 k (j 1))

/-- One summand of what the gradient's call leaves: a row times a row of a matrix. -/
def rowProd (d : FVec Ideal S8192x1024 .f32) (W : FVec Ideal S1024x1024 .f32) (i : Fin 8192) (q : Fin 1024) : EReal :=
  ∑ k : Fin 1024, d (ix2 i k) * W (ix2 q k)

/-- What the gradient's call leaves. -/
def total (e0 e1 d0 d1 d2 d3 : FVec Ideal S8192x1024 .f32) (W0 W1 W2 W3 : FVec Ideal S1024x1024 .f32) : FVec Ideal S8192x1024 .f32 :=
  fun j => rowProd d0 W0 (j 0) (j 1) + rowProd d1 W1 (j 0) (j 1) + rowProd d2 W2 (j 0) (j 1) + rowProd d3 W3 (j 0) (j 1) + e0 j + e1 j

/-- The product by the matrix of blocks is the reference's gate product. -/
theorem prod_diag (u : FVec Ideal S8192x1024 .f32) (w : FVec Ideal S16x64x64 .f32) : prod u (diag w) = gate u w := by
  funext y
  idx_vars y
  rw [gate_entry]
  exact sum_diag (fun k => u (ix2 _ k)) w _

/-- The gradient by the matrices of blocks is the reference's. -/
theorem total_diag (e0 e1 d0 d1 d2 d3 : FVec Ideal S8192x1024 .f32) (w0 w1 w2 w3 : FVec Ideal S16x64x64 .f32) :
    total e0 e1 d0 d1 d2 d3 (diag w0) (diag w1) (diag w2) (diag w3) = grad e0 e1 d0 d1 d2 d3 w0 w1 w2 w3 := by
  have h : ∀ (d : FVec Ideal S8192x1024 .f32) (w : FVec Ideal S16x64x64 .f32) (i : Fin 8192) (q : Fin 1024), rowProd d (diag w) i q = share d w i q :=
    fun d w i q => sum_diag_transpose (fun k => d (ix2 i k)) w q
  funext y
  idx_vars y
  rw [grad_entry, ← h d0, ← h d1, ← h d2, ← h d3]
  rfl

end Cert.Gates

end
-- ==== Proof.Gates.Calls.lean ====
/- The gates' products and the gradient of their input: what the five calls leave. -/
module

public import proofs.«01_k».proof.Proof.Gen.Kernel12Ideal.Frame
public import proofs.«01_k».proof.Proof.Gates.Terms

@[expose] public section

set_option maxRecDepth 16384

noncomputable section

namespace Cert.Gates

open Cert.Kernel12Ideal Cert.Kernel12Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The first gate's blocks at every grid point. -/
theorem idx_first : ∀ t : Fin cfg0.N, win0_0.index t = ![t.val, 0] ∧ win0_1.index t = ![0, 0] ∧ win0_2.index t = ![t.val, 0] :=
  (by decide +kernel : ∀ t : Fin grid0.N, _)

/-- The first gate's call leaves its product. -/
theorem first_final (c : Dev nD) : (dat0 V c).arrAt 2 cfg0.N = prod (V c main_arg0) (V c main_v14) := by
  refine (dat0 V c).arrAt_eq_of_covers 2 _ (by decide +kernel) fun t hf y => ?_
  blk_simp
  rw [after0_2]
  frame_out
  pointwise [k0_pay1, prod]
  blk_point [iblk0, idx_first t]

/-- The second gate's blocks at every grid point. -/
theorem idx_second : ∀ t : Fin cfg1.N, win1_0.index t = ![t.val, 0] ∧ win1_1.index t = ![0, 0] ∧ win1_2.index t = ![t.val, 0] :=
  (by decide +kernel : ∀ t : Fin grid1.N, _)

/-- The second gate's call leaves its product. -/
theorem second_final (c : Dev nD) : (dat1 V c).arrAt 2 cfg1.N = prod (V c main_arg0) (V c main_v29) := by
  refine (dat1 V c).arrAt_eq_of_covers 2 _ (by decide +kernel) fun t hf y => ?_
  blk_simp
  rw [after1_2]
  frame_out
  pointwise [k1_pay1, prod]
  blk_point [iblk1, idx_second t]

/-- The third gate's blocks at every grid point. -/
theorem idx_third : ∀ t : Fin cfg2.N, win2_0.index t = ![t.val, 0] ∧ win2_1.index t = ![0, 0] ∧ win2_2.index t = ![t.val, 0] :=
  (by decide +kernel : ∀ t : Fin grid2.N, _)

/-- The third gate's call leaves its product. -/
theorem third_final (c : Dev nD) : (dat2 V c).arrAt 2 cfg2.N = prod (V c main_arg0) (V c main_v44) := by
  refine (dat2 V c).arrAt_eq_of_covers 2 _ (by decide +kernel) fun t hf y => ?_
  blk_simp
  rw [after2_2]
  frame_out
  pointwise [k2_pay1, prod]
  blk_point [iblk2, idx_third t]

/-- The fourth gate's blocks at every grid point. -/
theorem idx_fourth : ∀ t : Fin cfg3.N, win3_0.index t = ![t.val, 0] ∧ win3_1.index t = ![0, 0] ∧ win3_2.index t = ![t.val, 0] :=
  (by decide +kernel : ∀ t : Fin grid3.N, _)

/-- The fourth gate's call leaves its product. -/
theorem fourth_final (c : Dev nD) : (dat3 V c).arrAt 2 cfg3.N = prod (V c main_arg0) (V c main_v59) := by
  refine (dat3 V c).arrAt_eq_of_covers 2 _ (by decide +kernel) fun t hf y => ?_
  blk_simp
  rw [after3_2]
  frame_out
  pointwise [k3_pay1, prod]
  blk_point [iblk3, idx_fourth t]

/-- The rows' blocks of the gradient's call at every grid point. -/
theorem idx_rows : ∀ t : Fin cfg4.N, win4_0.index t = ![t.val, 0] ∧ win4_1.index t = ![t.val, 0] ∧ win4_2.index t = ![t.val, 0] ∧ win4_3.index t = ![t.val, 0] ∧ win4_8.index t = ![t.val, 0] ∧ win4_9.index t = ![t.val, 0] ∧ win4_10.index t = ![t.val, 0] :=
  (by decide +kernel : ∀ t : Fin grid4.N, _)

/-- The matrices' blocks of the gradient's call at every grid point. -/
theorem idx_matrices : ∀ t : Fin cfg4.N, win4_4.index t = ![0, 0] ∧ win4_5.index t = ![0, 0] ∧ win4_6.index t = ![0, 0] ∧ win4_7.index t = ![0, 0] :=
  (by decide +kernel : ∀ t : Fin grid4.N, _)

/-- The gradient's call leaves the sum of its four products and the two recurrences' gradients. -/
theorem total_final (c : Dev nD) : (dat4 V c).arrAt 10 cfg4.N = total (V c main_arg3) (V c main_arg4) (V c main_v64) (V c main_v65) (V c main_v66) (V c main_v67) (V c main_v14) (V c main_v29) (V c main_v44) (V c main_v59) := by
  refine (dat4 V c).arrAt_eq_of_covers 10 _ (by decide +kernel) fun t hf y => ?_
  blk_simp
  rw [after4_10]
  frame_out
  pointwise [k4_pay1, total, rowProd]
  blk_point [iblk4, idx_rows t, idx_matrices t]

end Cert.Gates

end
-- ==== Proof.Gates.Claim.lean ====
/- The gates' products and the gradient of their input: the kernel's are the reference's. -/
module

public import proofs.«01_k».proof.Defs
public import proofs.«01_k».proof.Proof.Gates.Calls
public import proofs.«01_k».proof.Proof.Gen.Reference12Ideal.Run

@[expose] public section

set_option maxRecDepth 16384
set_option maxHeartbeats 1600000

noncomputable section

namespace Cert.Gates

open Cert.Kernel12Ideal Cert.Kernel12Ideal.Gen Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The five calls run to their end, and every array then holds what the last of them leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

/-- The run with its five results named and its arguments as launched. -/
theorem run : θ_run defs (onTc (τ := τ) (main (F := F))) ⟨m, fun _ => 0, ρ⟩ (fun r => ∀ c : Dev nD,
      r.2.mem ((c.tc : Thread nD τ).loc main_v60) = (dat0 (V1 m ρ) c).arrAt 2 cfg0.N
      ∧ r.2.mem ((c.tc : Thread nD τ).loc main_v61) = (dat1 (V2 m ρ) c).arrAt 2 cfg1.N
      ∧ r.2.mem ((c.tc : Thread nD τ).loc main_v62) = (dat2 (V3 m ρ) c).arrAt 2 cfg2.N
      ∧ r.2.mem ((c.tc : Thread nD τ).loc main_v63) = (dat3 (V4 m ρ) c).arrAt 2 cfg3.N
      ∧ r.2.mem ((c.tc : Thread nD τ).loc main_v68) = (dat4 (V6 m ρ) c).arrAt 10 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_v60 (by decide))).trans ((W7_of m ρ c main_v60 (by decide)).trans ((W6_of m ρ c main_v60 (by decide)).trans ((W5_of m ρ c main_v60 (by decide)).trans ((W4_of m ρ c main_v60 (by decide)).trans ((W3_of m ρ c main_v60 (by decide)).trans (W2_arr m ρ c 2)))))),
     (h c _ (mem_uc main_v61 (by decide))).trans ((W7_of m ρ c main_v61 (by decide)).trans ((W6_of m ρ c main_v61 (by decide)).trans ((W5_of m ρ c main_v61 (by decide)).trans ((W4_of m ρ c main_v61 (by decide)).trans (W3_arr m ρ c 2))))),
     (h c _ (mem_uc main_v62 (by decide))).trans ((W7_of m ρ c main_v62 (by decide)).trans ((W6_of m ρ c main_v62 (by decide)).trans ((W5_of m ρ c main_v62 (by decide)).trans (W4_arr m ρ c 2)))),
     (h c _ (mem_uc main_v63 (by decide))).trans ((W7_of m ρ c main_v63 (by decide)).trans ((W6_of m ρ c main_v63 (by decide)).trans (W5_arr m ρ c 2))),
     (h c _ (mem_uc main_v68 (by decide))).trans (W7_arr m ρ c 10),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c)⟩) (run_all m ρ)

end Run

variable (m : (ℓ : Loc nD τ sig) → Buf (Elt Ideal) ℓ) (ρ : Dev nD → PrngReg)

/-- An array the calls up to the last one's host code leave alone is as after the first host code. -/
theorem kept5 (c : Dev nD) (r : Ref sig .tc) (h0 : ∀ w : Fin cfg0.W, Pipeline.arrRef spec0 w = r → (cfg0.win w).isOut = false) (h1 : ∀ w : Fin cfg1.W, Pipeline.arrRef spec1 w = r → (cfg1.win w).isOut = false)
    (h2 : ∀ w : Fin cfg2.W, Pipeline.arrRef spec2 w = r → (cfg2.win w).isOut = false) (h3 : ∀ w : Fin cfg3.W, Pipeline.arrRef spec3 w = r → (cfg3.win w).isOut = false) :
    W5 m ρ c (Proc.devRef .tc r) = W1 m ρ c (Proc.devRef .tc r) :=
  (W5_of m ρ c r h3).trans ((W4_of m ρ c r h2).trans ((W3_of m ρ c r h1).trans (W2_of m ρ c r h0)))

/-- The first gate's matrix: the argument's blocks on the diagonal. -/
theorem first_at1 (c : Dev nD) : V1 m ρ c main_v14 = diag (pick0 (m ((c : Thread nD τ).loc main_arg1))) := by
  show StableHlo.after hostOps0 (W0 m ρ c) _ = _
  after_results
  rfl

/-- The second gate's matrix: the argument's blocks on the diagonal. -/
theorem second_at1 (c : Dev nD) : V1 m ρ c main_v29 = diag (pick0 (m ((c : Thread nD τ).loc main_arg2))) := by
  show StableHlo.after hostOps0 (W0 m ρ c) _ = _
  after_results
  rfl

/-- The third gate's matrix: the argument's blocks on the diagonal. -/
theorem third_at1 (c : Dev nD) : V1 m ρ c main_v44 = diag (pick1 (m ((c : Thread nD τ).loc main_arg1))) := by
  show StableHlo.after hostOps0 (W0 m ρ c) _ = _
  after_results
  rfl

/-- The fourth gate's matrix: the argument's blocks on the diagonal. -/
theorem fourth_at1 (c : Dev nD) : V1 m ρ c main_v59 = diag (pick1 (m ((c : Thread nD τ).loc main_arg2))) := by
  show StableHlo.after hostOps0 (W0 m ρ c) _ = _
  after_results
  rfl

/-- The first gate's product, of the arguments. -/
theorem first (c : Dev nD) : (dat0 (V1 m ρ) c).arrAt 2 cfg0.N = gate (m ((c : Thread nD τ).loc main_arg0)) (pick0 (m ((c : Thread nD τ).loc main_arg1))) := by
  rw [first_final, show V1 m ρ c main_arg0 = _ from W1_args m ρ c main_arg0 (by decide), show V1 m ρ c main_v14 = _ from first_at1 m ρ c]
  exact prod_diag _ _

/-- The second gate's product, of the arguments. -/
theorem second (c : Dev nD) : (dat1 (V2 m ρ) c).arrAt 2 cfg1.N = gate (m ((c : Thread nD τ).loc main_arg0)) (pick0 (m ((c : Thread nD τ).loc main_arg2))) := by
  rw [second_final, show V2 m ρ c main_arg0 = _ from W2_args m ρ c main_arg0 (by decide), show V2 m ρ c main_v29 = _ from (W2_of m ρ c main_v29 (by decide)).trans (second_at1 m ρ c)]
  exact prod_diag _ _

/-- The third gate's product, of the arguments. -/
theorem third (c : Dev nD) : (dat2 (V3 m ρ) c).arrAt 2 cfg2.N = gate (m ((c : Thread nD τ).loc main_arg0)) (pick1 (m ((c : Thread nD τ).loc main_arg1))) := by
  rw [third_final, show V3 m ρ c main_arg0 = _ from W3_args m ρ c main_arg0 (by decide), show V3 m ρ c main_v44 = _ from (W3_of m ρ c main_v44 (by decide)).trans ((W2_of m ρ c main_v44 (by decide)).trans (third_at1 m ρ c))]
  exact prod_diag _ _

/-- The fourth gate's product, of the arguments. -/
theorem fourth (c : Dev nD) : (dat3 (V4 m ρ) c).arrAt 2 cfg3.N = gate (m ((c : Thread nD τ).loc main_arg0)) (pick1 (m ((c : Thread nD τ).loc main_arg2))) := by
  rw [fourth_final, show V4 m ρ c main_arg0 = _ from W4_args m ρ c main_arg0 (by decide), show V4 m ρ c main_v59 = _ from (W4_of m ρ c main_v59 (by decide)).trans ((W3_of m ρ c main_v59 (by decide)).trans ((W2_of m ρ c main_v59 (by decide)).trans (fourth_at1 m ρ c)))]
  exact prod_diag _ _

/-- The first gate's gradient the last call is given: the argument, its format changed. -/
theorem first_at6 (c : Dev nD) : V6 m ρ c main_v64 = (m ((c : Thread nD τ).loc main_arg5)) := by
  have h : StableHlo.after hostOps4 (W5 m ρ c) main_v64 = truncf .bf16 (show FVec Ideal S8192x1024 .f32 from W5 m ρ c (Proc.devRef .tc main_arg5)) := by
    after_results
  exact h.trans (W5_args m ρ c main_arg5 (by decide))

/-- The second gate's gradient the last call is given: the argument, its format changed. -/
theorem second_at6 (c : Dev nD) : V6 m ρ c main_v65 = (m ((c : Thread nD τ).loc main_arg6)) := by
  have h : StableHlo.after hostOps4 (W5 m ρ c) main_v65 = truncf .bf16 (show FVec Ideal S8192x1024 .f32 from W5 m ρ c (Proc.devRef .tc main_arg6)) := by
    after_results
  exact h.trans (W5_args m ρ c main_arg6 (by decide))

/-- The third gate's gradient the last call is given: the argument, its format changed. -/
theorem third_at6 (c : Dev nD) : V6 m ρ c main_v66 = (m ((c : Thread nD τ).loc main_arg7)) := by
  have h : StableHlo.after hostOps4 (W5 m ρ c) main_v66 = truncf .bf16 (show FVec Ideal S8192x1024 .f32 from W5 m ρ c (Proc.devRef .tc main_arg7)) := by
    after_results
  exact h.trans (W5_args m ρ c main_arg7 (by decide))

/-- The fourth gate's gradient the last call is given: the argument, its format changed. -/
theorem fourth_at6 (c : Dev nD) : V6 m ρ c main_v67 = (m ((c : Thread nD τ).loc main_arg8)) := by
  have h : StableHlo.after hostOps4 (W5 m ρ c) main_v67 = truncf .bf16 (show FVec Ideal S8192x1024 .f32 from W5 m ρ c (Proc.devRef .tc main_arg8)) := by
    after_results
  exact h.trans (W5_args m ρ c main_arg8 (by decide))

/-- The first gate's matrix the last call is given. -/
theorem first_matrix (c : Dev nD) : V6 m ρ c main_v14 = diag (pick0 (m ((c : Thread nD τ).loc main_arg1))) :=
  (W6_of m ρ c main_v14 (by decide)).trans ((kept5 m ρ c main_v14 (by decide) (by decide) (by decide) (by decide)).trans (first_at1 m ρ c))

/-- The second gate's matrix the last call is given. -/
theorem second_matrix (c : Dev nD) : V6 m ρ c main_v29 = diag (pick0 (m ((c : Thread nD τ).loc main_arg2))) :=
  (W6_of m ρ c main_v29 (by decide)).trans ((kept5 m ρ c main_v29 (by decide) (by decide) (by decide) (by decide)).trans (second_at1 m ρ c))

/-- The third gate's matrix the last call is given. -/
theorem third_matrix (c : Dev nD) : V6 m ρ c main_v44 = diag (pick1 (m ((c : Thread nD τ).loc main_arg1))) :=
  (W6_of m ρ c main_v44 (by decide)).trans ((kept5 m ρ c main_v44 (by decide) (by decide) (by decide) (by decide)).trans (third_at1 m ρ c))

/-- The fourth gate's matrix the last call is given. -/
theorem fourth_matrix (c : Dev nD) : V6 m ρ c main_v59 = diag (pick1 (m ((c : Thread nD τ).loc main_arg2))) :=
  (W6_of m ρ c main_v59 (by decide)).trans ((kept5 m ρ c main_v59 (by decide) (by decide) (by decide) (by decide)).trans (fourth_at1 m ρ c))

/-- Equal operands leave equal totals. -/
theorem total_congr {e0 e1 d0 d1 d2 d3 e0' e1' d0' d1' d2' d3' : FVec Ideal S8192x1024 .f32} {W0 W1 W2 W3 W0' W1' W2' W3' : FVec Ideal S1024x1024 .f32}
    (h0 : e0 = e0') (h1 : e1 = e1') (h2 : d0 = d0') (h3 : d1 = d1') (h4 : d2 = d2') (h5 : d3 = d3') (h6 : W0 = W0') (h7 : W1 = W1') (h8 : W2 = W2') (h9 : W3 = W3') :
    total e0 e1 d0 d1 d2 d3 W0 W1 W2 W3 = total e0' e1' d0' d1' d2' d3' W0' W1' W2' W3' := by
  rw [h0, h1, h2, h3, h4, h5, h6, h7, h8, h9]

/-- The gradient of the gates' input, of the arguments. -/
theorem fifth (c : Dev nD) : (dat4 (V6 m ρ) c).arrAt 10 cfg4.N = grad (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (pick0 (m ((c : Thread nD τ).loc main_arg1))) (pick0 (m ((c : Thread nD τ).loc main_arg2))) (pick1 (m ((c : Thread nD τ).loc main_arg1))) (pick1 (m ((c : Thread nD τ).loc main_arg2))) :=
  (total_final (V6 m ρ) c).trans ((total_congr (W6_args m ρ c main_arg3 (by decide)) (W6_args m ρ c main_arg4 (by decide)) (first_at6 m ρ c) (second_at6 m ρ c) (third_at6 m ρ c) (fourth_at6 m ρ c)
    (first_matrix m ρ c) (second_matrix m ρ c) (third_matrix m ρ c) (fourth_matrix m ρ c)).trans (total_diag _ _ _ _ _ _ _ _ _ _))

/-- Equal arguments have equal gate products. -/
theorem gate_congr {u u' : FVec Ideal S8192x1024 .f32} {w w' : FVec Ideal S16x64x64 .f32} (h : u = u') (h' : w = w') : gate u w = gate u' w' := by
  rw [h, h']

/-- Equal arguments have equal gradients. -/
theorem grad_congr {e0 e1 d0 d1 d2 d3 e0' e1' d0' d1' d2' d3' : FVec Ideal S8192x1024 .f32} {r i r' i' : FVec Ideal S2x16x64x64 .f32}
    (h1 : r = r') (h2 : i = i') (h3 : e0 = e0') (h4 : e1 = e1') (h5 : d0 = d0') (h6 : d1 = d1') (h7 : d2 = d2') (h8 : d3 = d3') :
    grad e0 e1 d0 d1 d2 d3 (pick0 r) (pick0 i) (pick1 r) (pick1 i) = grad e0' e1' d0' d1' d2' d3' (pick0 r') (pick0 i') (pick1 r') (pick1 i') := by
  rw [h1, h2, h3, h4, h5, h6, h7, h8]

/-- The gates' products and the gradient of their input, on real numbers: the kernel's calls leave the reference's. -/
theorem algebraic : Cert.algebraic_Kernel12Ideal_Reference12Ideal (hKernel12Ideal := Cert.Kernel12Ideal.Gen.facts) (hReference12Ideal := Cert.Reference12Ideal.Gen.facts) := by
  intro m ρ m' ρ' _ hargs
  refine ⟨fun c => (dat0 (V1 m ρ) c).arrAt 2 cfg0.N, fun c => (dat1 (V2 m ρ) c).arrAt 2 cfg1.N, fun c => (dat2 (V3 m ρ) c).arrAt 2 cfg2.N, fun c => (dat3 (V4 m ρ) c).arrAt 2 cfg3.N, fun c => (dat4 (V6 m ρ) c).arrAt 10 cfg4.N, (θ_run _ _ _).mono (fun _ h => h) (run m ρ),
    (θ_run _ _ _).mono (fun r h c => ?_) (Cert.Reference12Ideal.Value.run (F := Ideal) m' ρ')⟩
  obtain ⟨h0, h1, h2, h3, h4, ha⟩ := h c
  obtain ⟨e0, e1, e2, e3, e4, e5, e6, e7, e8⟩ := hargs c
  refine ⟨h0.trans ?_, h1.trans ?_, h2.trans ?_, h3.trans ?_, h4.trans ?_, ha⟩
  · show _ = (dat0 (V1 m ρ) c).arrAt 2 cfg0.N
    exact (gate_congr e0 (congrArg pick0 e1)).trans (first m ρ c).symm
  · show _ = (dat1 (V2 m ρ) c).arrAt 2 cfg1.N
    exact (gate_congr e0 (congrArg pick0 e2)).trans (second m ρ c).symm
  · show _ = (dat2 (V3 m ρ) c).arrAt 2 cfg2.N
    exact (gate_congr e0 (congrArg pick1 e1)).trans (third m ρ c).symm
  · show _ = (dat3 (V4 m ρ) c).arrAt 2 cfg3.N
    exact (gate_congr e0 (congrArg pick1 e2)).trans (fourth m ρ c).symm
  · show _ = (dat4 (V6 m ρ) c).arrAt 10 cfg4.N
    exact (grad_congr e1 e2 e3 e4 e5 e6 e7 e8).trans (fifth m ρ c).symm

end Cert.Gates

end
-- ==== Proof.Gates.Weight.lean ====
/- A gate's gradient of its weight: what the call leaves, as one product. -/
module

public import proofs.«01_k».proof.Proof.Gen.Kernel13Ideal.Frame
public import proofs.«01_k».proof.Proof.Gen.Reference13Ideal
public import Idealize.ShloMosaic.Lib.Pipeline.ValueKit

@[expose] public section

set_option maxRecDepth 16384

noncomputable section

namespace Cert.GateWeight

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- What the call leaves: the rows' transpose times the incoming gradient. -/
def prod (u D : FVec Ideal S8192x1024 .f32) : FVec Ideal S1024x1024 .f32 :=
  fun j => ∑ k : Fin 8192, u (ix2 k (j 0)) * D (ix2 k (j 1))

/-- The blocks' places at every grid point. -/
theorem idx : ∀ t : Fin cfg0.N, win0_0.index t = ![t.val % 8, 0] ∧ win0_1.index t = ![t.val % 8, 0] ∧ win0_2.index t = ![t.val / 8, 0] :=
  (by decide +kernel : ∀ t : Fin grid0.N, _)

/-- A grid point's number. -/
theorem lt0 (t : Fin cfg0.N) : t.val < 8 := Nat.lt_of_lt_of_eq t.isLt N_0

/-- One step's product at an entry. -/
theorem part_entry (x0 : FVec Ideal S1024x1024 .f32) (x1 : FVec Ideal S1024x1024 .bf16) (p q : Fin 1024) :
    (k0_pay1 (F := Ideal) x0 x1 (ix2 p q) : EReal) = ∑ k : Fin 1024, (x0 (ix2 k p) * x1 (ix2 k q) : EReal) := by
  pointwise [k0_pay1]

/-- The accumulator after the first step of a run. -/
theorem first_entry (x0 : FVec Ideal S1024x1024 .f32) (x1 : FVec Ideal S1024x1024 .bf16) (j : S1024x1024.Idx) :
    (k0_pay2 (F := Ideal) x0 x1 j : EReal) = 0 + ∑ k : Fin 1024, (x0 (ix2 k (j 0)) * x1 (ix2 k (j 1)) : EReal) := by
  idx_vars j
  rw [zero_add]
  pointwise [k0_pay2]
  exact part_entry _ _ _ _

/-- The accumulator after a later step. -/
theorem next_entry (x0 : FVec Ideal S1024x1024 .f32) (x1 : FVec Ideal S1024x1024 .bf16) (acc : FVec Ideal S1024x1024 .f32) (j : S1024x1024.Idx) :
    (k0_pay3 (F := Ideal) x0 x1 acc j : EReal) = acc j + ∑ k : Fin 1024, (x0 (ix2 k (j 0)) * x1 (ix2 k (j 1)) : EReal) := by
  idx_vars j
  pointwise [k0_pay3]
  exact congrArg _ (part_entry _ _ _ _)

/-- At the last step of a run the call writes out what it has accumulated. -/
theorem out_eq (c : Dev nD) (t : Fin cfg0.N) (h : t.val % 8 = 7) : (outsAt0 m c t.val t.isLt).1 = (outsAt0 m c t.val t.isLt).2 := by
  rw [outsAt0_C m c t (by have := lt0 t; omega) (by have := lt0 t; omega) h]
  frame_out

/-- The result array: the rows' transpose times the incoming gradient. -/
theorem final (c : Dev nD) : (dats m 0 c).arrAt 2 cfg0.N = prod (m ((c : Thread nD τ).loc main_arg0)) (V m c main_v0) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 8 (fun _ => (0 : EReal))
    (fun p j => ∑ k : Fin 1024, ((show FVec Ideal S1024x1024 .f32 from iblk m c 0 p) (ix2 k (j 0)) * (show FVec Ideal S1024x1024 .bf16 from iblk m c 1 p) (ix2 k (j 1)) : EReal))
    (fun t h j => by rw [outsAt0_A m c t h (by have := lt0 t; omega) (by have := lt0 t; omega)]; frame_out; exact first_entry _ _ _)
    (fun t h j => by
      by_cases h7 : t.val % 8 = 7
      · rw [outsAt0_C m c t h (by have := lt0 t; omega) h7]; frame_out; exact (congrArg (fun a => k0_pay3 _ _ a j) (Memref.IsWhole.read_unread _ _)).trans (next_entry _ _ _ _)
      · rw [outsAt0_B m c t h (by have := lt0 t; omega) h7]; frame_out; exact (congrArg (fun a => k0_pay3 _ _ a j) (Memref.IsWhole.read_unread _ _)).trans (next_entry _ _ _ _))
    t ((flush0_2 t).mp hf) _, zero_add]
  pointwise [prod]
  refine Fin.sum_mul_add_congr fun s k hl => ?_
  blk_point [iblk, idx t, idx ⟨_, Pipeline.run_point_lt_of_flush t ((flush0_2 t).mp hf) s⟩]

/-- One block of a matrix seen as 16 by 16 blocks. -/
abbrev block (X : FVec Ideal S16x64x16x64 .f32) (o : Fin 4 → ℕ) (h : S16x64x16x64.Slices o S1x64x1x64) : FVec Ideal S1x64x64 .f32 :=
  broadcastInDim S1x64x64 ![1, 2] bcast_S64x64_S1x64x64_1_2 (shapeCast S64x64 (extractStridedSlice S1x64x1x64 o X h) shapeCasts_S1x64x1x64_S64x64)

/-- The blocks on the diagonal, one after another. -/
abbrev stack (X : FVec Ideal S16x64x16x64 .f32) : FVec Ideal S16x64x64 .f32 :=
  concatenate S16x64x64 0 [⟨S1x64x64, block X ![0, 0, 0, 0] slices_S16x64x16x64_S1x64x1x64_0_0_0_0⟩, ⟨S1x64x64, block X ![1, 0, 1, 0] slices_S16x64x16x64_S1x64x1x64_1_0_1_0⟩, ⟨S1x64x64, block X ![2, 0, 2, 0] slices_S16x64x16x64_S1x64x1x64_2_0_2_0⟩, ⟨S1x64x64, block X ![3, 0, 3, 0] slices_S16x64x16x64_S1x64x1x64_3_0_3_0⟩, ⟨S1x64x64, block X ![4, 0, 4, 0] slices_S16x64x16x64_S1x64x1x64_4_0_4_0⟩, ⟨S1x64x64, block X ![5, 0, 5, 0] slices_S16x64x16x64_S1x64x1x64_5_0_5_0⟩, ⟨S1x64x64, block X ![6, 0, 6, 0] slices_S16x64x16x64_S1x64x1x64_6_0_6_0⟩, ⟨S1x64x64, block X ![7, 0, 7, 0] slices_S16x64x16x64_S1x64x1x64_7_0_7_0⟩, ⟨S1x64x64, block X ![8, 0, 8, 0] slices_S16x64x16x64_S1x64x1x64_8_0_8_0⟩, ⟨S1x64x64, block X ![9, 0, 9, 0] slices_S16x64x16x64_S1x64x1x64_9_0_9_0⟩, ⟨S1x64x64, block X ![10, 0, 10, 0] slices_S16x64x16x64_S1x64x1x64_10_0_10_0⟩, ⟨S1x64x64, block X ![11, 0, 11, 0] slices_S16x64x16x64_S1x64x1x64_11_0_11_0⟩, ⟨S1x64x64, block X ![12, 0, 12, 0] slices_S16x64x16x64_S1x64x1x64_12_0_12_0⟩, ⟨S1x64x64, block X ![13, 0, 13, 0] slices_S16x64x16x64_S1x64x1x64_13_0_13_0⟩, ⟨S1x64x64, block X ![14, 0, 14, 0] slices_S16x64x16x64_S1x64x1x64_14_0_14_0⟩, ⟨S1x64x64, block X ![15, 0, 15, 0] slices_S16x64x16x64_S1x64x1x64_15_0_15_0⟩] concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0

/-- An entry of a block. -/
theorem block_entry (X : FVec Ideal S16x64x16x64 .f32) (n : ℕ) (h : S16x64x16x64.Slices ![n, 0, n, 0] S1x64x1x64) (b : Fin 16) (hb : b.val = n) (i : S1x64x64.Idx) (c d : Fin 64) (hc : (i 1).val = c.val) (hd : (i 2).val = d.val) :
    block X ![n, 0, n, 0] h i = X (ix4 b c b d) := by
  subst hb
  idx_vars i
  obtain rfl : i1 = c := Fin.ext hc
  obtain rfl : i2 = d := Fin.ext hd
  pointwise [block]

/-- An entry of the stacked blocks. -/
theorem stack_entry (X : FVec Ideal S16x64x16x64 .f32) (b : Fin 16) (c d : Fin 64) : stack X (ix3 b c d) = X (ix4 b c b d) := by
  unfold stack
  concat_tiles i h
  all_goals exact block_entry X _ _ b h i c d h1 h2

/-- The reference's gradient, of the rows `u` and the incoming gradient `D`. -/
abbrev grad (u D : FVec Ideal S8192x1024 .f32) : FVec Ideal S16x64x64 .f32 :=
  transpose S16x64x64 [0, 2, 1] (Host.dotGeneral Cert.Reference13Ideal.dot_S16x64x8192_S8192x16x64_S16x64x64_2_0_1_2_0_1 none
    (transpose Cert.Reference13Ideal.S16x64x8192 [1, 2, 0] (shapeCast Cert.Reference13Ideal.S8192x16x64 D Cert.Reference13Ideal.Gen.shapeCasts_S8192x1024_S8192x16x64) Cert.Reference13Ideal.Gen.transposes_S8192x16x64_S16x64x8192_1_2_0)
    (shapeCast Cert.Reference13Ideal.S8192x16x64 u Cert.Reference13Ideal.Gen.shapeCasts_S8192x1024_S8192x16x64)) Cert.Reference13Ideal.Gen.transposes_S16x64x64_S16x64x64_0_2_1

/-- The blocks on the diagonal of the product are the reference's gradient. -/
theorem stack_prod (u D : FVec Ideal S8192x1024 .f32) : stack (shapeCast S16x64x16x64 (prod u D) shapeCasts_S1024x1024_S16x64x16x64) = grad u D := by
  funext y
  idx_vars y
  rw [stack_entry]
  pointwise [grad, prod]
  refine Finset.sum_congr rfl fun k _ => ?_
  exact mul_comm _ _

end Cert.GateWeight

end
-- ==== Proof.Gates.WeightClaim.lean ====
/- A gate's gradient of its weight: the kernel's is the reference's. -/
module

public import proofs.«01_k».proof.Defs
public import proofs.«01_k».proof.Proof.Gates.Weight
public import proofs.«01_k».proof.Proof.Gen.Reference13Ideal.Run

@[expose] public section

set_option maxRecDepth 16384

noncomputable section

namespace Cert.GateWeight

open Cert.Kernel13Ideal Cert.Kernel13Ideal.Gen Idealize.ShloMosaic Idealize.ShloMosaic.TcCoe Idealize.SL.Sem

variable (m : (ℓ : Loc nD τ sig) → Buf (Elt Ideal) ℓ) (ρ : Dev nD → PrngReg)

/-- What the call is given as the incoming gradient: the argument, its format changed. -/
theorem given_entry (c : Dev nD) :
    (V m c main_v0 : FVec Ideal S8192x1024 .bf16) = truncf (F := Ideal) (s := S8192x1024) (φ := .f32) .bf16 (m ((c : Thread nD τ).loc main_arg2)) bitsLt_bf16_f32 := by
  entry_read
  rfl

/-- What the host makes of the call's result: the blocks on its diagonal, one after another. -/
theorem host_read (W : Valuation τ sig (Elt Ideal)) :
    StableHlo.after hostOps1 W (Proc.devRef .tc main_v51) = stack (shapeCast S16x64x16x64 (W (Proc.devRef .tc main_v1)) shapeCasts_S1024x1024_S16x64x16x64) := by
  after_results
  rfl

/-- The program's result: the reference's gradient, of the arguments. -/
theorem result_entry (c : Dev nD) : Pipeline.afterTail₀ cfgs (dats m) 0 (V0 m) [hostOps1] c main_v51 = grad (m ((c : Thread nD τ).loc main_arg0)) (m ((c : Thread nD τ).loc main_arg2)) := by
  have hW : Pipeline.withArrays (cfgs 0).spec c (V0 m c) (fun w => (dats m 0 c).arrAt w (cfgs 0).N) (Proc.devRef .tc main_v1) = prod (m ((c : Thread nD τ).loc main_arg0)) (m ((c : Thread nD τ).loc main_arg2)) :=
    (Pipeline.withArrays_arr (cfgs 0).spec winFacts0.arr_inj c (V0 m c) _ 2).trans ((final m c).trans (congrArg (prod _) (given_entry m c)))
  show StableHlo.after ([hostOps1].flatten) _ (Proc.devRef .tc main_v51) = _
  rw [List.flatten_singleton, host_read, hW]
  exact stack_prod _ _

/-- A gate's gradient of its weight, on real numbers: the kernel's call leaves the reference's. -/
theorem algebraic : Cert.algebraic_Kernel13Ideal_Reference13Ideal (hKernel13Ideal := Cert.Kernel13Ideal.Gen.facts) (hReference13Ideal := Cert.Reference13Ideal.Gen.facts) := by
  intro m ρ m' ρ' _ hargs
  refine ⟨fun c => grad (m ((c : Thread nD τ).loc main_arg0)) (m ((c : Thread nD τ).loc main_arg2)), (θ_run _ _ _).mono (fun _ h c => ?_) (θ_run_and (run_main m ρ) (unchanged m ρ)), (θ_run _ _ _).mono (fun r h c => ?_) (Cert.Reference13Ideal.Value.run (F := Ideal) m' ρ')⟩
  · exact ⟨((h.1 c).2 main_v51 (Pipeline.mem_restRefs_of main_v51 (by decide) (by decide))).trans (result_entry m c), h.2 c⟩
  · obtain ⟨h0, ha⟩ := h c
    obtain ⟨e0, e1, e2⟩ := hargs c
    refine ⟨h0.trans ?_, ha⟩
    rw [e0, e2]

end Cert.GateWeight

end
-- ==== Proof.Gates.Post.lean ====
/- The recurrence's gated result and its gradients: what the two calls leave, as the reference's terms. -/
module

public import proofs.«01_k».proof.Proof.Gen.Kernel14Ideal.Frame
public import proofs.«01_k».proof.Proof.Gen.Reference14Ideal
public import Idealize.ShloMosaic.Lib.Pipeline.ValueKit

@[expose] public section

set_option maxRecDepth 16384

noncomputable section

namespace Cert.Post

open Cert.Kernel14Ideal Cert.Kernel14Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- A constant, the same at every entry. -/
abbrev fill (b : BitVec 32) : FVec Ideal S8192x1024 .f32 := broadcastInDim S8192x1024 ![] Cert.Reference14Ideal.Gen.bcast_S_S8192x1024 (constant Cert.Reference14Ideal.S_ .f32 b)

/-- The gate's columns of the projection. -/
abbrev cut (p : FVec Ideal S8192x5120 .f32) : FVec Ideal S8192x1024 .f32 := extractStridedSlice S8192x1024 ![0, 4096] p Cert.Reference14Ideal.Gen.slices_S8192x5120_S8192x1024_0_4096

/-- The hyperbolic tangent inside the gate's activation. -/
abbrev bend (z : FVec Ideal S8192x1024 .f32) : FVec Ideal S8192x1024 .f32 :=
  Host.tanh (mulf (fill 0x3F4C422A#32) (addf z (mulf (fill 0x3D372713#32) (mulf (mulf z z) z))))

/-- The activation over its argument. -/
abbrev share (z : FVec Ideal S8192x1024 .f32) : FVec Ideal S8192x1024 .f32 := mulf (fill 0x3F000000#32) (addf (fill 0x3F800000#32) (bend z))

/-- The reference's result: the two directions' sum, times the activated gate. -/
abbrev out (a b : FVec Ideal S8192x1024 .f32) (p : FVec Ideal S8192x5120 .f32) : FVec Ideal S8192x1024 .bf16 :=
  truncf .bf16 (mulf (addf a b) (mulf (cut p) (share (cut p)))) Cert.Reference14Ideal.Gen.bitsLt_bf16_f32

/-- The reference's gradient of either direction. -/
abbrev back (d : FVec Ideal S8192x1024 .f32) (p : FVec Ideal S8192x5120 .f32) : FVec Ideal S8192x1024 .f32 := mulf d (mulf (cut p) (share (cut p)))

/-- What the tangent's argument receives, of the activated gate's gradient `e`. -/
abbrev inner (e z : FVec Ideal S8192x1024 .f32) : FVec Ideal S8192x1024 .f32 :=
  mulf (fill 0x3F4C422A#32) (mulf (mulf (fill 0x3F000000#32) (mulf z e)) (mulf (addf (fill 0x3F800000#32) (bend z)) (subf (fill 0x3F800000#32) (bend z))))

/-- The activation's gradient, of the activated gate's gradient `e`. -/
abbrev slope (e z : FVec Ideal S8192x1024 .f32) : FVec Ideal S8192x1024 .f32 :=
  addf (addf (mulf e (share z)) (inner e z)) (mulf (mulf (fill 0x3D372713#32) (inner e z)) (mulf (fill 0x40400000#32) (mulf z z)))

/-- The reference's gradient of the gate. -/
abbrev gate (a b d : FVec Ideal S8192x1024 .f32) (p : FVec Ideal S8192x5120 .f32) : FVec Ideal S8192x1024 .bf16 :=
  truncf .bf16 (slope (mulf (addf a b) d) (cut p)) Cert.Reference14Ideal.Gen.bitsLt_bf16_f32

/-- The first call's blocks at every grid point. -/
theorem idx_fwd : ∀ t : Fin cfg0.N, win0_0.index t = ![t.val, 0] ∧ win0_1.index t = ![t.val, 0] ∧ win0_2.index t = ![t.val, 4] ∧ win0_3.index t = ![t.val, 0] :=
  (by decide +kernel : ∀ t : Fin grid0.N, _)

/-- The second call's blocks at every grid point. -/
theorem idx_bwd : ∀ t : Fin cfg1.N, win1_0.index t = ![t.val, 0] ∧ win1_1.index t = ![t.val, 0] ∧ win1_2.index t = ![t.val, 4] ∧ win1_3.index t = ![t.val, 0] ∧ win1_4.index t = ![t.val, 0] ∧ win1_5.index t = ![t.val, 0] :=
  (by decide +kernel : ∀ t : Fin grid1.N, _)

/-- A cube, whichever square comes first. -/
theorem cube_comm (z : EReal) : z * (z * z) = z * z * z := (mul_assoc z z z).symm

/-- The first call leaves the reference's result. -/
theorem out_final (c : Dev nD) : (dat0 V c).arrAt 3 cfg0.N = out (V c main_arg0) (V c main_arg1) (V c main_arg2) := by
  refine (dat0 V c).arrAt_eq_of_covers 3 _ (by decide +kernel) fun t hf y => ?_
  blk_simp
  rw [after0_3]
  frame_out
  pointwise [k0_pay1, out]
  simp only [cube_comm]
  blk_point [iblk0, idx_fwd t]

/-- The second call's first result: the reference's gradient of either direction. -/
theorem back_final (c : Dev nD) : (dat1 V c).arrAt 4 cfg1.N = back (V c main_arg3) (V c main_arg2) := by
  refine (dat1 V c).arrAt_eq_of_covers 4 _ (by decide +kernel) fun t hf y => ?_
  blk_simp
  rw [after1_4]
  frame_out
  pointwise [k1_pay4, k1_pay3, k1_pay2, back]
  simp only [cube_comm]
  blk_point [iblk1, idx_bwd t]

/-- The second call's second result: the reference's gradient of the gate. -/
theorem gate_final (c : Dev nD) : (dat1 V c).arrAt 5 cfg1.N = gate (V c main_arg0) (V c main_arg1) (V c main_arg3) (V c main_arg2) := by
  refine (dat1 V c).arrAt_eq_of_covers 5 _ (by decide +kernel) fun t hf y => ?_
  blk_simp
  rw [after1_5]
  frame_out
  pointwise [k1_pay1, k1_pay5, k1_pay3, k1_pay2, gate]
  simp only [cube_comm]
  blk_point [iblk1, idx_bwd t]

end Cert.Post

end
-- ==== Proof.Gates.PostClaim.lean ====
/- The recurrence's gated result and its gradients: the kernel's are the reference's. -/
module

public import proofs.«01_k».proof.Defs
public import proofs.«01_k».proof.Proof.Gates.Post
public import proofs.«01_k».proof.Proof.Gen.Reference14Ideal.Run

@[expose] public section

set_option maxRecDepth 16384

noncomputable section

namespace Cert.Post

open Cert.Kernel14Ideal Cert.Kernel14Ideal.Gen Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The two calls run to their end, and every array then holds what the last of them leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- The run with its three results named and its arguments as launched. -/
theorem run : θ_run defs (onTc (τ := τ) (main (F := F))) ⟨m, fun _ => 0, ρ⟩ (fun r => ∀ c : Dev nD,
      r.2.mem ((c.tc : Thread nD τ).loc main_v0) = (dat0 (V0 m ρ) c).arrAt 3 cfg0.N
      ∧ r.2.mem ((c.tc : Thread nD τ).loc main_v1_0) = (dat1 (V1 m ρ) c).arrAt 4 cfg1.N
      ∧ r.2.mem ((c.tc : Thread nD τ).loc main_v1_1) = (dat1 (V1 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v0 (by decide))).trans ((W2_of m ρ c main_v0 (by decide)).trans (W1_arr m ρ c 3)),
     (h c _ (mem_uc main_v1_0 (by decide))).trans (W2_arr m ρ c 4),
     (h c _ (mem_uc main_v1_1 (by decide))).trans (W2_arr m ρ c 5),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

end Run

variable (m : (ℓ : Loc nD τ sig) → Buf (Elt Ideal) ℓ) (ρ : Dev nD → PrngReg)

/-- The first call's result, of the arguments. -/
theorem first (c : Dev nD) : (dat0 (V0 m ρ) c).arrAt 3 cfg0.N = out (m ((c : Thread nD τ).loc main_arg0)) (m ((c : Thread nD τ).loc main_arg1)) (m ((c : Thread nD τ).loc main_arg2)) :=
  out_final (V0 m ρ) c

/-- The second call's first result, of the arguments. -/
theorem second (c : Dev nD) : (dat1 (V1 m ρ) c).arrAt 4 cfg1.N = back (m ((c : Thread nD τ).loc main_arg3)) (m ((c : Thread nD τ).loc main_arg2)) := by
  rw [back_final, show V1 m ρ c main_arg3 = _ from W1_args m ρ c main_arg3 (by decide), show V1 m ρ c main_arg2 = _ from W1_args m ρ c main_arg2 (by decide)]

/-- The second call's second result, of the arguments. -/
theorem third (c : Dev nD) : (dat1 (V1 m ρ) c).arrAt 5 cfg1.N = gate (m ((c : Thread nD τ).loc main_arg0)) (m ((c : Thread nD τ).loc main_arg1)) (m ((c : Thread nD τ).loc main_arg3)) (m ((c : Thread nD τ).loc main_arg2)) := by
  rw [gate_final, show V1 m ρ c main_arg0 = _ from W1_args m ρ c main_arg0 (by decide), show V1 m ρ c main_arg1 = _ from W1_args m ρ c main_arg1 (by decide),
    show V1 m ρ c main_arg3 = _ from W1_args m ρ c main_arg3 (by decide), show V1 m ρ c main_arg2 = _ from W1_args m ρ c main_arg2 (by decide)]

/-- The recurrence's gated result and its gradients, on real numbers: the kernel's calls leave the reference's. -/
theorem algebraic : Cert.algebraic_Kernel14Ideal_Reference14Ideal (hKernel14Ideal := Cert.Kernel14Ideal.Gen.facts) (hReference14Ideal := Cert.Reference14Ideal.Gen.facts) := by
  intro m ρ m' ρ' _ hargs
  refine ⟨fun c => (dat0 (V0 m ρ) c).arrAt 3 cfg0.N, fun c => (dat1 (V1 m ρ) c).arrAt 4 cfg1.N, fun c => (dat1 (V1 m ρ) c).arrAt 5 cfg1.N, (θ_run _ _ _).mono (fun _ h => h) (run m ρ),
    (θ_run _ _ _).mono (fun r h c => ?_) (Cert.Reference14Ideal.Value.run (F := Ideal) m' ρ')⟩
  obtain ⟨h0, h1, h2, ha⟩ := h c
  obtain ⟨e0, e1, e2, e3⟩ := hargs c
  refine ⟨h0.trans ?_, h1.trans ?_, h2.trans ?_, ha⟩
  · show _ = (dat0 (V0 m ρ) c).arrAt 3 cfg0.N
    rw [first, e0, e1, e2]
  · show _ = (dat1 (V1 m ρ) c).arrAt 4 cfg1.N
    rw [second, e2, e3]
  · show _ = (dat1 (V1 m ρ) c).arrAt 5 cfg1.N
    unfold Cert.Reference14Ideal.Value.res_main_v39
    rw [third, e0, e1, e2, e3]

end Cert.Post

end
-- ==== Proof.Loss.Head.lean ====
/- The loss and its gradients: what the call leaves, as the reference's terms. -/
module

public import proofs.«01_k».proof.Proof.Gen.Kernel15Ideal.Frame
public import proofs.«01_k».proof.Proof.Gen.Reference15Ideal
public import Idealize.ShloMosaic.Lib.Pipeline.ValueKit

@[expose] public section

set_option maxRecDepth 16384

noncomputable section

namespace Cert.Loss

open Cert.Kernel15Ideal Cert.Kernel15Ideal.Gen Idealize.ShloMosaic Idealize.ShloMosaic.TcCoe Idealize.SL.Sem
open Idealize.ShloMosaic.Pipeline (Dat)
open Cert.Reference15Ideal (S8192 S8192x1 S_)
open Cert.Reference15Ideal.Gen (bcast_S8192_S8192x1_0 reducesTo_S8192x1024_S8192_d1 h_S_ bcast_S_S8192x1 bcast_S8192x1_S8192x1024_0_1 bcast_S1x1024_S8192x1024_0_1 bcast_S_S8192 bcast_S8192_S8192x1024_0 bcast_S_S8192x1024
  reducesTo_S8192x1024_S1024_d0 reducesTo_S8192_S_d0 bcast_S_S1x128 shapeCasts_S8192_S8192x1 reducesTo_S8192x1_S8192_d1)

variable (m : (ℓ : Loc nD τ sig) → Buf (Elt Ideal) ℓ)

/-- The mean square of each row, with the constant that keeps it from zero. -/
abbrev level (x : FVec Ideal S8192x1024 .f32) : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The reciprocal root mean square of each row. -/
abbrev scale (x : FVec Ideal S8192x1024 .f32) : FVec Ideal S8192x1 .f32 := Host.rsqrt (level x)

/-- The rows scaled to unit root mean square. -/
abbrev unit (x : FVec Ideal S8192x1024 .f32) : FVec Ideal S8192x1024 .f32 := mulf x (broadcastInDim S8192x1024 ![0, 1] bcast_S8192x1_S8192x1024_0_1 (scale x))

/-- The normalised rows' difference from the target. -/
abbrev err (x t : FVec Ideal S8192x1024 .f32) (g : FVec Ideal S1x1024 .f32) : FVec Ideal S8192x1024 .f32 :=
  subf (mulf (unit x) (broadcastInDim S8192x1024 ![0, 1] bcast_S1x1024_S8192x1024_0_1 g)) t

/-- The loss: half the sum of the rows' mean squared differences. -/
abbrev loss (x t : FVec Ideal S8192x1024 .f32) (g : FVec Ideal S1x1024 .f32) : FVec Ideal S1x128 .f32 :=
  broadcastInDim S1x128 ![] bcast_S_S1x128 (mulf (constant S_ .f32 0x3F000000#32) (Host.reduceAdd (Host.divf (Host.reduceAdd (mulf (err x t g) (err x t g)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

/-- The normalised rows' gradient, of their difference `e` from the target. -/
abbrev seedOf (e : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32))))
    (mulf (broadcastInDim S8192x1024 ![] bcast_S_S8192x1024 (constant S_ .f32 0x40000000#32)) e)

/-- The normalised rows' gradient. -/
abbrev seed (x t : FVec Ideal S8192x1024 .f32) (g : FVec Ideal S1x1024 .f32) : FVec Ideal S8192x1024 .f32 := seedOf (err x t g)

/-- The norm's weight's gradient, of the normalised rows' gradient `e`. -/
abbrev gradNorm (x e : FVec Ideal S8192x1024 .f32) : FVec Ideal S1x1024 .f32 :=
  shapeCast S1x1024 (Host.reduceAdd (mulf (unit x) e) (constant S_ .f32 0x00000000#32) reducesTo_S8192x1024_S1024_d0 h_S_) Cert.Reference15Ideal.Gen.shapeCasts_S1024_S1x1024

/-- What each row's mean square receives, of the gradient `u` of the rows scaled to unit root mean square. -/
abbrev pull (x u : FVec Ideal S8192x1024 .f32) : FVec Ideal S8192x1024 .f32 :=
  broadcastInDim S8192x1024 ![0] bcast_S8192_S8192x1024_0 (Host.reduceAdd (Host.divf (mulf (shapeCast S8192x1 (Host.reduceAdd (mulf x u) (constant S_ .f32 0x00000000#32) reducesTo_S8192x1024_S8192_d1 h_S_) shapeCasts_S8192_S8192x1) (mulf (broadcastInDim S8192x1 ![] bcast_S_S8192x1 (constant S_ .f32 0xBF000000#32)) (Host.divf (scale x) (level x)))) (broadcastInDim S8192x1 ![] bcast_S_S8192x1 (constant S_ .f32 0x44800000#32))) (constant S_ .f32 0x00000000#32) reducesTo_S8192x1_S8192_d1 h_S_)

/-- The rows' gradient, of the normalised rows' gradient `e`. -/
abbrev gradRows (x : FVec Ideal S8192x1024 .f32) (g : FVec Ideal S1x1024 .f32) (e : FVec Ideal S8192x1024 .f32) : FVec Ideal S8192x1024 .f32 :=
  addf (addf (mulf (mulf e (broadcastInDim S8192x1024 ![0, 1] bcast_S1x1024_S8192x1024_0_1 g)) (broadcastInDim S8192x1024 ![0, 1] bcast_S8192x1_S8192x1024_0_1 (scale x)))
    (mulf x (pull x (mulf e (broadcastInDim S8192x1024 ![0, 1] bcast_S1x1024_S8192x1024_0_1 g)))))
    (mulf (pull x (mulf e (broadcastInDim S8192x1024 ![0, 1] bcast_S1x1024_S8192x1024_0_1 g))) x)

/-- One row's summand of the norm's weight's gradient. -/
@[irreducible] def normTerm (A B : FVec Ideal S8192x1024 .f32) (W : FVec Ideal S1x1024 .f32) (i : Fin 8192) (q : Fin 1024) : EReal := unit A (ix2 i q) * seed A B W (ix2 i q)

/-- The blocks' places at every grid point. -/
theorem idx : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![0, 0] :=
  (by decide +kernel : ∀ t : Fin grid0.N, _)

/-- A grid point's number. -/
theorem lt0 (t : Fin cfg0.N) : t.val < 16 := Nat.lt_of_lt_of_eq t.isLt N_0

/-- A row of a grid point's block in the whole array. -/
abbrev rowAt (t : Fin cfg0.N) (p : Fin 512) : Fin 8192 := ⟨t.val * 512 + p.val, by have := lt0 t; omega⟩

/-- The argument rows. -/
abbrev X (c : Dev nD) : FVec Ideal S8192x1024 .f32 := m ((c : Thread nD τ).loc main_arg0)

/-- The argument targets. -/
abbrev T (c : Dev nD) : FVec Ideal S8192x1024 .f32 := m ((c : Thread nD τ).loc main_arg1)

/-- The argument weight of the norm. -/
abbrev G (c : Dev nD) : FVec Ideal S1x1024 .f32 := m ((c : Thread nD τ).loc main_arg2)

/-- The rows' block at an entry. -/
theorem rows_entry (c : Dev nD) (t : Fin cfg0.N) (p : Fin 512) (k : Fin 1024) :
    ((show FVec Ideal S512x1024 .f32 from iblk m c 0 t) (ix2 p k) : EReal) = X m c (ix2 (rowAt t p) k) := by
  blk_point [iblk, idx t]

/-- The targets' block at an entry. -/
theorem target_entry (c : Dev nD) (t : Fin cfg0.N) (p : Fin 512) (k : Fin 1024) :
    ((show FVec Ideal S512x1024 .f32 from iblk m c 1 t) (ix2 p k) : EReal) = T m c (ix2 (rowAt t p) k) := by
  blk_point [iblk, idx t]

/-- The norm's weight's block at an entry. -/
theorem weight_entry (c : Dev nD) (t : Fin cfg0.N) (k : Fin 1024) :
    ((show FVec Ideal S1x1024 .f32 from iblk m c 2 t) (ix2 0 k) : EReal) = G m c (ix2 0 k) := by
  blk_point [iblk, idx t]

section Block

variable (A B : FVec Ideal S8192x1024 .f32) (W : FVec Ideal S1x1024 .f32) (x y : FVec Ideal S512x1024 .f32) (w : FVec Ideal S1x1024 .f32) (r : Fin 512 → Fin 8192)
variable (hx : ∀ (p : Fin 512) (k : Fin 1024), (x (ix2 p k) : EReal) = A (ix2 (r p) k)) (hy : ∀ (p : Fin 512) (k : Fin 1024), (y (ix2 p k) : EReal) = B (ix2 (r p) k)) (hw : ∀ k : Fin 1024, (w (ix2 0 k) : EReal) = W (ix2 0 k))

include hx hy hw

/-- A block's difference from the target is the whole array's. -/
theorem err_point (p : Fin 512) (q : Fin 1024) : (k0_pay10 (F := Ideal) y x w (ix2 p q) : EReal) = err A B W (ix2 (r p) q) := by
  pointwise [k0_pay10, k0_pay9, k0_pay7, k0_pay6, err]
  simp only [hx, hy, hw]

/-- A block's normalised rows' gradient is the whole array's. -/
theorem seed_point (p : Fin 512) (q : Fin 1024) : (k0_pay12 (F := Ideal) y x w (ix2 p q) : EReal) = seed A B W (ix2 (r p) q) := by
  have h := err_point A B W x y w r hx hy hw p q
  show _ = seedOf (err A B W) _
  generalize err A B W = E at h ⊢
  pointwise [k0_pay12, seedOf]
  rw [h]

/-- A block's rows' gradient is the whole array's. -/
theorem rows_point (p : Fin 512) (q : Fin 1024) : (k0_pay1 (F := Ideal) x w (k0_pay7 x) (k0_pay8 x) (k0_pay12 y x w) (ix2 p q) : EReal) = gradRows A W (seed A B W) (ix2 (r p) q) := by
  have h := fun q => seed_point A B W x y w r hx hy hw p q
  generalize seed A B W = E at h ⊢
  generalize k0_pay12 (F := Ideal) y x w = e at h ⊢
  pointwise [k0_pay1, k0_pay8, k0_pay7, k0_pay6, gradRows]
  simp only [hx, hy, hw, h]

/-- A block's part of the norm's weight's gradient. -/
theorem norm_part (q : Fin 1024) : (k0_pay13 (F := Ideal) y x w (ix2 0 q) : EReal) = ∑ p : Fin 512, normTerm A B W (r p) q := by
  unfold normTerm
  have h := seed_point A B W x y w r hx hy hw
  generalize seed A B W = E at h ⊢
  generalize he : k0_pay12 (F := Ideal) y x w = e at h
  pointwise [k0_pay13, k0_pay9, k0_pay7, k0_pay6, unit]
  rw [he]
  simp only [hx, h]

/-- A block's part of the loss. -/
theorem loss_part : (k0_pay11 (F := Ideal) y x w : EReal) = Ideal.ofBits .f32 0x3F000000#32 * ∑ p : Fin 512, Ideal.div (∑ k : Fin 1024, (err A B W (ix2 (r p) k) * err A B W (ix2 (r p) k) : EReal)) (Ideal.ofBits .f32 0x44800000#32) := by
  have h := err_point A B W x y w r hx hy hw
  generalize err A B W = E at h ⊢
  generalize he : k0_pay10 (F := Ideal) y x w = e at h
  pointwise [k0_pay11]
  rw [he]
  simp only [h]

end Block

/-- One step of the norm's weight's gradient. -/
theorem norm_step (p acc : FVec Ideal S1x1024 .f32) (j : S1x1024.Idx) : (k0_pay4 (F := Ideal) p acc j : EReal) = acc j + p j := by
  idx_vars j
  pointwise [k0_pay4]

/-- The norm's weight's gradient starts at zero. -/
theorem norm_start (j : S1x1024.Idx) : (k0_pay2 (F := Ideal) j : EReal) = 0 := by
  pointwise [k0_pay2]

/-- One step of the loss. -/
theorem loss_step (p : Ideal .f32) (acc : FVec Ideal S1x128 .f32) (j : S1x128.Idx) : (k0_pay5 (F := Ideal) p acc j : EReal) = acc j + p := by
  idx_vars j
  pointwise [k0_pay5]

/-- The loss starts at zero. -/
theorem loss_start (j : S1x128.Idx) : (k0_pay3 (F := Ideal) j : EReal) = 0 := by
  pointwise [k0_pay3]

/-- What a grid point leaves in the rows' gradient's block. -/
theorem outs_rows (c : Dev nD) (t : Fin cfg0.N) :
    (outsAt0 m c t.val t.isLt).1 = k0_pay1 (F := Ideal) (iblk m c 0 t) (iblk m c 2 t) (k0_pay7 (iblk m c 0 t)) (k0_pay8 (iblk m c 0 t)) (k0_pay12 (iblk m c 1 t) (iblk m c 0 t) (iblk m c 2 t)) := by
  by_cases h : t.val % 16 = 0
  · rw [outsAt0_A m c t h]
    frame_out
  · rw [outsAt0_B m c t h]
    frame_out

/-- The call's first result: the rows' gradient. -/
theorem rows_final (c : Dev nD) : (dats m 0 c).arrAt 3 cfg0.N = gradRows (X m c) (G m c) (seed (X m c) (T m c) (G m c)) := by
  refine (dats m 0 c).arrAt_eq_of_covers 3 _ (by decide +kernel) fun t hf y => ?_
  blk_simp
  rw [after0_3, outs_rows]
  idx_vars y
  refine (rows_point (X m c) (T m c) (G m c) _ _ _ (rowAt t) (rows_entry m c t) (target_entry m c t) (weight_entry m c t) _ _).trans ?_
  generalize gradRows (X m c) (G m c) (seed (X m c) (T m c) (G m c)) = E
  blk_point [idx t]

/-- The reference's gradient of the norm's weight at an entry. -/
theorem gradNorm_entry (A e : FVec Ideal S8192x1024 .f32) (j : S1x1024.Idx) : (gradNorm A e j : EReal) = ∑ r : Fin 8192, (unit A (ix2 r (j 1)) * e (ix2 r (j 1)) : EReal) := by
  idx_vars j
  show gradNorm A e _ = ∑ r : Fin 8192, (mulf (unit A) e (ix2 r j1) : EReal)
  unfold gradNorm
  generalize mulf (unit A) e = E
  pointwise []

/-- A grid point's part of the norm's weight's gradient. -/
theorem norm_block (c : Dev nD) (t : Fin cfg0.N) (j : S1x1024.Idx) :
    (k0_pay13 (F := Ideal) (iblk m c 1 t) (iblk m c 0 t) (iblk m c 2 t) j : EReal) = ∑ p : Fin 512, normTerm (X m c) (T m c) (G m c) (rowAt t p) (j 1) := by
  rw [show j = ix2 0 (j 1) from by idx_vars j; exact congrArg (ix2 · _) (Subsingleton.elim _ _)]
  exact norm_part (X m c) (T m c) (G m c) _ _ _ (rowAt t) (rows_entry m c t) (target_entry m c t) (weight_entry m c t) (j 1)

/-- The accumulator of the norm's weight's gradient after the first grid point. -/
theorem norm_first (c : Dev nD) (t : Fin cfg0.N) (h : t.val % 16 = 0) (j : S1x1024.Idx) :
    ((outsAt0 m c t.val t.isLt).2.1 j : EReal) = 0 + ∑ p : Fin 512, normTerm (X m c) (T m c) (G m c) (rowAt t p) (j 1) := by
  rw [outsAt0_A m c t h]; frame_out
  exact (norm_step _ _ _).trans (congrArg₂ (· + ·) (norm_start _) (norm_block m c t _))

/-- The reference's gradient of the norm's weight, as the sum of its rows' summands. -/
theorem gradNorm_sum (A B : FVec Ideal S8192x1024 .f32) (W : FVec Ideal S1x1024 .f32) (j : S1x1024.Idx) : (gradNorm A (seed A B W) j : EReal) = ∑ i : Fin 8192, normTerm A B W i (j 1) := by
  unfold normTerm
  exact gradNorm_entry A (seed A B W) j

/-- The call's second result: the norm's weight's gradient. -/
theorem norm_final (c : Dev nD) : (dats m 0 c).arrAt 4 cfg0.N = gradNorm (X m c) (seed (X m c) (T m c) (G m c)) := by
  refine (dats m 0 c).arrAt_eq_of_covers 4 _ (by decide +kernel) fun t hf y => ?_
  blk_simp
  rw [after0_4, Pipeline.eq_sum_fin_of_reset_step_apply_of_flush (fun n h => (outsAt0 m c n h).2.1) 16 (fun _ => (0 : EReal))
    (fun p j => ∑ r : Fin 512, normTerm (X m c) (T m c) (G m c) (rowAt p r) (j 1))
    (norm_first m c)
    (fun t h j => by
      rw [outsAt0_B m c t h]; frame_out
      exact (norm_step _ _ _).trans (congrArg₂ (· + ·) rfl (norm_block m c t _)))
    t ((flush0_4 t).mp hf) _, zero_add, gradNorm_sum]
  refine Fin.sum_mul_add_congr fun s k hl => ?_
  have ht := lt0 t
  refine congrArg₂ (normTerm (X m c) (T m c) (G m c)) (Fin.ext ?_) (Fin.ext ?_)
  · show (16 * (t.val / 16) + s.val) * 512 + k.val = s.val * 512 + k.val
    omega
  · blk_simp [idx t]

/-- A half of a finite sum is the sum of the halves. -/
theorem half_sum {n : ℕ} (f : Fin n → EReal) : Ideal.ofBits .f32 0x3F000000#32 * ∑ s, f s = ∑ s, Ideal.ofBits .f32 0x3F000000#32 * f s := by
  have hc : Ideal.ofBits .f32 0x3F000000#32 = ((1 / 2 : ℝ) : EReal) := by
    simp [Ideal.ofBits, Ideal.ieee, -EReal.coe_mul]; norm_num
  rw [hc]
  induction n with
  | zero => simp
  | succ n ih => rw [Fin.sum_univ_succ, Fin.sum_univ_succ, ← ih, EReal.left_distrib_of_nonneg_of_ne_top (by exact_mod_cast (by norm_num : (0 : ℝ) ≤ 1 / 2)) (EReal.coe_ne_top _)]

/-- One row's mean squared difference. -/
abbrev rowLoss (e : FVec Ideal S8192x1024 .f32) (i : Fin 8192) : EReal := Ideal.div (∑ k : Fin 1024, (e (ix2 i k) * e (ix2 i k) : EReal)) (Ideal.ofBits .f32 0x44800000#32)

/-- The reference's loss at an entry. -/
theorem loss_entry (A B : FVec Ideal S8192x1024 .f32) (W : FVec Ideal S1x1024 .f32) (j : S1x128.Idx) : (loss A B W j : EReal) = Ideal.ofBits .f32 0x3F000000#32 * ∑ i : Fin 8192, rowLoss (err A B W) i := by
  idx_vars j
  unfold loss
  generalize err A B W = E
  pointwise []

/-- The call's third result: the loss. -/
theorem loss_final (c : Dev nD) : (dats m 0 c).arrAt 5 cfg0.N = loss (X m c) (T m c) (G m c) := by
  refine (dats m 0 c).arrAt_eq_of_covers 5 _ (by decide +kernel) fun t hf y => ?_
  blk_simp
  rw [after0_5, Pipeline.eq_sum_fin_of_reset_step_apply_of_flush (fun n h => (outsAt0 m c n h).2.2) 16 (fun _ => (0 : EReal))
    (fun p j => Ideal.ofBits .f32 0x3F000000#32 * ∑ r : Fin 512, rowLoss (err (X m c) (T m c) (G m c)) (rowAt p r))
    (fun t h j => by
      rw [outsAt0_A m c t h]; frame_out
      exact (loss_step _ _ _).trans (congrArg₂ (· + ·) (loss_start _) (loss_part (X m c) (T m c) (G m c) _ _ _ (rowAt t) (rows_entry m c t) (target_entry m c t) (weight_entry m c t))))
    (fun t h j => by
      rw [outsAt0_B m c t h]; frame_out
      exact (loss_step _ _ _).trans (congrArg₂ (· + ·) rfl (loss_part (X m c) (T m c) (G m c) _ _ _ (rowAt t) (rows_entry m c t) (target_entry m c t) (weight_entry m c t))))
    t ((flush0_5 t).mp hf) _, zero_add, loss_entry]
  generalize err (X m c) (T m c) (G m c) = E
  rw [← half_sum]
  refine congrArg _ (Fin.sum_mul_add_congr fun s k hl => ?_)
  have ht := lt0 t
  refine congrArg (rowLoss E) (Fin.ext ?_)
  show (16 * (t.val / 16) + s.val) * 512 + k.val = s.val * 512 + k.val
  omega

end Cert.Loss

end
-- ==== Proof.Loss.HeadClaim.lean ====
/- The loss and its gradients: the kernel's are the reference's. -/
module

public import proofs.«01_k».proof.Defs
public import proofs.«01_k».proof.Proof.Loss.Head
public import proofs.«01_k».proof.Proof.Gen.Kernel15Ideal.Value
public import proofs.«01_k».proof.Proof.Gen.Reference15Ideal.Run

@[expose] public section

set_option maxRecDepth 16384

noncomputable section

namespace Cert.Loss

open Cert.Kernel15Ideal Cert.Kernel15Ideal.Gen Idealize.ShloMosaic Idealize.ShloMosaic.TcCoe Idealize.SL.Sem

/-- The loss with its gradients with respect to the rows and to the norm's weight, on real numbers: the kernel's call leaves the reference's. -/
theorem algebraic : Cert.algebraic_Kernel15Ideal_Reference15Ideal (hKernel15Ideal := Cert.Kernel15Ideal.Gen.facts) (hReference15Ideal := Cert.Reference15Ideal.Gen.facts) := by
  intro m ρ m' ρ' _ hargs
  refine ⟨fun c => (dats m 0 c).arrAt 3 cfg0.N, fun c => (dats m 0 c).arrAt 4 cfg0.N, fun c => (dats m 0 c).arrAt 5 cfg0.N, (θ_run _ _ _).mono (fun _ h => h) (Value.run_blocks m ρ),
    (θ_run _ _ _).mono (fun r h c => ?_) (Cert.Reference15Ideal.Value.run (F := Ideal) m' ρ')⟩
  obtain ⟨h0, h1, h2, ha⟩ := h c
  obtain ⟨e0, e1, e2⟩ := hargs c
  refine ⟨h0.trans ?_, h1.trans ?_, h2.trans ?_, ha⟩
  · show _ = (dats m 0 c).arrAt 3 cfg0.N
    unfold Cert.Reference15Ideal.Value.res_main_v49
    rw [rows_final m c, e0, e1, e2]
  · show _ = (dats m 0 c).arrAt 4 cfg0.N
    rw [norm_final m c, e0, e1, e2]
  · show _ = (dats m 0 c).arrAt 5 cfg0.N
    rw [loss_final m c, e0, e1, e2]

end Cert.Loss

end
-- ==== Proof.Mix.StepWeight.lean ====
/- The time steps' gradient of their projection's weight: what the call leaves, as one product. -/
module

public import proofs.«01_k».proof.Proof.Gen.Kernel16Ideal.Value
public import proofs.«01_k».proof.Proof.Gen.Reference16Ideal
public import Idealize.ShloMosaic.Lib.Pipeline.ValueKit

@[expose] public section

set_option maxRecDepth 16384

noncomputable section

namespace Cert.StepWeight

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- The reference's product, of the normalised rows `R` and the time steps' gradient `D`. -/
abbrev prod (R : FVec Ideal S8192x1024 .f32) (D : FVec Ideal S8192x128 .f32) : FVec Ideal S1024x128 .f32 :=
  transpose S1024x128 [1, 0] (Host.dotGeneral Cert.Reference16Ideal.dot_S8192x128_S8192x1024_S128x1024_0_0_1_1_n_n none D R)
    Cert.Reference16Ideal.Gen.transposes_S128x1024_S1024x128_1_0

/-- The blocks' places: a grid point reads its own 1024 rows, and the result is one block. -/
theorem idx : ∀ t : Fin cfg0.N, win0_0.index t = ![t.val % 8, 0] ∧ win0_1.index t = ![t.val % 8, 0] ∧ win0_2.index t = ![0, 0] :=
  (by decide +kernel : ∀ t : Fin grid0.N, _)

/-- A grid point's number. -/
theorem lt0 (t : Fin cfg0.N) : t.val < 8 := Nat.lt_of_lt_of_eq t.isLt N_0

/-- The product of 1024 rows at an entry. -/
abbrev rowsProd (a : FVec Ideal S1024x1024 .bf16) (b : FVec Ideal S1024x128 .f32) (j : S1024x128.Idx) : EReal := ∑ k : Fin 1024, (a (ix2 k (j 0)) * b (ix2 k (j 1)) : EReal)

/-- A grid point's product is the product of its rows. -/
theorem part_entry (a : FVec Ideal S1024x1024 .bf16) (b : FVec Ideal S1024x128 .f32) (j : S1024x128.Idx) : (k0_pay1 (F := Ideal) a b j : EReal) = rowsProd a b j := by
  idx_vars j
  pointwise [k0_pay1, rowsProd]

/-- The accumulator after the first grid point. -/
theorem first_entry (a : FVec Ideal S1024x1024 .bf16) (b : FVec Ideal S1024x128 .f32) (j : S1024x128.Idx) : (k0_pay2 (F := Ideal) a b j : EReal) = 0 + rowsProd a b j := by
  rw [zero_add, ← part_entry]
  idx_vars j
  pointwise [k0_pay2]

/-- The accumulator after a later grid point. -/
theorem next_entry (a : FVec Ideal S1024x1024 .bf16) (b : FVec Ideal S1024x128 .f32) (acc : FVec Ideal S1024x128 .f32) (j : S1024x128.Idx) :
    (k0_pay3 (F := Ideal) a b acc j : EReal) = acc j + rowsProd a b j := by
  rw [← part_entry]
  idx_vars j
  pointwise [k0_pay3]

/-- The last grid point writes out what has been accumulated. -/
theorem out_eq (c : Dev nD) (t : Fin cfg0.N) (h : t.val % 8 = 7) : (outsAt0 m c t.val t.isLt).1 = (outsAt0 m c t.val t.isLt).2 := by
  rw [outsAt0_C m c t (by have := lt0 t; omega) (by have := lt0 t; omega) h]
  frame_out

/-- The result array: the normalised rows' transpose times the time steps' gradient. -/
theorem final (c : Dev nD) : (dats m 0 c).arrAt 2 cfg0.N = prod (V m c main_v12) (m ((c : Thread nD τ).loc main_arg3)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 8 (fun _ => (0 : EReal))
    (fun p j => rowsProd (iblk m c 0 p) (iblk m c 1 p) j)
    (fun t h j => by rw [outsAt0_A m c t h (by have := lt0 t; omega) (by have := lt0 t; omega)]; frame_out; exact first_entry _ _ _)
    (fun t h j => by
      by_cases h7 : t.val % 8 = 7
      · rw [outsAt0_C m c t h (by have := lt0 t; omega) h7]; frame_out; exact (congrArg (fun a => k0_pay3 _ _ a j) (Memref.IsWhole.read_unread _ _)).trans (next_entry _ _ _ _)
      · rw [outsAt0_B m c t h (by have := lt0 t; omega) h7]; frame_out; exact (congrArg (fun a => k0_pay3 _ _ a j) (Memref.IsWhole.read_unread _ _)).trans (next_entry _ _ _ _))
    t ((flush0_2 t).mp hf) _, zero_add]
  pointwise [prod]
  refine Fin.sum_mul_add_congr fun s k hl => ?_
  rw [mul_comm]
  blk_point [iblk, idx t, idx ⟨_, Pipeline.run_point_lt_of_flush t ((flush0_2 t).mp hf) s⟩]

end Cert.StepWeight

end
-- ==== Proof.Mix.StepWeightClaim.lean ====
/- The time steps' gradient of their projection's weight: the kernel's is the reference's. -/
module

public import proofs.«01_k».proof.Defs
public import proofs.«01_k».proof.Proof.Mix.StepWeight
public import proofs.«01_k».proof.Proof.Mlp.Terms
public import proofs.«01_k».proof.Proof.Gen.Reference16Ideal.Run

@[expose] public section

set_option maxRecDepth 16384

noncomputable section

namespace Cert.StepWeight

open Cert.Kernel16Ideal Cert.Kernel16Ideal.Gen Idealize.ShloMosaic Idealize.ShloMosaic.TcCoe Idealize.SL.Sem

/-- What the call is given as the normalised rows: the reference's, their format changed. -/
theorem rows_entry (m : (ℓ : Loc nD τ sig) → Buf (Elt Ideal) ℓ) (c : Dev nD) :
    (V m c main_v12 : FVec Ideal S8192x1024 .bf16) = truncf .bf16 (Mlp.normed (m ((c : Thread nD τ).loc main_arg0)) (m ((c : Thread nD τ).loc main_arg1))) bitsLt_bf16_f32 := by
  entry_read
  rfl

/-- The time steps' gradient of their projection's weight, on real numbers: the kernel's call leaves the reference's. -/
theorem algebraic : Cert.algebraic_Kernel16Ideal_Reference16Ideal (hKernel16Ideal := Cert.Kernel16Ideal.Gen.facts) (hReference16Ideal := Cert.Reference16Ideal.Gen.facts) := by
  intro m ρ m' ρ' _ hargs
  refine ⟨fun c => (dats m 0 c).arrAt 2 cfg0.N, (θ_run _ _ _).mono (fun _ h => h) (Value.run_blocks m ρ), (θ_run _ _ _).mono (fun r h c => ?_) (Cert.Reference16Ideal.Value.run (F := Ideal) m' ρ')⟩
  obtain ⟨h0, ha⟩ := h c
  obtain ⟨e0, e1, e2, e3⟩ := hargs c
  refine ⟨h0.trans ?_, ha⟩
  show _ = (dats m 0 c).arrAt 2 cfg0.N
  rw [final m c, rows_entry m c, e0, e1, e3]
  rfl

end Cert.StepWeight

end
-- ==== Proof.Lru.Blocks.lean ====
/- The blocks of the two calls, as functions of what they read: a block of 256 time steps by 1024 channels, combined over
   doubling distances (`scanUp`, `scanDown`), then the state carried in from the block before (`withCarry`). At any float
   values `F`. -/
module

public import proofs.«01_k».proof.Proof.Gen.KernelIdeal.Skeleton

@[expose] public section

set_option maxRecDepth 16384

noncomputable section

namespace Cert.Lru

open Cert.KernelIdeal Cert.KernelIdeal.Gen
open Idealize.ShloMosaic Idealize.ShloMosaic.TcCoe

variable {F : FTy → Type} [FloatOps F]

/-- A block: 256 time steps by 1024 channels. -/
abbrev Blk (F : FTy → Type) := FVec F S256x1024 .f32
/-- One time step's 1024 channels. -/
abbrev Row (F : FTy → Type) := FVec F S1x1024 .f32

/-- The time step of each entry of a block. -/
def step : IVec S256x1024 32 := iota .tc S256x1024 32 [0] iota_S256x1024_d0_w32

/-- One doubling: each entry whose partner lies in the block (`keep`) takes its partner's affine map after its own; the others
    take the identity. The partner of an entry is the one the rotation by `rot` brings to it. -/
def mix (keep : IVec S256x1024 1) (rot : BitVec 32) (p : Blk F × Blk F) : Blk F × Blk F :=
  (mulf p.1 (select keep (dynamicRotate 0 rot none p.1 rotates_S256x1024_d0) (broadcast S256x1024 (Scalar.ofBits .f32 0x3F800000#32))),
   addf p.2 (mulf p.1 (select keep (dynamicRotate 0 rot none p.2 rotates_S256x1024_d0) (broadcast S256x1024 (Scalar.ofBits .f32 0x00000000#32)))))

/-- Partners later in time, at distance `256 - rot`. -/
def mixUp (rot : BitVec 32) : Blk F × Blk F → Blk F × Blk F := mix (cmpi .slt step (broadcast S256x1024 rot)) rot
/-- Partners earlier in time, at distance `rot`. -/
def mixDown (rot : BitVec 32) : Blk F × Blk F → Blk F × Blk F := mix (cmpi .sge step (broadcast S256x1024 rot)) rot

/-- The block's affine maps composed from its last time step back: coefficient and offset of every entry. -/
def scanUp (a b : Blk F) : Blk F × Blk F :=
  mixUp 128#32 (mixUp 192#32 (mixUp 224#32 (mixUp 240#32 (mixUp 248#32 (mixUp 252#32 (mixUp 254#32 (mixUp 255#32 (a, b))))))))
/-- The block's affine maps composed from its first time step on. -/
def scanDown (a b : Blk F) : Blk F × Blk F :=
  mixDown 128#32 (mixDown 64#32 (mixDown 32#32 (mixDown 16#32 (mixDown 8#32 (mixDown 4#32 (mixDown 2#32 (mixDown 1#32 (a, b))))))))

/-- The composed maps at the state carried in. -/
def withCarry (p : Blk F × Blk F) (carry : Row F) : Blk F :=
  addf p.2 (mulf p.1 (broadcastTo S256x1024 carry broadcasts_S1x1024_S256x1024))

/-- A block of an array, without its leading axis of length one, and with it. -/
def flat (x : Vec F S1x256x1024 .f32) : Blk F := shapeCast S256x1024 x shapeCasts_S1x256x1024_S256x1024
def unflat (x : Blk F) : Vec F S1x256x1024 .f32 := shapeCast S1x256x1024 x shapeCasts_S256x1024_S1x256x1024

/-- No state carried in. -/
def zeroRow : Row F := broadcast S1x1024 (Scalar.ofBits .f32 0x00000000#32)

/-- A row read of one row's block. -/
def rowOf (x : Vec F S1x1x1024 .f32) : Row F := shapeCast S1x1024 x shapeCasts_S1x1x1024_S1x1024

/-- The recurrence's states of one block, run from its last time step to its first. -/
def hBlock (a b : Vec F S1x256x1024 .f32) (carry : Row F) : Blk F := withCarry (scanUp (flat a) (flat b)) carry
/-- What the block before it in the run takes in: the state at the block's first time step. -/
def hLast (y : Blk F) : Row F :=
  shapeCast S1x1024 (extractStridedSlice S1x1024 ![0, 0] y slices_S256x1024_o0_0_S1x1024) shapeCasts_S1x1024_S1x1024

/-- The coefficient that each time step's gradient takes its predecessor's by: the block's coefficients one time step on, the
    first one's from the block before (`edge`), nothing at the array's first block. -/
def coefBlock (firstBlk : BitVec 1) (a : Vec F S1x256x1024 .f32) (edge : Vec F S1x1x1024 .f32) : Blk F :=
  select (cmpi .eq step (broadcast S256x1024 0#32))
    (broadcastTo S256x1024 (shapeCast S1x1024 (Scalar.select firstBlk zeroRow (rowOf edge)) shapeCasts_S1x1024_S1x1024) broadcasts_S1x1024_S256x1024)
    (dynamicRotate 0 1#32 none (flat a) rotates_S256x1024_d0)
/-- The states one time step later, the last one's from the block after (`edge`), nothing at the array's last block. -/
def nextBlock (lastBlk : BitVec 1) (h : Vec F S1x256x1024 .f32) (edge : Vec F S1x1x1024 .f32) : Blk F :=
  select (cmpi .eq step (broadcast S256x1024 255#32))
    (broadcastTo S256x1024 (shapeCast S1x1024 (Scalar.select lastBlk zeroRow (rowOf edge)) shapeCasts_S1x1024_S1x1024) broadcasts_S1x1024_S256x1024)
    (dynamicRotate 0 255#32 none (flat h) rotates_S256x1024_d0)
/-- The states' gradients of one block, run from its first time step to its last. -/
def gBlock (firstBlk : BitVec 1) (a : Vec F S1x256x1024 .f32) (edge : Vec F S1x1x1024 .f32) (dh : Vec F S1x256x1024 .f32) (carry : Row F) : Blk F :=
  withCarry (scanDown (coefBlock firstBlk a edge) (flat dh)) carry
/-- What the block after it takes in: the gradient at the block's last time step. -/
def gLast (y : Blk F) : Row F :=
  shapeCast S1x1024 (extractStridedSlice S1x1024 ![255, 0] y slices_S256x1024_o255_0_S1x1024) shapeCasts_S1x1024_S1x1024

/-! ## The bodies' payloads are these functions -/

/-- What the states' call computes of a block, at the names its text gives to the parts. -/
theorem pay_h (x0 x1 : Vec F S1x256x1024 .f32) (carry : Row F) :
    k0_pay1 step (k0_pay21 step (k0_pay9 x0 x1) (k0_pay10 x0) k0_pay11 (k0_pay12 x0) (k0_pay13 x0 x1) k0_pay14)
      (k0_pay22 step (k0_pay10 x0) k0_pay11 (k0_pay12 x0)) (k0_pay23 step) (k0_pay24 step (k0_pay10 x0) k0_pay11 (k0_pay12 x0)) carry
      = hBlock x0 x1 carry := by
  rfl

/-- What it stores of the block, and of its first time step for the block before. -/
theorem pay_hOut (x0 x1 : Vec F S1x256x1024 .f32) (carry : Row F) :
    k0_pay2 step (k0_pay21 step (k0_pay9 x0 x1) (k0_pay10 x0) k0_pay11 (k0_pay12 x0) (k0_pay13 x0 x1) k0_pay14)
      (k0_pay22 step (k0_pay10 x0) k0_pay11 (k0_pay12 x0)) (k0_pay23 step) (k0_pay24 step (k0_pay10 x0) k0_pay11 (k0_pay12 x0)) carry
      = unflat (hBlock x0 x1 carry) := by
  unfold k0_pay2; rw [pay_h]; rfl
theorem pay_hLast (x0 x1 : Vec F S1x256x1024 .f32) (carry : Row F) :
    k0_pay3 step (k0_pay21 step (k0_pay9 x0 x1) (k0_pay10 x0) k0_pay11 (k0_pay12 x0) (k0_pay13 x0 x1) k0_pay14)
      (k0_pay22 step (k0_pay10 x0) k0_pay11 (k0_pay12 x0)) (k0_pay23 step) (k0_pay24 step (k0_pay10 x0) k0_pay11 (k0_pay12 x0)) carry
      = hLast (hBlock x0 x1 carry) := by
  unfold k0_pay3; rw [pay_h]; rfl

/-- What the gradient's call computes of a block. -/
theorem pay_g (i : grid1.Coords) (x0 : Vec F S1x256x1024 .f32) (e0 : Vec F S1x1x1024 .f32) (x4 : Vec F S1x256x1024 .f32) (carry : Row F) :
    (fun (v18 v31 : Blk F) => (fun (v62 v65 : Blk F) v67 v68 v72 =>
        k1_pay1 (k1_pay25 step v62 v65 v67 v68 v72) (k1_pay26 step v65 v67 v68) (k1_pay27 step) (k1_pay28 step v65 v67 v68)
          (k1_pay29 step v62 v65 v67 v68 v72) carry)
      (k1_pay14 v18 v31) (k1_pay15 v18) k1_pay16 (k1_pay17 v18) (k1_pay18 v18 v31)) (k1_pay6 i x0 e0) (k1_pay8 x4)
      = gBlock (Scalar.cmpi .eq (BitVec.ofNat 32 (i 1).val) 0#32) x0 e0 x4 carry := by
  rfl

/-- The states one time step later. -/
theorem pay_next (i : grid1.Coords) (x2 : Vec F S1x256x1024 .f32) (e2 : Vec F S1x1x1024 .f32) :
    k1_pay7 i x2 e2 = nextBlock (Scalar.cmpi .eq (BitVec.ofNat 32 (i 1).val) 15#32) x2 e2 := rfl

/-- What it stores: the gradients, their last time step for the block after, and their products with the states. -/
theorem pay_gOut (i : grid1.Coords) (x0 : Vec F S1x256x1024 .f32) (e0 : Vec F S1x1x1024 .f32) (x4 : Vec F S1x256x1024 .f32) (carry : Row F) :
    (fun (v18 v31 : Blk F) => (fun (v62 v65 : Blk F) v67 v68 v72 =>
        k1_pay2 (k1_pay25 step v62 v65 v67 v68 v72) (k1_pay26 step v65 v67 v68) (k1_pay27 step) (k1_pay28 step v65 v67 v68)
          (k1_pay29 step v62 v65 v67 v68 v72) carry)
      (k1_pay14 v18 v31) (k1_pay15 v18) k1_pay16 (k1_pay17 v18) (k1_pay18 v18 v31)) (k1_pay6 i x0 e0) (k1_pay8 x4)
      = unflat (gBlock (Scalar.cmpi .eq (BitVec.ofNat 32 (i 1).val) 0#32) x0 e0 x4 carry) := by
  rw [← pay_g]; rfl
theorem pay_gLast (i : grid1.Coords) (x0 : Vec F S1x256x1024 .f32) (e0 : Vec F S1x1x1024 .f32) (x4 : Vec F S1x256x1024 .f32) (carry : Row F) :
    (fun (v18 v31 : Blk F) => (fun (v62 v65 : Blk F) v67 v68 v72 =>
        k1_pay3 (k1_pay25 step v62 v65 v67 v68 v72) (k1_pay26 step v65 v67 v68) (k1_pay27 step) (k1_pay28 step v65 v67 v68)
          (k1_pay29 step v62 v65 v67 v68 v72) carry)
      (k1_pay14 v18 v31) (k1_pay15 v18) k1_pay16 (k1_pay17 v18) (k1_pay18 v18 v31)) (k1_pay6 i x0 e0) (k1_pay8 x4)
      = gLast (gBlock (Scalar.cmpi .eq (BitVec.ofNat 32 (i 1).val) 0#32) x0 e0 x4 carry) := by
  rw [← pay_g]; rfl
theorem pay_da (i : grid1.Coords) (x0 x2 : Vec F S1x256x1024 .f32) (e0 e2 : Vec F S1x1x1024 .f32) (x4 : Vec F S1x256x1024 .f32) (carry : Row F) :
    (fun (v18 v29 v31 : Blk F) => (fun (v62 v65 : Blk F) v67 v68 v72 =>
        k1_pay4 v29 (k1_pay25 step v62 v65 v67 v68 v72) (k1_pay26 step v65 v67 v68) (k1_pay27 step) (k1_pay28 step v65 v67 v68)
          (k1_pay29 step v62 v65 v67 v68 v72) carry)
      (k1_pay14 v18 v31) (k1_pay15 v18) k1_pay16 (k1_pay17 v18) (k1_pay18 v18 v31)) (k1_pay6 i x0 e0) (k1_pay7 i x2 e2) (k1_pay8 x4)
      = unflat (mulf (gBlock (Scalar.cmpi .eq (BitVec.ofNat 32 (i 1).val) 0#32) x0 e0 x4 carry)
          (nextBlock (Scalar.cmpi .eq (BitVec.ofNat 32 (i 1).val) 15#32) x2 e2)) := by
  rw [← pay_g, ← pay_next]; rfl

end Cert.Lru
end
-- ==== Proof.Lru.ScanRun.lean ====
/- One run of the states' call on one block: from the two input blocks and the row carried in, the block of states, and in the
   scratch's first row the row carried out. Two cases: at a batch entry's first block the scratch is zeroed first. -/
module

public import proofs.«01_k».proof.Proof.Lru.Blocks
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ReadBack
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first of the scratch's eight rows, which alone carries a state. -/
def topRow (d : Vec F S8x1024 .f32) : Row F := VecWindow.window d ![0, 0] ![1, 1024] inb_S8x1024_S1x1024_0_0

/-- After a store of the first row, whatever was stored before it, the first row is what was stored. -/
theorem topRow_store (v : View sig .tc .vmem S8x1024 .f32) (f : v.ty.Contents (Elt F)) (w : (Rect.unit (s := S8x1024) ![0, 0] ![1, 1024] inb_S8x1024_S1x1024_0_0).shape.Idx → Elt F .f32)
    (L : List (View.Piece (Elt F) S8x1024 .f32)) :
    topRow (v.read (Elt F) (v.writes (Elt F) f (⟨Rect.unit (s := S8x1024) ![0, 0] ![1, 1024] inb_S8x1024_S1x1024_0_0, w⟩ :: L))) = w := by
  unfold topRow
  rw [View.read_writes_cons_put (off' := ![0, 0]) v f inb_S8x1024_S1x1024_0_0 w L rfl]
  exact VecWindow.window_put_same _ _ _ _ _

/-- The condition on which the states' call zeroes its scratch. -/
abbrev first0 (i : grid0.Coords) : Prop := (Scalar.cmpi .ne (Scalar.extui (Scalar.cmpi .eq (BitVec.ofNat 32 (i 1).val) 0#32)) 0#32) = 1#1

set_option maxHeartbeats 1000000 in
/-- The states' call at a batch entry's first block: nothing is carried in. -/
theorem run0_first (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S8x1024 .f32) (harg5 : arg5.IsWhole) (hc0 : first0 i)
    (x0 : Vec F S1x256x1024 .f32) (x1 : Vec F S1x256x1024 .f32) (E : Set ℕ) (K : PUnit → sProp 𝕄) :
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ owns (c : Thread nD τ) arg4 fullShare (unflat (hBlock x0 x1 zeroRow))
                ∗ (∃ d, ⌜topRow d = hLast (hBlock x0 x1 zeroRow)⌝ ∗ owns (c : Thread nD τ) arg5 fullShare d)) -∗ K ⟨⟩))
          ⊢ wp frame (wpE (defs₀ (F := F)) Variants.none c none) E (cc0_lru_scan_r1 i arg2 harg2 arg3 harg3 arg4 harg4 arg5 harg5) K := by
    simp only [cc0_lru_scan_r1_eq_skeleton]; unfold cc0_lru_scan_r1_skel
    simp only [k0_part1_eq_skeleton, k0_part2_eq_skeleton]
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | sl_exact hc0)
    sl_step
    have e0 : arg2.view.readAt (Elt F) (Rect.unit (s := S1x256x1024) ![0, 0, 0] S1x256x1024.size inb_S1x256x1024_S1x256x1024_0_0_0).toLoadRect (harg2.unread x0) = x0 := by
      rw [View.readAt_full, harg2.read_unread]
    have e1 : arg3.view.readAt (Elt F) (Rect.unit (s := S1x256x1024) ![0, 0, 0] S1x256x1024.size inb_S1x256x1024_S1x256x1024_0_0_0).toLoadRect (harg3.unread x1) = x1 := by
      rw [View.readAt_full, harg3.read_unread]
    iapply Hk
    isplitl [H0]
    · iexists _; isplitr; · ipureintro; exact harg2.read_unread _
      iexact H0
    isplitl [H1]
    · iexists _; isplitr; · ipureintro; exact harg3.read_unread _
      iexact H1
    have ec : run0_first.sl.v96 (F := F) c arg5 = zeroRow := by
      unfold run0_first.sl.v96 run0_first.sl.HS0_1
      exact View.readCov_fill (s := S8x1024) arg5.view inb_S8x1024_S8x1024_0_0 _ [] _ (by decide)
    isplitl [H2]
    · iexists _; isplitr; swap; · iexact H2
      ipureintro
      rw [View.read_writes_full]
      unfold run0_first.sl.r_4 run0_first.sl.r_5 run0_first.sl.r_6 run0_first.sl.r run0_first.sl.r_1 run0_first.sl.r_2 run0_first.sl.r_3 run0_first.sl.v7
      rw [e0, e1, ec]
      exact pay_hOut _ _ _
    iexists _; isplitr; swap
    · iexists _; isplitr; swap; · iexact HS0
      ipureintro; rfl
    ipureintro
    refine (topRow_store _ _ _ _).trans ?_
    unfold run0_first.sl.r_4 run0_first.sl.r_5 run0_first.sl.r_6 run0_first.sl.r run0_first.sl.r_1 run0_first.sl.r_2 run0_first.sl.r_3 run0_first.sl.v7
    rw [e0, e1, ec]
    exact pay_hLast _ _ _

set_option maxHeartbeats 1000000 in
/-- The states' call at any other block: the scratch's first row is carried in. -/
theorem run0_next (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S8x1024 .f32) (harg5 : arg5.IsWhole) (hc0 : ¬ first0 i)
    (x0 : Vec F S1x256x1024 .f32) (x1 : Vec F S1x256x1024 .f32) (d : Vec F S8x1024 .f32) (E : Set ℕ) (K : PUnit → sProp 𝕄) :
        iprop(owns (c : Thread nD τ) arg2 fullShare x0 ∗ owns (c : Thread nD τ) arg3 fullShare x1 ∗ (∃ d, owns (c : Thread nD τ) arg4 fullShare d) ∗ owns (c : Thread nD τ) arg5 fullShare d
            ∗ (iprop(owns (c : Thread nD τ) arg2 fullShare x0 ∗ owns (c : Thread nD τ) arg3 fullShare x1 ∗ owns (c : Thread nD τ) arg4 fullShare (unflat (hBlock x0 x1 (topRow d)))
                ∗ (∃ d', ⌜topRow d' = hLast (hBlock x0 x1 (topRow d))⌝ ∗ owns (c : Thread nD τ) arg5 fullShare d')) -∗ K ⟨⟩))
          ⊢ wp frame (wpE (defs₀ (F := F)) Variants.none c none) E (cc0_lru_scan_r1 i arg2 harg2 arg3 harg3 arg4 harg4 arg5 harg5) K := by
    simp only [cc0_lru_scan_r1_eq_skeleton]; unfold cc0_lru_scan_r1_skel
    simp only [k0_part1_eq_skeleton, k0_part2_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | sl_exact hc0)
    sl_step
    have e0 : arg2.view.readAt (Elt F) (Rect.unit (s := S1x256x1024) ![0, 0, 0] S1x256x1024.size inb_S1x256x1024_S1x256x1024_0_0_0).toLoadRect (harg2.unread x0) = x0 := by
      rw [View.readAt_full, harg2.read_unread]
    have e1 : arg3.view.readAt (Elt F) (Rect.unit (s := S1x256x1024) ![0, 0, 0] S1x256x1024.size inb_S1x256x1024_S1x256x1024_0_0_0).toLoadRect (harg3.unread x1) = x1 := by
      rw [View.readAt_full, harg3.read_unread]
    have ec : arg5.view.readAt (Elt F) (Rect.unit (s := S8x1024) ![0, 0] S1x1024.size inb_S8x1024_S1x1024_0_0).toLoadRect (harg5.unread d) = topRow d := by
      refine (View.readAt_unit _ _ _ rfl inb_S8x1024_S1x1024_0_0).trans ?_
      rw [harg5.read_unread]; rfl
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [View.read_writes_full]
      unfold run0_next.sl.r_4 run0_next.sl.r_5 run0_next.sl.r_6 run0_next.sl.r run0_next.sl.r_1 run0_next.sl.r_2 run0_next.sl.r_3 run0_next.sl.v7
      rw [e0, e1, ec]
      exact pay_hOut _ _ _
    iexists _; isplitr; swap
    · iexists _; isplitr; swap; · iexact HS0
      ipureintro; rfl
    ipureintro
    refine (topRow_store _ _ _ _).trans ?_
    unfold run0_next.sl.r_4 run0_next.sl.r_5 run0_next.sl.r_6 run0_next.sl.r run0_next.sl.r_1 run0_next.sl.r_2 run0_next.sl.r_3 run0_next.sl.v7
    rw [e0, e1, ec]
    exact pay_hLast _ _ _

end Cert.Lru
end
-- ==== Proof.Lru.ScanData.lean ====
/- The states' call over its 32 grid points, at any contents `V` of the buffers when it is entered: what each point's blocks
   are, the row carried from each point to the next, what the buffers hold after each point, and the proof that the body keeps it. -/
module

public import proofs.«01_k».proof.Proof.Lru.ScanRun

@[expose] public section

set_option maxRecDepth 16384

noncomputable section

namespace Cert.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The memrefs the body is called on -/

abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1024 .f32 := win0_2.stage (cfg0.slots t 2)
abbrev hs0_2 (t : Fin cfg0.N) : (ms0_2 t).IsWhole := hstage0_2 ((cfg0.slots t 2).cast nbuf0_2)
/-- The call's own scratch. -/
abbrev scM0_0 : Memref sig .tc .vmem S8x1024 .f32 := Memref.whole cc0_scratch0

/-- The other call's buffers at any contents: they ride along. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- What the call keeps between points, with its scratch named. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

theorem PhiA0_out (c : Dev nD) : (Pipeline.ΦA spec0 c : sProp 𝕄) ⊢ iprop((∃ d, owns (c : Thread nD τ) scM0_0 fullShare d) ∗ rest0 c ∗ (∃ r, prngReg c r)) := by
  rw [PhiA0_eq]; unfold rest0
  iintro ⟨⟨HS, HR0, HR1, HR2, HR3, HR4, HR5, HR6, HR7, HR8, HR9, HR10, HR11, HR12, HR13, HR14⟩, Hg⟩
  isplitl [HS]; · iexact HS
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    iexact HR14
  iexact Hg

theorem PhiA0_in (c : Dev nD) : iprop((∃ d, owns (c : Thread nD τ) scM0_0 fullShare d) ∗ rest0 c ∗ (∃ r, prngReg c r)) ⊢ (Pipeline.ΦA spec0 c : sProp 𝕄) := by
  rw [PhiA0_eq]; unfold rest0
  iintro ⟨HS, ⟨HR0, HR1, HR2, HR3, HR4, HR5, HR6, HR7, HR8, HR9, HR10, HR11, HR12, HR13, HR14⟩, Hg⟩
  isplitr [Hg]
  · isplitl [HS]; · iexact HS
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    iexact HR14
  iexact Hg

/-! ## The row carried from point to point -/

/-- The point of number `n`. -/
def pt0 (n : ℕ) : Fin cfg0.N := ⟨n % 32, by rw [show cfg0.N = 32 from N_0]; omega⟩
theorem pt0_val (t : Fin cfg0.N) : pt0 t.val = t := Fin.ext (Nat.mod_eq_of_lt (lt_of_lt_of_eq t.isLt N_0))

/-- The row the scratch holds after `n` points. -/
def rowOut0 (c : Dev nD) : ℕ → Row F
  | 0 => zeroRow
  | n + 1 => hLast (hBlock (iblk0 V c 0 (pt0 n)) (iblk0 V c 1 (pt0 n)) (if n % 16 = 0 then zeroRow else rowOut0 c n))
/-- The row carried into point `n`: none at a batch entry's first block, 16 blocks to an entry. -/
def rowIn0 (c : Dev nD) (n : ℕ) : Row F := if n % 16 = 0 then zeroRow else rowOut0 V c n
/-- The block computed at point `t`. -/
def hPt (c : Dev nD) (t : Fin cfg0.N) : Blk F := hBlock (iblk0 V c 0 t) (iblk0 V c 1 t) (rowIn0 V c t.val)
theorem rowOut0_succ (c : Dev nD) (t : Fin cfg0.N) : rowOut0 V c (t.val + 1) = hLast (hPt V c t) := by
  unfold hPt rowIn0; rw [rowOut0]; rw [pt0_val]

/-- A batch entry's first block. -/
theorem hfirst0 : ∀ t : Fin cfg0.N, first0 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [first0, e0, e1]
    word_cmp
   : ∀ t : Fin grid0.N, first0 (grid0.coords t) ↔ t.val % 16 = 0)

/-- What is kept before point `n`: the scratch's first row, when it is to be read, is the row carried in. -/
def Phi0 (c : Dev nD) (n : ℕ) : sProp 𝕄 :=
  iprop((∃ d, ⌜n % 16 ≠ 0 → topRow d = rowOut0 V c n⌝ ∗ owns (c : Thread nD τ) scM0_0 fullShare d) ∗ rest0 c ∗ (∃ r, prngReg c r))

/-- Before the first point nothing is asked of the scratch, and after the last nothing is said. -/
theorem Phi0_in (c : Dev nD) : (Pipeline.ΦA spec0 c : sProp 𝕄) ⊢ Phi0 V c 0 := by
  refine (PhiA0_out c).trans ?_
  unfold Phi0
  iintro ⟨⟨%d, HS⟩, Hr, Hg⟩
  isplitl [HS]
  · iexists _; isplitr; swap; · iexact HS
    ipureintro; intro h; exact absurd rfl h
  isplitl [Hr]; · iexact Hr
  iexact Hg
theorem Phi0_out (c : Dev nD) (n : ℕ) : Phi0 V c n ⊢ (Pipeline.ΦA spec0 c : sProp 𝕄) := by
  refine BIBase.Entails.trans ?_ (PhiA0_in c)
  unfold Phi0
  iintro ⟨⟨%d, -, HS⟩, Hr, Hg⟩
  isplitl [HS]; · iexists _; iexact HS
  isplitl [Hr]; · iexact Hr
  iexact Hg

/-! ## The proof data -/

/-- The arrays as entered; after each point the inputs' buffers at their blocks and the outputs' at what is computed; the scratch
    as `Phi0` says; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => unflat (hPt V c t)
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = unflat (hPt V c t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body keeps it, at any point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1000000 in
/-- The body at any point: at a batch entry's first block from no row, else from the scratch's first row. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = Phi0 V c (t.val + 1) from rfl, show (dat0 V c).Φ t.castSucc = Phi0 V c t.val from rfl,
    show (dat0 V c).owesAt () t.succ = (dat0 V c).owesAt () t.castSucc from rfl,
    after0_0, after0_1, after0_2]
  unfold Phi0
  iintro ⟨⟨⟨%d, %hd, HS⟩, Hr, Hg⟩, Ho, ⟨%d0, H0⟩, ⟨%d1, H1⟩, ⟨%d2, H2⟩⟩
  by_cases h : t.val % 16 = 0
  · have hrow : rowIn0 V c t.val = zeroRow := by unfold rowIn0; rw [if_pos h]
    have hnext := rowOut0_succ V c t
    unfold hPt at hnext; unfold hPt; rw [hrow] at hnext ⊢
    iapply (run0_first c (grid0.coords t) _ _ _ _ _ _ _ _ ((hfirst0 t).mpr h) (iblk0 V c 0 t) (iblk0 V c 1 t) Set.univ _)
    isplitl [H0]; · iexact H0
    isplitl [H1]; · iexact H1
    isplitl [H2]; · iexists _; iexact H2
    isplitl [HS]; · iexists _; iexact HS
    iintro ⟨H0, H1, H2, ⟨%d', %hd', HS⟩⟩
    isplitl [HS Hr Hg]
    · isplitl [HS]
      · iexists _; isplitr; swap; · iexact HS
        ipureintro; intro _; exact hd'.trans hnext.symm
      isplitl [Hr]; · iexact Hr
      iexact Hg
    isplitl [Ho]; · iexact Ho
    isplitl [H0]; · iexact H0
    isplitl [H1]; · iexact H1
    iexact H2
  · have hrow : rowIn0 V c t.val = topRow d := by unfold rowIn0; rw [if_neg h]; exact (hd h).symm
    have hnext := rowOut0_succ V c t
    unfold hPt at hnext; unfold hPt; rw [hrow] at hnext ⊢
    iapply (run0_next c (grid0.coords t) _ _ _ _ _ _ _ _ (fun hh => h ((hfirst0 t).mp hh)) (iblk0 V c 0 t) (iblk0 V c 1 t) d Set.univ _)
    isplitl [H0]; · iexact H0
    isplitl [H1]; · iexact H1
    isplitl [H2]; · iexists _; iexact H2
    isplitl [HS]; · iexact HS
    iintro ⟨H0, H1, H2, ⟨%d', %hd', HS⟩⟩
    isplitl [HS Hr Hg]
    · isplitl [HS]
      · iexists _; isplitr; swap; · iexact HS
        ipureintro; intro _; exact hd'.trans hnext.symm
      isplitl [Hr]; · iexact Hr
      iexact Hg
    isplitl [Ho]; · iexact Ho
    isplitl [H0]; · iexact H0
    isplitl [H1]; · iexact H1
    iexact H2

theorem defs₀_row0 (t : Fin cfg0.N) :
    defs₀ (F := F) .tc cfg0.body (cfg0.bodyArgs t (cfg0.slots t)) = bodyAt0 t := by
  unfold defs₀; rw [Defs.onTc_tc]

/-- The library's obligation of the body, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Lru
end
-- ==== Proof.Lru.BwdRun.lean ====
/- One run of the gradient's call on one block: from the five input blocks and the row carried in, the block of gradients, the
   block of their products with the states, and in the scratch's first row the row carried out. -/
module

public import proofs.«01_k».proof.Proof.Lru.ScanRun
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ReadBack
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The last of the eight rows that hold the coefficient before a block, and the first of those that hold the state after it. -/
def edgeA (x : Vec F S1x8x1024 .f32) : Vec F S1x1x1024 .f32 := VecWindow.window x ![0, 7, 0] ![1, 1, 1024] inb_S1x8x1024_S1x1x1024_0_7_0
def edgeH (x : Vec F S1x8x1024 .f32) : Vec F S1x1x1024 .f32 := VecWindow.window x ![0, 0, 0] ![1, 1, 1024] inb_S1x8x1024_S1x1x1024_0_0_0

/-- The gradient's call at one point: the block of gradients, from the row carried in, -/
def gAt (i : grid1.Coords) (x0 : Vec F S1x256x1024 .f32) (x1 : Vec F S1x8x1024 .f32) (x4 : Vec F S1x256x1024 .f32) (carry : Row F) : Blk F :=
  gBlock (Scalar.cmpi .eq (BitVec.ofNat 32 (i 1).val) 0#32) x0 (edgeA x1) x4 carry
/-- and their products with the states one time step on. -/
def daAt (i : grid1.Coords) (x0 : Vec F S1x256x1024 .f32) (x1 : Vec F S1x8x1024 .f32) (x2 : Vec F S1x256x1024 .f32) (x3 : Vec F S1x8x1024 .f32)
    (x4 : Vec F S1x256x1024 .f32) (carry : Row F) : Blk F :=
  mulf (gAt i x0 x1 x4 carry) (nextBlock (Scalar.cmpi .eq (BitVec.ofNat 32 (i 1).val) 15#32) x2 (edgeH x3))

/-- The condition on which the gradient's call zeroes its scratch. -/
abbrev first1 (i : grid1.Coords) : Prop := (Scalar.cmpi .ne (Scalar.extui (Scalar.cmpi .eq (BitVec.ofNat 32 (i 1).val) 0#32)) 0#32) = 1#1

set_option maxHeartbeats 1000000 in
/-- The gradient's call at a batch entry's first block: nothing is carried in. -/
theorem run1_first (c : Dev nD) (i : grid1.Coords) (arg2 : Memref sig .tc .vmem S1x256x1024 .f32) (harg2 : arg2.IsWhole) (arg3 : Memref sig .tc .vmem S1x8x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (hc0 : first1 i)
    (x0 : Vec F S1x256x1024 .f32) (x1 : Vec F S1x8x1024 .f32) (x2 : Vec F S1x256x1024 .f32) (x3 : Vec F S1x8x1024 .f32) (x4 : Vec F S1x256x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (unflat (gAt i x0 x1 x4 zeroRow)) ∗ owns (c : Thread nD τ) arg8 fullShare (unflat (daAt i x0 x1 x2 x3 x4 zeroRow))
                ∗ (∃ d', ⌜topRow d' = gLast (gAt i x0 x1 x4 zeroRow)⌝ ∗ owns (c : Thread nD τ) arg9 fullShare d')) -∗ K ⟨⟩))
          ⊢ wp frame (wpE (defs₀ (F := F)) Variants.none c none) E (cc1_lru_scan_bwd_r1 i arg2 harg2 arg3 harg3 arg4 harg4 arg5 harg5 arg6 harg6 arg7 harg7 arg8 harg8 arg9 harg9) K := by
    simp only [cc1_lru_scan_bwd_r1_eq_skeleton]; unfold cc1_lru_scan_bwd_r1_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    have e0 : arg2.view.readAt (Elt F) (Rect.unit (s := S1x256x1024) ![0, 0, 0] S1x256x1024.size inb_S1x256x1024_S1x256x1024_0_0_0).toLoadRect (harg2.unread x0) = x0 := by
      rw [View.readAt_full, harg2.read_unread]
    have e1 : arg3.view.readAt (Elt F) (Rect.unit (s := S1x8x1024) ![0, 7, 0] S1x1x1024.size inb_S1x8x1024_S1x1x1024_0_7_0).toLoadRect (harg3.unread x1) = edgeA x1 := by
      refine (View.readAt_unit _ _ _ rfl inb_S1x8x1024_S1x1x1024_0_7_0).trans ?_
      rw [harg3.read_unread]; rfl
    have e2 : arg4.view.readAt (Elt F) (Rect.unit (s := S1x256x1024) ![0, 0, 0] S1x256x1024.size inb_S1x256x1024_S1x256x1024_0_0_0).toLoadRect (harg4.unread x2) = x2 := by
      rw [View.readAt_full, harg4.read_unread]
    have e3 : arg5.view.readAt (Elt F) (Rect.unit (s := S1x8x1024) ![0, 0, 0] S1x1x1024.size inb_S1x8x1024_S1x1x1024_0_0_0).toLoadRect (harg5.unread x3) = edgeH x3 := by
      refine (View.readAt_unit _ _ _ rfl inb_S1x8x1024_S1x1x1024_0_0_0).trans ?_
      rw [harg5.read_unread]; rfl
    have e4 : arg6.view.readAt (Elt F) (Rect.unit (s := S1x256x1024) ![0, 0, 0] S1x256x1024.size inb_S1x256x1024_S1x256x1024_0_0_0).toLoadRect (harg6.unread x4) = x4 := by
      rw [View.readAt_full, harg6.read_unread]
    have ec : run1_first.sl.v121 (F := F) c arg9 = zeroRow := by
      unfold run1_first.sl.v121 run1_first.sl.HS0_1
      exact View.readCov_fill (s := S8x1024) arg9.view inb_S8x1024_S8x1024_0_0 _ [] _ (by decide)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      rw [View.read_writes_full]
      unfold run1_first.sl.r_7 run1_first.sl.r_8 run1_first.sl.r_9 run1_first.sl.r_10 run1_first.sl.r_3 run1_first.sl.r_4 run1_first.sl.r_5 run1_first.sl.r_6 run1_first.sl.r_2 run1_first.sl.r run1_first.sl.v32
      rw [e0, e1, e4, ec]
      exact pay_gOut i _ _ _ _
    isplitl [H6]
    · iexists _; isplitr; swap; · iexact H6
      ipureintro
      rw [View.read_writes_full]
      unfold run1_first.sl.r_7 run1_first.sl.r_8 run1_first.sl.r_9 run1_first.sl.r_10 run1_first.sl.r_1 run1_first.sl.r_3 run1_first.sl.r_4 run1_first.sl.r_5 run1_first.sl.r_6 run1_first.sl.r_2 run1_first.sl.r run1_first.sl.v32
      rw [e0, e1, e2, e3, e4, ec]
      exact pay_da i _ _ _ _ _ _
    iexists _; isplitr; swap
    · iexists _; isplitr; swap; · iexact HS0
      ipureintro; rfl
    ipureintro
    refine (topRow_store _ _ _ _).trans ?_
    unfold run1_first.sl.r_7 run1_first.sl.r_8 run1_first.sl.r_9 run1_first.sl.r_10 run1_first.sl.r_3 run1_first.sl.r_4 run1_first.sl.r_5 run1_first.sl.r_6 run1_first.sl.r_2 run1_first.sl.r run1_first.sl.v32
    rw [e0, e1, e4, ec]
    exact pay_gLast i _ _ _ _

set_option maxHeartbeats 1000000 in
/-- The gradient's call at any other block: the scratch's first row is carried in. -/
theorem run1_next (c : Dev nD) (i : grid1.Coords) (arg2 : Memref sig .tc .vmem S1x256x1024 .f32) (harg2 : arg2.IsWhole) (arg3 : Memref sig .tc .vmem S1x8x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (hc0 : ¬ first1 i)
    (x0 : Vec F S1x256x1024 .f32) (x1 : Vec F S1x8x1024 .f32) (x2 : Vec F S1x256x1024 .f32) (x3 : Vec F S1x8x1024 .f32) (x4 : Vec F S1x256x1024 .f32) (d : Vec F S8x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (unflat (gAt i x0 x1 x4 (topRow d))) ∗ owns (c : Thread nD τ) arg8 fullShare (unflat (daAt i x0 x1 x2 x3 x4 (topRow d)))
                ∗ (∃ d', ⌜topRow d' = gLast (gAt i x0 x1 x4 (topRow d))⌝ ∗ owns (c : Thread nD τ) arg9 fullShare d')) -∗ K ⟨⟩))
          ⊢ wp frame (wpE (defs₀ (F := F)) Variants.none c none) E (cc1_lru_scan_bwd_r1 i arg2 harg2 arg3 harg3 arg4 harg4 arg5 harg5 arg6 harg6 arg7 harg7 arg8 harg8 arg9 harg9) K := by
    simp only [cc1_lru_scan_bwd_r1_eq_skeleton]; unfold cc1_lru_scan_bwd_r1_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | sl_exact hc0)
    sl_step
    have e0 : arg2.view.readAt (Elt F) (Rect.unit (s := S1x256x1024) ![0, 0, 0] S1x256x1024.size inb_S1x256x1024_S1x256x1024_0_0_0).toLoadRect (harg2.unread x0) = x0 := by
      rw [View.readAt_full, harg2.read_unread]
    have e1 : arg3.view.readAt (Elt F) (Rect.unit (s := S1x8x1024) ![0, 7, 0] S1x1x1024.size inb_S1x8x1024_S1x1x1024_0_7_0).toLoadRect (harg3.unread x1) = edgeA x1 := by
      refine (View.readAt_unit _ _ _ rfl inb_S1x8x1024_S1x1x1024_0_7_0).trans ?_
      rw [harg3.read_unread]; rfl
    have e2 : arg4.view.readAt (Elt F) (Rect.unit (s := S1x256x1024) ![0, 0, 0] S1x256x1024.size inb_S1x256x1024_S1x256x1024_0_0_0).toLoadRect (harg4.unread x2) = x2 := by
      rw [View.readAt_full, harg4.read_unread]
    have e3 : arg5.view.readAt (Elt F) (Rect.unit (s := S1x8x1024) ![0, 0, 0] S1x1x1024.size inb_S1x8x1024_S1x1x1024_0_0_0).toLoadRect (harg5.unread x3) = edgeH x3 := by
      refine (View.readAt_unit _ _ _ rfl inb_S1x8x1024_S1x1x1024_0_0_0).trans ?_
      rw [harg5.read_unread]; rfl
    have e4 : arg6.view.readAt (Elt F) (Rect.unit (s := S1x256x1024) ![0, 0, 0] S1x256x1024.size inb_S1x256x1024_S1x256x1024_0_0_0).toLoadRect (harg6.unread x4) = x4 := by
      rw [View.readAt_full, harg6.read_unread]
    have ec : arg9.view.readAt (Elt F) (Rect.unit (s := S8x1024) ![0, 0] S1x1024.size inb_S8x1024_S1x1024_0_0).toLoadRect (harg9.unread d) = topRow d := by
      refine (View.readAt_unit _ _ _ rfl inb_S8x1024_S1x1024_0_0).trans ?_
      rw [harg9.read_unread]; rfl
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      rw [View.read_writes_full]
      unfold run1_next.sl.r_7 run1_next.sl.r_8 run1_next.sl.r_9 run1_next.sl.r_10 run1_next.sl.r_3 run1_next.sl.r_4 run1_next.sl.r_5 run1_next.sl.r_6 run1_next.sl.r_2 run1_next.sl.r run1_next.sl.v32
      rw [e0, e1, e4, ec]
      exact pay_gOut i _ _ _ _
    isplitl [H6]
    · iexists _; isplitr; swap; · iexact H6
      ipureintro
      rw [View.read_writes_full]
      unfold run1_next.sl.r_7 run1_next.sl.r_8 run1_next.sl.r_9 run1_next.sl.r_10 run1_next.sl.r_1 run1_next.sl.r_3 run1_next.sl.r_4 run1_next.sl.r_5 run1_next.sl.r_6 run1_next.sl.r_2 run1_next.sl.r run1_next.sl.v32
      rw [e0, e1, e2, e3, e4, ec]
      exact pay_da i _ _ _ _ _ _
    iexists _; isplitr; swap
    · iexists _; isplitr; swap; · iexact HS0
      ipureintro; rfl
    ipureintro
    refine (topRow_store _ _ _ _).trans ?_
    unfold run1_next.sl.r_7 run1_next.sl.r_8 run1_next.sl.r_9 run1_next.sl.r_10 run1_next.sl.r_3 run1_next.sl.r_4 run1_next.sl.r_5 run1_next.sl.r_6 run1_next.sl.r_2 run1_next.sl.r run1_next.sl.v32
    rw [e0, e1, e4, ec]
    exact pay_gLast i _ _ _ _

end Cert.Lru
end
-- ==== Proof.Lru.BwdData.lean ====
/- The gradient's call over its 32 grid points, at any contents `V` of the buffers when it is entered: what each point's blocks
   are, the row carried from each point to the next, what the buffers hold after each point, and the proof that the body keeps it. -/
module

public import proofs.«01_k».proof.Proof.Lru.BwdRun

@[expose] public section

set_option maxRecDepth 16384

noncomputable section

namespace Cert.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called on -/

abbrev ms1_0 (t : Fin cfg1.N) : Memref sig .tc .vmem S1x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256x1024 .f32 := win1_6.stage (cfg1.slots t 6)
abbrev hs1_6 (t : Fin cfg1.N) : (ms1_6 t).IsWhole := hstage1_6 ((cfg1.slots t 6).cast nbuf1_6)
/-- The call's own scratch. -/
abbrev scM1_0 : Memref sig .tc .vmem S8x1024 .f32 := Memref.whole cc1_scratch0

/-- The other call's buffers at any contents: they ride along. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- What the call keeps between points, with its scratch named. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

theorem PhiA1_out (c : Dev nD) : (Pipeline.ΦA spec1 c : sProp 𝕄) ⊢ iprop((∃ d, owns (c : Thread nD τ) scM1_0 fullShare d) ∗ rest1 c ∗ (∃ r, prngReg c r)) := by
  rw [PhiA1_eq]; unfold rest1
  iintro ⟨⟨HR0, HR1, HR2, HR3, HR4, HR5, HR6, HS⟩, Hg⟩
  isplitl [HS]; · iexact HS
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    iexact HR6
  iexact Hg

theorem PhiA1_in (c : Dev nD) : iprop((∃ d, owns (c : Thread nD τ) scM1_0 fullShare d) ∗ rest1 c ∗ (∃ r, prngReg c r)) ⊢ (Pipeline.ΦA spec1 c : sProp 𝕄) := by
  rw [PhiA1_eq]; unfold rest1
  iintro ⟨HS, ⟨HR0, HR1, HR2, HR3, HR4, HR5, HR6⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HS
  iexact Hg

/-! ## The row carried from point to point -/

/-- The point of number `n`. -/
def pt1 (n : ℕ) : Fin cfg1.N := ⟨n % 32, by rw [show cfg1.N = 32 from N_1]; omega⟩
theorem pt1_val (t : Fin cfg1.N) : pt1 t.val = t := Fin.ext (Nat.mod_eq_of_lt (lt_of_lt_of_eq t.isLt N_1))

/-- The row the scratch holds after `n` points. -/
def rowOut1 (c : Dev nD) : ℕ → Row F
  | 0 => zeroRow
  | n + 1 => gLast (gAt (grid1.coords (pt1 n)) (iblk1 V c 0 (pt1 n)) (iblk1 V c 1 (pt1 n)) (iblk1 V c 4 (pt1 n)) (if n % 16 = 0 then zeroRow else rowOut1 c n))
/-- The row carried into point `n`: none at a batch entry's first block, 16 blocks to an entry. -/
def rowIn1 (c : Dev nD) (n : ℕ) : Row F := if n % 16 = 0 then zeroRow else rowOut1 V c n
/-- The block computed at point `t`. -/
def gPt (c : Dev nD) (t : Fin cfg1.N) : Blk F := gAt (grid1.coords t) (iblk1 V c 0 t) (iblk1 V c 1 t) (iblk1 V c 4 t) (rowIn1 V c t.val)
theorem rowOut1_succ (c : Dev nD) (t : Fin cfg1.N) : rowOut1 V c (t.val + 1) = gLast (gPt V c t) := by
  unfold gPt rowIn1; rw [rowOut1]; rw [pt1_val]

/-- A batch entry's first block. -/
theorem hfirst1 : ∀ t : Fin cfg1.N, first1 (grid1.coords t) ↔ t.val % 16 = 0 :=
  (fun t => by
    have ht : t.val < 32 := Nat.lt_of_lt_of_eq t.isLt N_1
    have e0 : (grid1.coords t 0).val = t.val / 16 % 2 := Pipeline.Grid.coords_val t 0 (by decide) rfl
    have e1 : (grid1.coords t 1).val = t.val / 1 % 16 := Pipeline.Grid.coords_val t 1 (by decide) rfl
    simp only [first1, e0, e1]
    word_cmp
   : ∀ t : Fin grid1.N, first1 (grid1.coords t) ↔ t.val % 16 = 0)

/-- What is kept before point `n`: the scratch's first row, when it is to be read, is the row carried in. -/
def Phi1 (c : Dev nD) (n : ℕ) : sProp 𝕄 :=
  iprop((∃ d, ⌜n % 16 ≠ 0 → topRow d = rowOut1 V c n⌝ ∗ owns (c : Thread nD τ) scM1_0 fullShare d) ∗ rest1 c ∗ (∃ r, prngReg c r))

/-- Before the first point nothing is asked of the scratch, and after the last nothing is said. -/
theorem Phi1_in (c : Dev nD) : (Pipeline.ΦA spec1 c : sProp 𝕄) ⊢ Phi1 V c 0 := by
  refine (PhiA1_out c).trans ?_
  unfold Phi1
  iintro ⟨⟨%d, HS⟩, Hr, Hg⟩
  isplitl [HS]
  · iexists _; isplitr; swap; · iexact HS
    ipureintro; intro h; exact absurd rfl h
  isplitl [Hr]; · iexact Hr
  iexact Hg
theorem Phi1_out (c : Dev nD) (n : ℕ) : Phi1 V c n ⊢ (Pipeline.ΦA spec1 c : sProp 𝕄) := by
  refine BIBase.Entails.trans ?_ (PhiA1_in c)
  unfold Phi1
  iintro ⟨⟨%d, -, HS⟩, Hr, Hg⟩
  isplitl [HS]; · iexists _; iexact HS
  isplitl [Hr]; · iexact Hr
  iexact Hg

/-! ## The proof data -/

/-- The products at point `t`. -/
def daPt (c : Dev nD) (t : Fin cfg1.N) : Blk F :=
  daAt (grid1.coords t) (iblk1 V c 0 t) (iblk1 V c 1 t) (iblk1 V c 2 t) (iblk1 V c 3 t) (iblk1 V c 4 t) (rowIn1 V c t.val)

/-- The arrays as entered; after each point the inputs' buffers at their blocks and the outputs' at what is computed; the scratch
    as `Phi1` says; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => unflat (gPt V c t)
    | ⟨6, _⟩ => unflat (daPt V c t)
  Φ t := Phi1 V c t.val
  q w := Pipeline.shareOf spec1 w
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = unflat (gPt V c t) := by dsimp only [dat1]
theorem after1_6 (c : Dev nD) (t : Fin cfg1.N) : (dat1 V c).after 6 t = unflat (daPt V c t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body keeps it, at any point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))
/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1000000 in
/-- The body at any point: at a batch entry's first block from no row, else from the scratch's first row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = Phi1 V c (t.val + 1) from rfl, show (dat1 V c).Φ t.castSucc = Phi1 V c t.val from rfl,
    show (dat1 V c).owesAt () t.succ = (dat1 V c).owesAt () t.castSucc from rfl,
    after1_0, after1_1, after1_2, after1_3, after1_4, after1_5, after1_6]
  unfold Phi1
  iintro ⟨⟨⟨%d, %hd, HS⟩, Hr, Hg⟩, Ho, ⟨%d0, H0⟩, ⟨%d1, H1⟩, ⟨%d2, H2⟩, ⟨%d3, H3⟩, ⟨%d4, H4⟩, ⟨%d5, H5⟩, ⟨%d6, H6⟩⟩
  by_cases h : t.val % 16 = 0
  · have hrow : rowIn1 V c t.val = zeroRow := by unfold rowIn1; rw [if_pos h]
    have hnext := rowOut1_succ V c t
    unfold gPt at hnext; unfold gPt daPt; rw [hrow] at hnext ⊢
    iapply (run1_first c (grid1.coords t) _ _ _ _ _ _ _ _ _ _ _ _ _ _ _ _ ((hfirst1 t).mpr h) (iblk1 V c 0 t) (iblk1 V c 1 t) (iblk1 V c 2 t) (iblk1 V c 3 t) (iblk1 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexists _; iexact HS
    iintro ⟨H0, H1, H2, H3, H4, H5, H6, ⟨%d', %hd', HS⟩⟩
    isplitl [HS Hr Hg]
    · isplitl [HS]
      · iexists _; isplitr; swap; · iexact HS
        ipureintro; intro _; exact hd'.trans hnext.symm
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hrow : rowIn1 V c t.val = topRow d := by unfold rowIn1; rw [if_neg h]; exact (hd h).symm
    have hnext := rowOut1_succ V c t
    unfold gPt at hnext; unfold gPt daPt; rw [hrow] at hnext ⊢
    iapply (run1_next c (grid1.coords t) _ _ _ _ _ _ _ _ _ _ _ _ _ _ _ _ (fun hh => h ((hfirst1 t).mp hh)) (iblk1 V c 0 t) (iblk1 V c 1 t) (iblk1 V c 2 t) (iblk1 V c 3 t) (iblk1 V c 4 t) d Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, ⟨%d', %hd', HS⟩⟩
    isplitl [HS Hr Hg]
    · isplitl [HS]
      · iexists _; isplitr; swap; · iexact HS
        ipureintro; intro _; exact hd'.trans hnext.symm
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row1 (t : Fin cfg1.N) :
    defs₀ (F := F) .tc cfg1.body (cfg1.bodyArgs t (cfg1.slots t)) = bodyAt1 t := by
  unfold defs₀; rw [Defs.onTc_tc]

/-- The library's obligation of the body, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Lru
end
-- ==== Proof.Lru.Run.lean ====
/- The whole kernel's run: the states' call, then the gradient's call on the states it left. What the buffers hold between and
   after the two calls, the two calls as segments of @main, and the run: the two results are what the gradient's call leaves, the
   arguments end as launched, every semaphore at zero. At any float values `F`, so for both programs at once. -/
module

public import proofs.«01_k».proof.Proof.Lru.ScanData
public import proofs.«01_k».proof.Proof.Lru.BwdData
public import proofs.«01_k».proof.Proof.Gen.KernelIdeal.Regions

@[expose] public section

set_option maxRecDepth 16384

noncomputable section

namespace Cert.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2]

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact (dat1 (V1 m ρ) c).withArrays_arrAt launch₀1.sharedIn _ (A_eq1 (V1 m ρ) c) w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: no host stretch writes one and no region may change one (a region reads it
    through an input window or bypasses it) -/

theorem W2_main_arg0 (c : Dev nD) : W2 m ρ c (Proc.devRef .tc main_arg0) = m ((c : Thread nD τ).loc main_arg0) :=
  W2_args m ρ c main_arg0 (by decide)
theorem W2_main_arg1 (c : Dev nD) : W2 m ρ c (Proc.devRef .tc main_arg1) = m ((c : Thread nD τ).loc main_arg1) :=
  W2_args m ρ c main_arg1 (by decide)
theorem W2_main_arg2 (c : Dev nD) : W2 m ρ c (Proc.devRef .tc main_arg2) = m ((c : Thread nD τ).loc main_arg2) :=
  W2_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W2`, the generator register at some state. -/
abbrev Tₙ (c : Dev nD) : sProp 𝕄 := iprop(StableHlo.held (c : Thread nD τ) (Pipeline.ucRefs τ sig) (W2 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi0_in (V0 m ρ) c)
    unfold Pipeline.ΦA
    iintro ⟨Hp, -, Hr⟩
    isplitl [Hr]; · iexact Hr
    iexact Hp
  hout c := by
    rw [Pipeline.ownSems0_none]
    refine BIBase.Entails.trans (Phi0_out (V0 m ρ) c _) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi1_in (V1 m ρ) c)
    unfold Pipeline.ΦA
    iintro ⟨Hp, -, Hr⟩
    isplitl [Hr]; · iexact Hr
    iexact Hp
  hout c := by
    rw [Pipeline.ownSems0_none]
    refine BIBase.Entails.trans (Phi1_out (V1 m ρ) c _) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 2 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- unification of the launch's implicit arguments takes unfolding plain definitions in a metavariable's type
set_option backward.isDefEq.respectTransparency.types false in
/-- THE RUN, from any memory with zero counters: every weakly fair execution terminates without a fault; the two results are what the
    gradient's call leaves in its two output arrays, the arguments are as launched, every semaphore is at zero. -/
theorem run : θ_run defs (onTc (τ := τ) (main (F := F))) ⟨m, fun _ => 0, ρ⟩ (fun r => (∀ c : Dev nD,
      r.2.mem ((c.tc : Thread nD τ).loc main_v1_0) = (dat1 (V1 m ρ) c).arrAt 5 cfg1.N
      ∧ r.2.mem ((c.tc : Thread nD τ).loc main_v1_1) = (dat1 (V1 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨(h c _ (mem_uc main_v1_0 (by decide))).trans (W2_arr m ρ c 5),
       (h c _ (mem_uc main_v1_1 (by decide))).trans (W2_arr m ρ c 6),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩), funext fun g => hz g (.inr (no_unscoped g.2))⟩)

end Cert.Lru
end
-- ==== Proof.Lru.HostLoops.lean ====
/- A program of host operations and several counted host loops: its run from the loops' segments, and the
   condition region of a counted loop beside what the core owes. -/
module

public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.Lru

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (CSeg Ticket PCfg ucRefs unscopedBufs_held sub_ucRefs)

variable {nD : Nat} {τ : Topo} {sig : RefSig} {F : FTy → Type} [FloatOps F] {Λ₀ : Idealize.SL.Sem.Labels} {nL : Nat}

local notation "𝕄" => MT nD τ sig Unit (Elt F) ℕ (Option PUnit) ℕ

variable (pcs : Fin 0 → PCfg sig Λ₀ (Elt F)) (defs₀ : Defs nD τ sig (Elt F) Λ₀)
  (loops : Fin nL → Prog (TpuEff nD τ sig (Elt F) (HostLoop.Sig (Pipeline.Sig Λ₀ (Fin 0) fun p => (pcs p).Adm) nL) .tc) PUnit)

/-- With no kernel region there is nothing to admit, no ticket and no level. -/
abbrev noAdm : (p : Fin 0) → (pcs p).Adm := fun p => p.elim0
abbrev noTk : Fin 0 → Ticket (Ix := Unit) (Name := ℕ) (U := Option PUnit) (Lvl := ℕ) (nD := nD) (τ := τ) pcs (noAdm pcs) :=
  fun j => j.elim0
abbrev noL : GSem nD τ sig → Finset Unit := fun _ => ∅
abbrev noLv : GSem nD τ sig → Unit → ℕ := fun _ _ => 0

/-- What rides along beside the buffers: what the core owes, which is nothing. -/
abbrev owing (c : Dev nD) : sProp 𝕄 := iprop(∃ W, owes (c : Thread nD τ) (0 : CellTallies nD τ sig Unit) W)

/-- A segment of such a program. -/
abbrev HSeg := CSeg (J := Fin 0) pcs (noAdm pcs) defs₀ Variants.none (noL (nD := nD) (τ := τ) (sig := sig)) noLv loops (noTk pcs)

variable {pcs defs₀ loops}

/-- A condition region's specification with what the core owes framed through it. -/
theorem loopCond_of_condSpec
    {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (h : CondSpec pcs defs₀ loops cond condOps bodyI W₀ n) :
    LoopCond pcs defs₀ Variants.none loops (owing (F := F)) cond condOps bodyI W₀ n := fun k hk c bd => by
  have hout : ∀ v : Elt F .i1,
      iprop(iprop(⌜v = 1#1 ↔ k < n⌝ ∗ boundary (c : Thread nD τ) ∗ held (c : Thread nD τ) (ucRefs τ sig) (after condOps (atTrip condOps bodyI W₀ k c))) ∗ owing c)
        ⊢ (iprop(⌜v = 1#1 ↔ k < n⌝ ∗ boundary (c : Thread nD τ) ∗ held (c : Thread nD τ) (ucRefs τ sig) (after condOps (atTrip condOps bodyI W₀ k c)) ∗ owing c) : sProp 𝕄) := fun v => by
    iintro ⟨⟨%hv, Hb, Hh⟩, HR⟩
    isplitr; · ipureintro; exact hv
    isplitl [Hb]; · iexact Hb
    isplitl [Hh] <;> iassumption
  refine BIBase.Entails.trans ?_ (((sep_mono_left (h k hk c bd)).trans (wp_frame_r _ _ _)).trans (wp_mono _ _ _ hout))
  iintro ⟨Hb, Hh, HR⟩
  isplitl [Hb Hh]; · isplitl [Hb] <;> iassumption
  iexact HR

/-- A program whose body is the chain of segments that consume no ticket ends with every unscoped buffer at the valuation
    that the last segment leaves. -/
theorem run_of_segs [∀ e, Nonempty (Elt F e)]
    (main : Dev nD → Prog (TpuEff nD τ sig (Elt F) (HostLoop.Sig (Pipeline.Sig Λ₀ (Fin 0) fun p => (pcs p).Adm) nL) .tc) PUnit)
    (m : (ℓ : Loc nD τ sig) → Buf (Elt F) ℓ) (ρ : Dev nD → PrngReg) (W : Dev nD → Valuation τ sig (Elt F))
    (segs : List (HSeg pcs defs₀ loops)) (hmain : ∀ c, main c = Pipeline.chain (segs.map CSeg.prog))
    (hch : CSeg.Chains (fun c => iprop(held (c : Thread nD τ) (ucRefs τ sig) (launchContents m c) ∗ owing c)) segs
      (fun c => iprop(held (c : Thread nD τ) (ucRefs τ sig) (W c) ∗ owing c))) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = W c (Proc.devRef .tc b)) :=
  Pipeline.θ_run_regions_loop_kit (Ix := Unit) (Name := ℕ) (U := Option PUnit) (Lvl := ℕ) (J := Fin 0) (P := Fin 0) (Val := Elt F)
    pcs (noAdm pcs) (fun k => k.1.elim0) defs₀ Variants.none noL noLv loops (noTk pcs) m ρ main segs
    (fun c Q => by rw [hmain c]; exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ owing c))
    (Tₙ := fun c => iprop(held (c : Thread nD τ) (ucRefs τ sig) (W c)))
    (hch := hch)
    (hinit := by
      refine Pipeline.initEach noL noLv fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W c b)
    (hfin := fun c s' => by
      unfold held
      iintro ⟨Hh, HSI⟩
      ihave Hr := (pointsTo_read_all (ucRefs τ sig) (fun b => ((c : Dev nD), b)) (fun b => W c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.Lru

end
-- ==== Proof.Lru.RefOps.lean ====
/- The reference's operations, stretch by stretch: @main, one trip of its forward loop and one trip of its backward loop as lists
   of operations, what each stretch writes, and that the programs are these lists in order. -/
module

public import proofs.«01_k».proof.Proof.Gen.ReferenceIdeal
public import proofs.«01_k».proof.Proof.Lru.HostLoops

@[expose] public section

noncomputable section

namespace Cert.LruRef

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The operations of @main, stretch 1. -/
abbrev mainOps0 : List (HloOp τ sig (Elt F)) :=
  [ StableHlo.TRef.unary (.of main_arg0 : StableHlo.TRef sig ⟨S2x4096x1024, .f32⟩) (.of main_v0 : StableHlo.TRef sig ⟨S2x4096x1024, .f32⟩) (Host.reverse [1]) ]
theorem mainOps0_sub : (mainOps0 : List (HloOp τ sig (Elt F))).Forall fun op => op.bufs ⊆ StableHlo.tcRefs τ sig :=
  StableHlo.unary_bufs_sub ..
theorem mainOps0_fresh : (mainOps0 : List (HloOp τ sig (Elt F))).Forall fun op => op.fresh = ∅ := StableHlo.forall_fresh_of_map rfl
abbrev mainOps0_W : List (Ref sig .tc) := [main_v0]
theorem mainOps0_writes : (mainOps0 : List (HloOp τ sig (Elt F))).Forall fun op => op.writes ⊆ (mainOps0_W.map (Proc.devRef (τ := τ) .tc)).toFinset :=
  StableHlo.forall_writes_sub_of_map rfl

/-- The operations of @main, stretch 2. -/
abbrev mainOps1 : List (HloOp τ sig (Elt F)) :=
  [ StableHlo.TRef.unary (.of main_arg1 : StableHlo.TRef sig ⟨S2x4096x1024, .f32⟩) (.of main_v1 : StableHlo.TRef sig ⟨S2x4096x1024, .f32⟩) (Host.reverse [1]) ]
theorem mainOps1_sub : (mainOps1 : List (HloOp τ sig (Elt F))).Forall fun op => op.bufs ⊆ StableHlo.tcRefs τ sig :=
  StableHlo.unary_bufs_sub ..
theorem mainOps1_fresh : (mainOps1 : List (HloOp τ sig (Elt F))).Forall fun op => op.fresh = ∅ := StableHlo.forall_fresh_of_map rfl
abbrev mainOps1_W : List (Ref sig .tc) := [main_v1]
theorem mainOps1_writes : (mainOps1 : List (HloOp τ sig (Elt F))).Forall fun op => op.writes ⊆ (mainOps1_W.map (Proc.devRef (τ := τ) .tc)).toFinset :=
  StableHlo.forall_writes_sub_of_map rfl

/-- The operations of @main, stretch 3. -/
abbrev mainOps2 : List (HloOp τ sig (Elt F)) :=
  [ StableHlo.unary main_v0 main_v2 ((extractStridedSlice S2x1x1024 ![0, 0, 0] · slices_S2x4096x1024_S2x1x1024_0_0_0) : (⟨S2x4096x1024, .f32⟩ : BufTy).Contents (Elt F) → (⟨S2x1x1024, .f32⟩ : BufTy).Contents (Elt F)),
    StableHlo.reshape main_v2 main_v3 (rfl : (.f32 : EltTy) = .f32) shapeCasts_S2x1x1024_S2x1024,
    StableHlo.nullary main_cst (constant S_ .f32 0x00000000#32),
    StableHlo.unary main_cst main_v4 (broadcastInDim S2x1024 ![] bcast_S_S2x1024 : (⟨S_, .f32⟩ : BufTy).Contents (Elt F) → (⟨S2x1024, .f32⟩ : BufTy).Contents (Elt F)),
    StableHlo.unary main_v0 main_v5 ((transpose S4096x2x1024 [1, 0, 2] · transposes_S2x4096x1024_S4096x2x1024_1_0_2) : (⟨S2x4096x1024, .f32⟩ : BufTy).Contents (Elt F) → (⟨S4096x2x1024, .f32⟩ : BufTy).Contents (Elt F)),
    StableHlo.unary main_v1 main_v6 ((transpose S4096x2x1024 [1, 0, 2] · transposes_S2x4096x1024_S4096x2x1024_1_0_2) : (⟨S2x4096x1024, .f32⟩ : BufTy).Contents (Elt F) → (⟨S4096x2x1024, .f32⟩ : BufTy).Contents (Elt F)),
    StableHlo.nullary main_cst_0 (constant S_ .f32 0x00000000#32),
    StableHlo.unary main_cst_0 main_v7 (broadcastInDim S4096x2x1024 ![] bcast_S_S4096x2x1024 : (⟨S_, .f32⟩ : BufTy).Contents (Elt F) → (⟨S4096x2x1024, .f32⟩ : BufTy).Contents (Elt F)),
    StableHlo.nullary main_cst_1 (constant S_ .f32 0x00000000#32),
    StableHlo.unary main_cst_1 main_v8 (broadcastInDim S4096x2x1024 ![] bcast_S_S4096x2x1024 : (⟨S_, .f32⟩ : BufTy).Contents (Elt F) → (⟨S4096x2x1024, .f32⟩ : BufTy).Contents (Elt F)),
    StableHlo.nullary main_c (constantI S_ 32 0#32),
    StableHlo.unary main_v5 main_v9_0 id,
    StableHlo.unary main_v6 main_v9_1 id,
    StableHlo.unary main_c main_v9_2 id,
    StableHlo.unary main_v4 main_v9_3 id,
    StableHlo.unary main_v7 main_v9_4 id,
    StableHlo.unary main_v8 main_v9_5 id ]
theorem mainOps2_sub : (mainOps2 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem mainOps2_fresh : (mainOps2 : List (HloOp τ sig (Elt F))).Forall fun op => op.fresh = ∅ := StableHlo.forall_fresh_of_map rfl
abbrev mainOps2_W : List (Ref sig .tc) := [main_v2, main_v3, main_cst, main_v4, main_v5, main_v6, main_cst_0, main_v7, main_cst_1, main_v8, main_c, main_v9_0, main_v9_1, main_v9_2, main_v9_3, main_v9_4, main_v9_5]
theorem mainOps2_writes : (mainOps2 : List (HloOp τ sig (Elt F))).Forall fun op => op.writes ⊆ (mainOps2_W.map (Proc.devRef (τ := τ) .tc)).toFinset :=
  StableHlo.forall_writes_sub_of_map rfl

/-- The operations of @main, stretch 4. -/
abbrev mainOps3 : List (HloOp τ sig (Elt F)) :=
  [ StableHlo.unary main_v9_4 main_v10 ((transpose S2x4096x1024 [1, 0, 2] · transposes_S4096x2x1024_S2x4096x1024_1_0_2) : (⟨S4096x2x1024, .f32⟩ : BufTy).Contents (Elt F) → (⟨S2x4096x1024, .f32⟩ : BufTy).Contents (Elt F)) ]
theorem mainOps3_sub : (mainOps3 : List (HloOp τ sig (Elt F))).Forall fun op => op.bufs ⊆ StableHlo.tcRefs τ sig :=
  StableHlo.unary_bufs_sub ..
theorem mainOps3_fresh : (mainOps3 : List (HloOp τ sig (Elt F))).Forall fun op => op.fresh = ∅ := StableHlo.forall_fresh_of_map rfl
abbrev mainOps3_W : List (Ref sig .tc) := [main_v10]
theorem mainOps3_writes : (mainOps3 : List (HloOp τ sig (Elt F))).Forall fun op => op.writes ⊆ (mainOps3_W.map (Proc.devRef (τ := τ) .tc)).toFinset :=
  StableHlo.forall_writes_sub_of_map rfl

/-- The operations of @main, stretch 5. -/
abbrev mainOps4 : List (HloOp τ sig (Elt F)) :=
  [ StableHlo.TRef.unary (.of main_v10 : StableHlo.TRef sig ⟨S2x4096x1024, .f32⟩) (.of main_v11 : StableHlo.TRef sig ⟨S2x4096x1024, .f32⟩) (Host.reverse [1]) ]
theorem mainOps4_sub : (mainOps4 : List (HloOp τ sig (Elt F))).Forall fun op => op.bufs ⊆ StableHlo.tcRefs τ sig :=
  StableHlo.unary_bufs_sub ..
theorem mainOps4_fresh : (mainOps4 : List (HloOp τ sig (Elt F))).Forall fun op => op.fresh = ∅ := StableHlo.forall_fresh_of_map rfl
abbrev mainOps4_W : List (Ref sig .tc) := [main_v11]
theorem mainOps4_writes : (mainOps4 : List (HloOp τ sig (Elt F))).Forall fun op => op.writes ⊆ (mainOps4_W.map (Proc.devRef (τ := τ) .tc)).toFinset :=
  StableHlo.forall_writes_sub_of_map rfl

/-- The operations of @main, stretch 6. -/
abbrev mainOps5 : List (HloOp τ sig (Elt F)) :=
  [ StableHlo.nullary main_cst_2 (constant S_ .f32 0x00000000#32),
    StableHlo.unary main_cst_2 main_v12 (broadcastInDim S2x1024 ![] bcast_S_S2x1024 : (⟨S_, .f32⟩ : BufTy).Contents (Elt F) → (⟨S2x1024, .f32⟩ : BufTy).Contents (Elt F)) ]
theorem mainOps5_sub : (mainOps5 : List (HloOp τ sig (Elt F))).Forall fun op => op.bufs ⊆ StableHlo.tcRefs τ sig :=
  ⟨StableHlo.nullary_bufs_sub .., StableHlo.unary_bufs_sub ..⟩
theorem mainOps5_fresh : (mainOps5 : List (HloOp τ sig (Elt F))).Forall fun op => op.fresh = ∅ := StableHlo.forall_fresh_of_map rfl
abbrev mainOps5_W : List (Ref sig .tc) := [main_cst_2, main_v12]
theorem mainOps5_writes : (mainOps5 : List (HloOp τ sig (Elt F))).Forall fun op => op.writes ⊆ (mainOps5_W.map (Proc.devRef (τ := τ) .tc)).toFinset :=
  StableHlo.forall_writes_sub_of_map rfl

/-- The operations of @main, stretch 7. -/
abbrev mainOps6 : List (HloOp τ sig (Elt F)) :=
  [ StableHlo.TRef.unary (.of main_arg2 : StableHlo.TRef sig ⟨S2x4096x1024, .f32⟩) (.of main_v13 : StableHlo.TRef sig ⟨S2x4096x1024, .f32⟩) (Host.reverse [1]) ]
theorem mainOps6_sub : (mainOps6 : List (HloOp τ sig (Elt F))).Forall fun op => op.bufs ⊆ StableHlo.tcRefs τ sig :=
  StableHlo.unary_bufs_sub ..
theorem mainOps6_fresh : (mainOps6 : List (HloOp τ sig (Elt F))).Forall fun op => op.fresh = ∅ := StableHlo.forall_fresh_of_map rfl
abbrev mainOps6_W : List (Ref sig .tc) := [main_v13]
theorem mainOps6_writes : (mainOps6 : List (HloOp τ sig (Elt F))).Forall fun op => op.writes ⊆ (mainOps6_W.map (Proc.devRef (τ := τ) .tc)).toFinset :=
  StableHlo.forall_writes_sub_of_map rfl

/-- The operations of @main, stretch 8. -/
abbrev mainOps7 : List (HloOp τ sig (Elt F)) :=
  [ StableHlo.unary main_v13 main_v14 ((transpose S4096x2x1024 [1, 0, 2] · transposes_S2x4096x1024_S4096x2x1024_1_0_2) : (⟨S2x4096x1024, .f32⟩ : BufTy).Contents (Elt F) → (⟨S4096x2x1024, .f32⟩ : BufTy).Contents (Elt F)),
    StableHlo.nullary main_cst_3 (constant S_ .f32 0x00000000#32),
    StableHlo.unary main_cst_3 main_v15 (broadcastInDim S2x1024 ![] bcast_S_S2x1024 : (⟨S_, .f32⟩ : BufTy).Contents (Elt F) → (⟨S2x1024, .f32⟩ : BufTy).Contents (Elt F)),
    StableHlo.nullary main_cst_4 (constant S_ .f32 0x00000000#32),
    StableHlo.unary main_cst_4 main_v16 (broadcastInDim S4096x2x1024 ![] bcast_S_S4096x2x1024 : (⟨S_, .f32⟩ : BufTy).Contents (Elt F) → (⟨S4096x2x1024, .f32⟩ : BufTy).Contents (Elt F)),
    StableHlo.nullary main_cst_5 (constant S_ .f32 0x00000000#32),
    StableHlo.unary main_cst_5 main_v17 (broadcastInDim S4096x2x1024 ![] bcast_S_S4096x2x1024 : (⟨S_, .f32⟩ : BufTy).Contents (Elt F) → (⟨S4096x2x1024, .f32⟩ : BufTy).Contents (Elt F)),
    StableHlo.nullary main_c_6 (constantI S_ 32 0#32),
    StableHlo.unary main_v14 main_v18_0 id,
    StableHlo.unary main_v9_5 main_v18_1 id,
    StableHlo.unary main_v5 main_v18_2 id,
    StableHlo.unary main_c_6 main_v18_3 id,
    StableHlo.unary main_v15 main_v18_4 id,
    StableHlo.unary main_v16 main_v18_5 id,
    StableHlo.unary main_v17 main_v18_6 id ]
theorem mainOps7_sub : (mainOps7 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem mainOps7_fresh : (mainOps7 : List (HloOp τ sig (Elt F))).Forall fun op => op.fresh = ∅ := StableHlo.forall_fresh_of_map rfl
abbrev mainOps7_W : List (Ref sig .tc) := [main_v14, main_cst_3, main_v15, main_cst_4, main_v16, main_cst_5, main_v17, main_c_6, main_v18_0, main_v18_1, main_v18_2, main_v18_3, main_v18_4, main_v18_5, main_v18_6]
theorem mainOps7_writes : (mainOps7 : List (HloOp τ sig (Elt F))).Forall fun op => op.writes ⊆ (mainOps7_W.map (Proc.devRef (τ := τ) .tc)).toFinset :=
  StableHlo.forall_writes_sub_of_map rfl

/-- The operations of @main, stretch 9. -/
abbrev mainOps8 : List (HloOp τ sig (Elt F)) :=
  [ StableHlo.unary main_v18_6 main_v19 ((transpose S2x4096x1024 [1, 0, 2] · transposes_S4096x2x1024_S2x4096x1024_1_0_2) : (⟨S4096x2x1024, .f32⟩ : BufTy).Contents (Elt F) → (⟨S2x4096x1024, .f32⟩ : BufTy).Contents (Elt F)),
    StableHlo.unary main_v18_5 main_v20 ((transpose S2x4096x1024 [1, 0, 2] · transposes_S4096x2x1024_S2x4096x1024_1_0_2) : (⟨S4096x2x1024, .f32⟩ : BufTy).Contents (Elt F) → (⟨S2x4096x1024, .f32⟩ : BufTy).Contents (Elt F)) ]
theorem mainOps8_sub : (mainOps8 : List (HloOp τ sig (Elt F))).Forall fun op => op.bufs ⊆ StableHlo.tcRefs τ sig :=
  ⟨StableHlo.unary_bufs_sub .., StableHlo.unary_bufs_sub ..⟩
theorem mainOps8_fresh : (mainOps8 : List (HloOp τ sig (Elt F))).Forall fun op => op.fresh = ∅ := StableHlo.forall_fresh_of_map rfl
abbrev mainOps8_W : List (Ref sig .tc) := [main_v19, main_v20]
theorem mainOps8_writes : (mainOps8 : List (HloOp τ sig (Elt F))).Forall fun op => op.writes ⊆ (mainOps8_W.map (Proc.devRef (τ := τ) .tc)).toFinset :=
  StableHlo.forall_writes_sub_of_map rfl

/-- The operations of @main, stretch 10. -/
abbrev mainOps9 : List (HloOp τ sig (Elt F)) :=
  [ StableHlo.TRef.unary (.of main_v19 : StableHlo.TRef sig ⟨S2x4096x1024, .f32⟩) (.of main_v21 : StableHlo.TRef sig ⟨S2x4096x1024, .f32⟩) (Host.reverse [1]) ]
theorem mainOps9_sub : (mainOps9 : List (HloOp τ sig (Elt F))).Forall fun op => op.bufs ⊆ StableHlo.tcRefs τ sig :=
  StableHlo.unary_bufs_sub ..
theorem mainOps9_fresh : (mainOps9 : List (HloOp τ sig (Elt F))).Forall fun op => op.fresh = ∅ := StableHlo.forall_fresh_of_map rfl
abbrev mainOps9_W : List (Ref sig .tc) := [main_v21]
theorem mainOps9_writes : (mainOps9 : List (HloOp τ sig (Elt F))).Forall fun op => op.writes ⊆ (mainOps9_W.map (Proc.devRef (τ := τ) .tc)).toFinset :=
  StableHlo.forall_writes_sub_of_map rfl

/-- The operations of @main, stretch 11. -/
abbrev mainOps10 : List (HloOp τ sig (Elt F)) :=
  [ StableHlo.TRef.unary (.of main_v20 : StableHlo.TRef sig ⟨S2x4096x1024, .f32⟩) (.of main_v22 : StableHlo.TRef sig ⟨S2x4096x1024, .f32⟩) (Host.reverse [1]) ]
theorem mainOps10_sub : (mainOps10 : List (HloOp τ sig (Elt F))).Forall fun op => op.bufs ⊆ StableHlo.tcRefs τ sig :=
  StableHlo.unary_bufs_sub ..
theorem mainOps10_fresh : (mainOps10 : List (HloOp τ sig (Elt F))).Forall fun op => op.fresh = ∅ := StableHlo.forall_fresh_of_map rfl
abbrev mainOps10_W : List (Ref sig .tc) := [main_v22]
theorem mainOps10_writes : (mainOps10 : List (HloOp τ sig (Elt F))).Forall fun op => op.writes ⊆ (mainOps10_W.map (Proc.devRef (τ := τ) .tc)).toFinset :=
  StableHlo.forall_writes_sub_of_map rfl

/-- One trip of the forward loop, stretch 1. -/
abbrev scanOps0 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.unaryIndexed (.of main_v9_0 : StableHlo.TRef sig ⟨S4096x2x1024, .f32⟩) ![(.of main_v9_2 : StableHlo.TRef sig ⟨S_, .i32⟩), (.of main_while0b_call2_c : StableHlo.TRef sig ⟨S_, .i32⟩), (.of main_while0b_call2_c_0 : StableHlo.TRef sig ⟨S_, .i32⟩)] (.of main_while0b_call2_v0 : StableHlo.TRef sig ⟨S1x2x1024, .f32⟩) (fun x i => Host.dynamicSlice S1x2x1024 x (fun k => (i k (Shape.Idx.first h_S_)).toInt) sliceFits_S4096x2x1024_S1x2x1024),
    StableHlo.TRef.reshape (.of main_while0b_call2_v0 : StableHlo.TRef sig ⟨S1x2x1024, .f32⟩) (.of main_while0b_v23 : StableHlo.TRef sig ⟨S2x1024, .f32⟩) (rfl : (.f32 : EltTy) = .f32) shapeCasts_S1x2x1024_S2x1024 ]
theorem scanOps0_sub : (scanOps0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem scanOps0_fresh : (scanOps0 : List (HloOp τ sig (Elt F))).Forall fun op => op.fresh = ∅ := StableHlo.forall_fresh_of_map rfl
abbrev scanOps0_W : List (Ref sig .tc) := [main_while0b_call2_c, main_while0b_call2_c_0, main_while0b_call2_v0, main_while0b_v23]
theorem scanOps0_writes : (scanOps0 : List (HloOp τ sig (Elt F))).Forall fun op => op.writes ⊆ (scanOps0_W.map (Proc.devRef (τ := τ) .tc)).toFinset :=
  StableHlo.forall_writes_sub_of_map rfl

/-- One trip of the forward loop, stretch 2. -/
abbrev scanOps1 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.unaryIndexed (.of main_v9_1 : StableHlo.TRef sig ⟨S4096x2x1024, .f32⟩) ![(.of main_v9_2 : StableHlo.TRef sig ⟨S_, .i32⟩), (.of main_while0b_call3_c : StableHlo.TRef sig ⟨S_, .i32⟩), (.of main_while0b_call3_c_0 : StableHlo.TRef sig ⟨S_, .i32⟩)] (.of main_while0b_call3_v0 : StableHlo.TRef sig ⟨S1x2x1024, .f32⟩) (fun x i => Host.dynamicSlice S1x2x1024 x (fun k => (i k (Shape.Idx.first h_S_)).toInt) sliceFits_S4096x2x1024_S1x2x1024),
    StableHlo.TRef.reshape (.of main_while0b_call3_v0 : StableHlo.TRef sig ⟨S1x2x1024, .f32⟩) (.of main_while0b_v24 : StableHlo.TRef sig ⟨S2x1024, .f32⟩) (rfl : (.f32 : EltTy) = .f32) shapeCasts_S1x2x1024_S2x1024 ]
theorem scanOps1_sub : (scanOps1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem scanOps1_fresh : (scanOps1 : List (HloOp τ sig (Elt F))).Forall fun op => op.fresh = ∅ := StableHlo.forall_fresh_of_map rfl
abbrev scanOps1_W : List (Ref sig .tc) := [main_while0b_call3_c, main_while0b_call3_c_0, main_while0b_call3_v0, main_while0b_v24]
theorem scanOps1_writes : (scanOps1 : List (HloOp τ sig (Elt F))).Forall fun op => op.writes ⊆ (scanOps1_W.map (Proc.devRef (τ := τ) .tc)).toFinset :=
  StableHlo.forall_writes_sub_of_map rfl

/-- One trip of the forward loop, stretch 3. -/
abbrev scanOps2 : List (HloOp τ sig (Elt F)) :=
  [ StableHlo.binary main_while0b_v23 main_v9_3 main_while0b_v25 (mulf : (⟨S2x1024, .f32⟩ : BufTy).Contents (Elt F) → (⟨S2x1024, .f32⟩ : BufTy).Contents (Elt F) → (⟨S2x1024, .f32⟩ : BufTy).Contents (Elt F)),
    StableHlo.binary main_while0b_v25 main_while0b_v24 main_while0b_v26 (addf : (⟨S2x1024, .f32⟩ : BufTy).Contents (Elt F) → (⟨S2x1024, .f32⟩ : BufTy).Contents (Elt F) → (⟨S2x1024, .f32⟩ : BufTy).Contents (Elt F)) ]
theorem scanOps2_sub : (scanOps2 : List (HloOp τ sig (Elt F))).Forall fun op => op.bufs ⊆ StableHlo.tcRefs τ sig :=
  ⟨StableHlo.binary_bufs_sub .., StableHlo.binary_bufs_sub ..⟩
theorem scanOps2_fresh : (scanOps2 : List (HloOp τ sig (Elt F))).Forall fun op => op.fresh = ∅ := StableHlo.forall_fresh_of_map rfl
abbrev scanOps2_W : List (Ref sig .tc) := [main_while0b_v25, main_while0b_v26]
theorem scanOps2_writes : (scanOps2 : List (HloOp τ sig (Elt F))).Forall fun op => op.writes ⊆ (scanOps2_W.map (Proc.devRef (τ := τ) .tc)).toFinset :=
  StableHlo.forall_writes_sub_of_map rfl

/-- One trip of the forward loop, stretch 4. -/
abbrev scanOps3 : List (HloOp τ sig (Elt F)) :=
  [ StableHlo.TRef.unary (.of main_while0b_v26 : StableHlo.TRef sig ⟨S2x1024, .f32⟩) (.of main_while0b_call4_v0 : StableHlo.TRef sig ⟨S1x2x1024, .f32⟩) (broadcastInDim S1x2x1024 ![1, 2] bcast_S2x1024_S1x2x1024_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v9_4 : StableHlo.TRef sig ⟨S4096x2x1024, .f32⟩) (.of main_while0b_call4_v0 : StableHlo.TRef sig ⟨S1x2x1024, .f32⟩) ![(.of main_v9_2 : StableHlo.TRef sig ⟨S_, .i32⟩), (.of main_while0b_call4_c : StableHlo.TRef sig ⟨S_, .i32⟩), (.of main_while0b_call4_c_0 : StableHlo.TRef sig ⟨S_, .i32⟩)] (.of main_while0b_v27 : StableHlo.TRef sig ⟨S4096x2x1024, .f32⟩) (fun x u i => Host.dynamicUpdateSlice x u (fun k => (i k (Shape.Idx.first h_S_)).toInt) updateFits_S4096x2x1024_S1x2x1024) ]
theorem scanOps3_sub : (scanOps3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem scanOps3_fresh : (scanOps3 : List (HloOp τ sig (Elt F))).Forall fun op => op.fresh = ∅ := StableHlo.forall_fresh_of_map rfl
abbrev scanOps3_W : List (Ref sig .tc) := [main_while0b_call4_v0, main_while0b_call4_c, main_while0b_call4_c_0, main_while0b_v27]
theorem scanOps3_writes : (scanOps3 : List (HloOp τ sig (Elt F))).Forall fun op => op.writes ⊆ (scanOps3_W.map (Proc.devRef (τ := τ) .tc)).toFinset :=
  StableHlo.forall_writes_sub_of_map rfl

/-- One trip of the forward loop, stretch 5. -/
abbrev scanOps4 : List (HloOp τ sig (Elt F)) :=
  [ StableHlo.TRef.unary (.of main_v9_3 : StableHlo.TRef sig ⟨S2x1024, .f32⟩) (.of main_while0b_call5_v0 : StableHlo.TRef sig ⟨S1x2x1024, .f32⟩) (broadcastInDim S1x2x1024 ![1, 2] bcast_S2x1024_S1x2x1024_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v9_5 : StableHlo.TRef sig ⟨S4096x2x1024, .f32⟩) (.of main_while0b_call5_v0 : StableHlo.TRef sig ⟨S1x2x1024, .f32⟩) ![(.of main_v9_2 : StableHlo.TRef sig ⟨S_, .i32⟩), (.of main_while0b_call5_c : StableHlo.TRef sig ⟨S_, .i32⟩), (.of main_while0b_call5_c_0 : StableHlo.TRef sig ⟨S_, .i32⟩)] (.of main_while0b_v28 : StableHlo.TRef sig ⟨S4096x2x1024, .f32⟩) (fun x u i => Host.dynamicUpdateSlice x u (fun k => (i k (Shape.Idx.first h_S_)).toInt) updateFits_S4096x2x1024_S1x2x1024) ]
theorem scanOps4_sub : (scanOps4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem scanOps4_fresh : (scanOps4 : List (HloOp τ sig (Elt F))).Forall fun op => op.fresh = ∅ := StableHlo.forall_fresh_of_map rfl
abbrev scanOps4_W : List (Ref sig .tc) := [main_while0b_call5_v0, main_while0b_call5_c, main_while0b_call5_c_0, main_while0b_v28]
theorem scanOps4_writes : (scanOps4 : List (HloOp τ sig (Elt F))).Forall fun op => op.writes ⊆ (scanOps4_W.map (Proc.devRef (τ := τ) .tc)).toFinset :=
  StableHlo.forall_writes_sub_of_map rfl

/-- One trip of the forward loop, stretch 6. -/
abbrev scanOps5 : List (HloOp τ sig (Elt F)) :=
  [ StableHlo.nullary main_while0b_c_12 (constantI S_ 32 1#32),
    StableHlo.binary main_v9_2 main_while0b_c_12 main_while0b_v29 (addi : (⟨S_, .i32⟩ : BufTy).Contents (Elt F) → (⟨S_, .i32⟩ : BufTy).Contents (Elt F) → (⟨S_, .i32⟩ : BufTy).Contents (Elt F)),
    StableHlo.unary main_while0b_v29 main_v9_2 id,
    StableHlo.unary main_while0b_v26 main_v9_3 id,
    StableHlo.unary main_while0b_v27 main_v9_4 id,
    StableHlo.unary main_while0b_v28 main_v9_5 id ]
theorem scanOps5_sub : (scanOps5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem scanOps5_fresh : (scanOps5 : List (HloOp τ sig (Elt F))).Forall fun op => op.fresh = ∅ := StableHlo.forall_fresh_of_map rfl
abbrev scanOps5_W : List (Ref sig .tc) := [main_while0b_c_12, main_while0b_v29, main_v9_2, main_v9_3, main_v9_4, main_v9_5]
theorem scanOps5_writes : (scanOps5 : List (HloOp τ sig (Elt F))).Forall fun op => op.writes ⊆ (scanOps5_W.map (Proc.devRef (τ := τ) .tc)).toFinset :=
  StableHlo.forall_writes_sub_of_map rfl

/-- One trip of the backward loop, stretch 1. -/
abbrev gradOps0 : List (HloOp τ sig (Elt F)) :=
  [ StableHlo.nullary main_while1b_c_13 (constantI S_ 32 4096#32),
    StableHlo.binary main_while1b_c_13 main_v18_3 main_while1b_v23 (subi : (⟨S_, .i32⟩ : BufTy).Contents (Elt F) → (⟨S_, .i32⟩ : BufTy).Contents (Elt F) → (⟨S_, .i32⟩ : BufTy).Contents (Elt F)),
    StableHlo.nullary main_while1b_c_14 (constantI S_ 32 1#32),
    StableHlo.binary main_while1b_v23 main_while1b_c_14 main_while1b_v24 (subi : (⟨S_, .i32⟩ : BufTy).Contents (Elt F) → (⟨S_, .i32⟩ : BufTy).Contents (Elt F) → (⟨S_, .i32⟩ : BufTy).Contents (Elt F)) ]
theorem gradOps0_sub : (gradOps0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem gradOps0_fresh : (gradOps0 : List (HloOp τ sig (Elt F))).Forall fun op => op.fresh = ∅ := StableHlo.forall_fresh_of_map rfl
abbrev gradOps0_W : List (Ref sig .tc) := [main_while1b_c_13, main_while1b_v23, main_while1b_c_14, main_while1b_v24]
theorem gradOps0_writes : (gradOps0 : List (HloOp τ sig (Elt F))).Forall fun op => op.writes ⊆ (gradOps0_W.map (Proc.devRef (τ := τ) .tc)).toFinset :=
  StableHlo.forall_writes_sub_of_map rfl

/-- One trip of the backward loop, stretch 2. -/
abbrev gradOps1 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.unaryIndexed (.of main_v18_0 : StableHlo.TRef sig ⟨S4096x2x1024, .f32⟩) ![(.of main_while1b_v24 : StableHlo.TRef sig ⟨S_, .i32⟩), (.of main_while1b_call8_c : StableHlo.TRef sig ⟨S_, .i32⟩), (.of main_while1b_call8_c_0 : StableHlo.TRef sig ⟨S_, .i32⟩)] (.of main_while1b_call8_v0 : StableHlo.TRef sig ⟨S1x2x1024, .f32⟩) (fun x i => Host.dynamicSlice S1x2x1024 x (fun k => (i k (Shape.Idx.first h_S_)).toInt) sliceFits_S4096x2x1024_S1x2x1024),
    StableHlo.TRef.reshape (.of main_while1b_call8_v0 : StableHlo.TRef sig ⟨S1x2x1024, .f32⟩) (.of main_while1b_v25 : StableHlo.TRef sig ⟨S2x1024, .f32⟩) (rfl : (.f32 : EltTy) = .f32) shapeCasts_S1x2x1024_S2x1024 ]
theorem gradOps1_sub : (gradOps1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem gradOps1_fresh : (gradOps1 : List (HloOp τ sig (Elt F))).Forall fun op => op.fresh = ∅ := StableHlo.forall_fresh_of_map rfl
abbrev gradOps1_W : List (Ref sig .tc) := [main_while1b_call8_c, main_while1b_call8_c_0, main_while1b_call8_v0, main_while1b_v25]
theorem gradOps1_writes : (gradOps1 : List (HloOp τ sig (Elt F))).Forall fun op => op.writes ⊆ (gradOps1_W.map (Proc.devRef (τ := τ) .tc)).toFinset :=
  StableHlo.forall_writes_sub_of_map rfl

/-- One trip of the backward loop, stretch 3. -/
abbrev gradOps2 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.unaryIndexed (.of main_v18_1 : StableHlo.TRef sig ⟨S4096x2x1024, .f32⟩) ![(.of main_while1b_v24 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x2x1024, .f32⟩) (fun x i => Host.dynamicSlice S1x2x1024 x (fun k => (i k (Shape.Idx.first h_S_)).toInt) sliceFits_S4096x2x1024_S1x2x1024),
    StableHlo.TRef.reshape (.of main_while1b_call9_v0 : StableHlo.TRef sig ⟨S1x2x1024, .f32⟩) (.of main_while1b_v26 : StableHlo.TRef sig ⟨S2x1024, .f32⟩) (rfl : (.f32 : EltTy) = .f32) shapeCasts_S1x2x1024_S2x1024 ]
theorem gradOps2_sub : (gradOps2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem gradOps2_fresh : (gradOps2 : List (HloOp τ sig (Elt F))).Forall fun op => op.fresh = ∅ := StableHlo.forall_fresh_of_map rfl
abbrev gradOps2_W : List (Ref sig .tc) := [main_while1b_call9_c, main_while1b_call9_c_0, main_while1b_call9_v0, main_while1b_v26]
theorem gradOps2_writes : (gradOps2 : List (HloOp τ sig (Elt F))).Forall fun op => op.writes ⊆ (gradOps2_W.map (Proc.devRef (τ := τ) .tc)).toFinset :=
  StableHlo.forall_writes_sub_of_map rfl

/-- One trip of the backward loop, stretch 4. -/
abbrev gradOps3 : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.unaryIndexed (.of main_v18_2 : StableHlo.TRef sig ⟨S4096x2x1024, .f32⟩) ![(.of main_while1b_v24 : StableHlo.TRef sig ⟨S_, .i32⟩), (.of main_while1b_call10_c : StableHlo.TRef sig ⟨S_, .i32⟩), (.of main_while1b_call10_c_0 : StableHlo.TRef sig ⟨S_, .i32⟩)] (.of main_while1b_call10_v0 : StableHlo.TRef sig ⟨S1x2x1024, .f32⟩) (fun x i => Host.dynamicSlice S1x2x1024 x (fun k => (i k (Shape.Idx.first h_S_)).toInt) sliceFits_S4096x2x1024_S1x2x1024),
    StableHlo.TRef.reshape (.of main_while1b_call10_v0 : StableHlo.TRef sig ⟨S1x2x1024, .f32⟩) (.of main_while1b_v27 : StableHlo.TRef sig ⟨S2x1024, .f32⟩) (rfl : (.f32 : EltTy) = .f32) shapeCasts_S1x2x1024_S2x1024 ]
theorem gradOps3_sub : (gradOps3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem gradOps3_fresh : (gradOps3 : List (HloOp τ sig (Elt F))).Forall fun op => op.fresh = ∅ := StableHlo.forall_fresh_of_map rfl
abbrev gradOps3_W : List (Ref sig .tc) := [main_while1b_call10_c, main_while1b_call10_c_0, main_while1b_call10_v0, main_while1b_v27]
theorem gradOps3_writes : (gradOps3 : List (HloOp τ sig (Elt F))).Forall fun op => op.writes ⊆ (gradOps3_W.map (Proc.devRef (τ := τ) .tc)).toFinset :=
  StableHlo.forall_writes_sub_of_map rfl

/-- One trip of the backward loop, stretch 5. -/
abbrev gradOps4 : List (HloOp τ sig (Elt F)) :=
  [ StableHlo.binary main_v18_4 main_while1b_v25 main_while1b_v28 (addf : (⟨S2x1024, .f32⟩ : BufTy).Contents (Elt F) → (⟨S2x1024, .f32⟩ : BufTy).Contents (Elt F) → (⟨S2x1024, .f32⟩ : BufTy).Contents (Elt F)),
    StableHlo.binary main_while1b_v27 main_while1b_v28 main_while1b_v29 (mulf : (⟨S2x1024, .f32⟩ : BufTy).Contents (Elt F) → (⟨S2x1024, .f32⟩ : BufTy).Contents (Elt F) → (⟨S2x1024, .f32⟩ : BufTy).Contents (Elt F)),
    StableHlo.binary main_while1b_v28 main_while1b_v26 main_while1b_v30 (mulf : (⟨S2x1024, .f32⟩ : BufTy).Contents (Elt F) → (⟨S2x1024, .f32⟩ : BufTy).Contents (Elt F) → (⟨S2x1024, .f32⟩ : BufTy).Contents (Elt F)) ]
theorem gradOps4_sub : (gradOps4 : List (HloOp τ sig (Elt F))).Forall fun op => op.bufs ⊆ StableHlo.tcRefs τ sig :=
  ⟨StableHlo.binary_bufs_sub .., StableHlo.binary_bufs_sub .., StableHlo.binary_bufs_sub ..⟩
theorem gradOps4_fresh : (gradOps4 : List (HloOp τ sig (Elt F))).Forall fun op => op.fresh = ∅ := StableHlo.forall_fresh_of_map rfl
abbrev gradOps4_W : List (Ref sig .tc) := [main_while1b_v28, main_while1b_v29, main_while1b_v30]
theorem gradOps4_writes : (gradOps4 : List (HloOp τ sig (Elt F))).Forall fun op => op.writes ⊆ (gradOps4_W.map (Proc.devRef (τ := τ) .tc)).toFinset :=
  StableHlo.forall_writes_sub_of_map rfl

/-- One trip of the backward loop, stretch 6. -/
abbrev gradOps5 : List (HloOp τ sig (Elt F)) :=
  [ StableHlo.TRef.unary (.of main_while1b_v30 : StableHlo.TRef sig ⟨S2x1024, .f32⟩) (.of main_while1b_call11_v0 : StableHlo.TRef sig ⟨S1x2x1024, .f32⟩) (broadcastInDim S1x2x1024 ![1, 2] bcast_S2x1024_S1x2x1024_1_2),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.binaryIndexed (.of main_v18_5 : StableHlo.TRef sig ⟨S4096x2x1024, .f32⟩) (.of main_while1b_call11_v0 : StableHlo.TRef sig ⟨S1x2x1024, .f32⟩) ![(.of main_while1b_v24 : StableHlo.TRef sig ⟨S_, .i32⟩), (.of main_while1b_call11_c : StableHlo.TRef sig ⟨S_, .i32⟩), (.of main_while1b_call11_c_0 : StableHlo.TRef sig ⟨S_, .i32⟩)] (.of main_while1b_v31 : StableHlo.TRef sig ⟨S4096x2x1024, .f32⟩) (fun x u i => Host.dynamicUpdateSlice x u (fun k => (i k (Shape.Idx.first h_S_)).toInt) updateFits_S4096x2x1024_S1x2x1024) ]
theorem gradOps5_sub : (gradOps5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem gradOps5_fresh : (gradOps5 : List (HloOp τ sig (Elt F))).Forall fun op => op.fresh = ∅ := StableHlo.forall_fresh_of_map rfl
abbrev gradOps5_W : List (Ref sig .tc) := [main_while1b_call11_v0, main_while1b_call11_c, main_while1b_call11_c_0, main_while1b_v31]
theorem gradOps5_writes : (gradOps5 : List (HloOp τ sig (Elt F))).Forall fun op => op.writes ⊆ (gradOps5_W.map (Proc.devRef (τ := τ) .tc)).toFinset :=
  StableHlo.forall_writes_sub_of_map rfl

/-- One trip of the backward loop, stretch 7. -/
abbrev gradOps6 : List (HloOp τ sig (Elt F)) :=
  [ StableHlo.TRef.unary (.of main_while1b_v28 : StableHlo.TRef sig ⟨S2x1024, .f32⟩) (.of main_while1b_call12_v0 : StableHlo.TRef sig ⟨S1x2x1024, .f32⟩) (broadcastInDim S1x2x1024 ![1, 2] bcast_S2x1024_S1x2x1024_1_2),
    StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.binaryIndexed (.of main_v18_6 : StableHlo.TRef sig ⟨S4096x2x1024, .f32⟩) (.of main_while1b_call12_v0 : StableHlo.TRef sig ⟨S1x2x1024, .f32⟩) ![(.of main_while1b_v24 : StableHlo.TRef sig ⟨S_, .i32⟩), (.of main_while1b_call12_c : StableHlo.TRef sig ⟨S_, .i32⟩), (.of main_while1b_call12_c_0 : StableHlo.TRef sig ⟨S_, .i32⟩)] (.of main_while1b_v32 : StableHlo.TRef sig ⟨S4096x2x1024, .f32⟩) (fun x u i => Host.dynamicUpdateSlice x u (fun k => (i k (Shape.Idx.first h_S_)).toInt) updateFits_S4096x2x1024_S1x2x1024) ]
theorem gradOps6_sub : (gradOps6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem gradOps6_fresh : (gradOps6 : List (HloOp τ sig (Elt F))).Forall fun op => op.fresh = ∅ := StableHlo.forall_fresh_of_map rfl
abbrev gradOps6_W : List (Ref sig .tc) := [main_while1b_call12_v0, main_while1b_call12_c, main_while1b_call12_c_0, main_while1b_v32]
theorem gradOps6_writes : (gradOps6 : List (HloOp τ sig (Elt F))).Forall fun op => op.writes ⊆ (gradOps6_W.map (Proc.devRef (τ := τ) .tc)).toFinset :=
  StableHlo.forall_writes_sub_of_map rfl

/-- One trip of the backward loop, stretch 8. -/
abbrev gradOps7 : List (HloOp τ sig (Elt F)) :=
  [ StableHlo.nullary main_while1b_c_15 (constantI S_ 32 1#32),
    StableHlo.binary main_v18_3 main_while1b_c_15 main_while1b_v33 (addi : (⟨S_, .i32⟩ : BufTy).Contents (Elt F) → (⟨S_, .i32⟩ : BufTy).Contents (Elt F) → (⟨S_, .i32⟩ : BufTy).Contents (Elt F)),
    StableHlo.unary main_while1b_v33 main_v18_3 id,
    StableHlo.unary main_while1b_v29 main_v18_4 id,
    StableHlo.unary main_while1b_v31 main_v18_5 id,
    StableHlo.unary main_while1b_v32 main_v18_6 id ]
theorem gradOps7_sub : (gradOps7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem gradOps7_fresh : (gradOps7 : List (HloOp τ sig (Elt F))).Forall fun op => op.fresh = ∅ := StableHlo.forall_fresh_of_map rfl
abbrev gradOps7_W : List (Ref sig .tc) := [main_while1b_c_15, main_while1b_v33, main_v18_3, main_v18_4, main_v18_5, main_v18_6]
theorem gradOps7_writes : (gradOps7 : List (HloOp τ sig (Elt F))).Forall fun op => op.writes ⊆ (gradOps7_W.map (Proc.devRef (τ := τ) .tc)).toFinset :=
  StableHlo.forall_writes_sub_of_map rfl

/-- @main is its stretches and its two loops in order. -/
theorem main_chain (c : Dev nD) : main (F := F) c = (Pipeline.chain
    [ StableHlo.seq mainOps0,
      StableHlo.seq mainOps1,
      StableHlo.seq mainOps2,
      HostLoop.enter 0,
      StableHlo.seq mainOps3,
      StableHlo.seq mainOps4,
      StableHlo.seq mainOps5,
      StableHlo.seq mainOps6,
      StableHlo.seq mainOps7,
      HostLoop.enter 1,
      StableHlo.seq mainOps8,
      StableHlo.seq mainOps9,
      StableHlo.seq mainOps10 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons]
  chain_rfl

/-- A trip of the forward loop is its stretches in order. -/
theorem scan_chain : main_while0_body (F := F) = (Pipeline.chain
    [ StableHlo.seq scanOps0,
      StableHlo.seq scanOps1,
      StableHlo.seq scanOps2,
      StableHlo.seq scanOps3,
      StableHlo.seq scanOps4,
      StableHlo.seq scanOps5 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons]
  chain_rfl

/-- A trip of the backward loop is its stretches in order. -/
theorem grad_chain : main_while1_body (F := F) = (Pipeline.chain
    [ StableHlo.seq gradOps0,
      StableHlo.seq gradOps1,
      StableHlo.seq gradOps2,
      StableHlo.seq gradOps3,
      StableHlo.seq gradOps4,
      StableHlo.seq gradOps5,
      StableHlo.seq gradOps6,
      StableHlo.seq gradOps7 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, StableHlo.chain_seq_cons, Pipeline.chain_cons, Pipeline.chain_cons]
  chain_rfl

/-- @main before the forward loop. -/
abbrev preI : List (List (HloOp τ sig (Elt F))) := [mainOps0, mainOps1, mainOps2]
theorem preI_plain : Plain (preI (F := F)) := .cons mainOps0_sub (hf := List.forall_iff_forall_mem.mp mainOps0_fresh) (.cons mainOps1_sub (hf := List.forall_iff_forall_mem.mp mainOps1_fresh) (.cons mainOps2_sub (hf := List.forall_iff_forall_mem.mp mainOps2_fresh) (.nil)))

/-- @main between the two loops. -/
abbrev midI : List (List (HloOp τ sig (Elt F))) := [mainOps3, mainOps4, mainOps5, mainOps6, mainOps7]
theorem midI_plain : Plain (midI (F := F)) := .cons mainOps3_sub (hf := List.forall_iff_forall_mem.mp mainOps3_fresh) (.cons mainOps4_sub (hf := List.forall_iff_forall_mem.mp mainOps4_fresh) (.cons mainOps5_sub (hf := List.forall_iff_forall_mem.mp mainOps5_fresh) (.cons mainOps6_sub (hf := List.forall_iff_forall_mem.mp mainOps6_fresh) (.cons mainOps7_sub (hf := List.forall_iff_forall_mem.mp mainOps7_fresh) (.nil)))))

/-- @main after the backward loop. -/
abbrev postI : List (List (HloOp τ sig (Elt F))) := [mainOps8, mainOps9, mainOps10]
theorem postI_plain : Plain (postI (F := F)) := .cons mainOps8_sub (hf := List.forall_iff_forall_mem.mp mainOps8_fresh) (.cons mainOps9_sub (hf := List.forall_iff_forall_mem.mp mainOps9_fresh) (.cons mainOps10_sub (hf := List.forall_iff_forall_mem.mp mainOps10_fresh) (.nil)))

/-- A trip of the forward loop. -/
abbrev scanI : List (List (HloOp τ sig (Elt F))) := [scanOps0, scanOps1, scanOps2, scanOps3, scanOps4, scanOps5]
theorem scanI_plain : Plain (scanI (F := F)) := .cons scanOps0_sub (hf := List.forall_iff_forall_mem.mp scanOps0_fresh) (.cons scanOps1_sub (hf := List.forall_iff_forall_mem.mp scanOps1_fresh) (.cons scanOps2_sub (hf := List.forall_iff_forall_mem.mp scanOps2_fresh) (.cons scanOps3_sub (hf := List.forall_iff_forall_mem.mp scanOps3_fresh) (.cons scanOps4_sub (hf := List.forall_iff_forall_mem.mp scanOps4_fresh) (.cons scanOps5_sub (hf := List.forall_iff_forall_mem.mp scanOps5_fresh) (.nil))))))

/-- A trip of the backward loop. -/
abbrev gradI : List (List (HloOp τ sig (Elt F))) := [gradOps0, gradOps1, gradOps2, gradOps3, gradOps4, gradOps5, gradOps6, gradOps7]
theorem gradI_plain : Plain (gradI (F := F)) := .cons gradOps0_sub (hf := List.forall_iff_forall_mem.mp gradOps0_fresh) (.cons gradOps1_sub (hf := List.forall_iff_forall_mem.mp gradOps1_fresh) (.cons gradOps2_sub (hf := List.forall_iff_forall_mem.mp gradOps2_fresh) (.cons gradOps3_sub (hf := List.forall_iff_forall_mem.mp gradOps3_fresh) (.cons gradOps4_sub (hf := List.forall_iff_forall_mem.mp gradOps4_fresh) (.cons gradOps5_sub (hf := List.forall_iff_forall_mem.mp gradOps5_fresh) (.cons gradOps6_sub (hf := List.forall_iff_forall_mem.mp gradOps6_fresh) (.cons gradOps7_sub (hf := List.forall_iff_forall_mem.mp gradOps7_fresh) (.nil))))))))

end Cert.LruRef

end
-- ==== Proof.Lru.RefTrip.lean ====
/- What one trip of each of the reference's loops does to the buffers that the loop carries. -/
module

public import proofs.«01_k».proof.Proof.Lru.RefOps

@[expose] public section

set_option maxRecDepth 100000

noncomputable section

namespace Cert.LruRef

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The time-major arrays' contents, one time step's, and the counter's. -/
abbrev Tall (F : FTy → Type) := (⟨S4096x2x1024, .f32⟩ : BufTy).Contents (Elt F)
abbrev Flat (F : FTy → Type) := (⟨S2x1024, .f32⟩ : BufTy).Contents (Elt F)
abbrev Ctr (F : FTy → Type) := (⟨S_, .i32⟩ : BufTy).Contents (Elt F)

/-- The time step that the counter names. -/
def rowAt (x : Tall F) (k : Ctr F) : Flat F :=
  shapeCast S2x1024 (Host.dynamicSlice S1x2x1024 x
    (fun j => ((![k, constantI S_ 32 0#32, constantI S_ 32 0#32] : Fin 3 → Ctr F) j (Shape.Idx.first h_S_)).toInt)
    sliceFits_S4096x2x1024_S1x2x1024) shapeCasts_S1x2x1024_S2x1024

/-- The array with the time step that the counter names replaced. -/
def putAt (x : Tall F) (u : Flat F) (k : Ctr F) : Tall F :=
  Host.dynamicUpdateSlice x (broadcastInDim S1x2x1024 ![1, 2] bcast_S2x1024_S1x2x1024_1_2 u)
    (fun j => ((![k, constantI S_ 32 0#32, constantI S_ 32 0#32] : Fin 3 → Ctr F) j (Shape.Idx.first h_S_)).toInt)
    updateFits_S4096x2x1024_S1x2x1024

/-- The backward loop's time step: the last one less the counter. -/
def backAt (k : Ctr F) : Ctr F := subi (subi (constantI S_ 32 4096#32) k) (constantI S_ 32 1#32)

variable (V : Valuation τ sig (Elt F))

/-! ## What a stretch does not write it leaves -/

theorem scanOps0_keep (r : Ref sig .tc) (h : r ∉ scanOps0_W) : after scanOps0 V (no_index (Proc.devRef .tc r)) = V (Proc.devRef .tc r) :=
  after_of_writes_sub scanOps0 V scanOps0_writes h
theorem scanOps1_keep (r : Ref sig .tc) (h : r ∉ scanOps1_W) : after scanOps1 V (no_index (Proc.devRef .tc r)) = V (Proc.devRef .tc r) :=
  after_of_writes_sub scanOps1 V scanOps1_writes h
theorem scanOps2_keep (r : Ref sig .tc) (h : r ∉ scanOps2_W) : after scanOps2 V (no_index (Proc.devRef .tc r)) = V (Proc.devRef .tc r) :=
  after_of_writes_sub scanOps2 V scanOps2_writes h
theorem scanOps3_keep (r : Ref sig .tc) (h : r ∉ scanOps3_W) : after scanOps3 V (no_index (Proc.devRef .tc r)) = V (Proc.devRef .tc r) :=
  after_of_writes_sub scanOps3 V scanOps3_writes h
theorem scanOps4_keep (r : Ref sig .tc) (h : r ∉ scanOps4_W) : after scanOps4 V (no_index (Proc.devRef .tc r)) = V (Proc.devRef .tc r) :=
  after_of_writes_sub scanOps4 V scanOps4_writes h
theorem scanOps5_keep (r : Ref sig .tc) (h : r ∉ scanOps5_W) : after scanOps5 V (no_index (Proc.devRef .tc r)) = V (Proc.devRef .tc r) :=
  after_of_writes_sub scanOps5 V scanOps5_writes h
theorem gradOps0_keep (r : Ref sig .tc) (h : r ∉ gradOps0_W) : after gradOps0 V (no_index (Proc.devRef .tc r)) = V (Proc.devRef .tc r) :=
  after_of_writes_sub gradOps0 V gradOps0_writes h
theorem gradOps1_keep (r : Ref sig .tc) (h : r ∉ gradOps1_W) : after gradOps1 V (no_index (Proc.devRef .tc r)) = V (Proc.devRef .tc r) :=
  after_of_writes_sub gradOps1 V gradOps1_writes h
theorem gradOps2_keep (r : Ref sig .tc) (h : r ∉ gradOps2_W) : after gradOps2 V (no_index (Proc.devRef .tc r)) = V (Proc.devRef .tc r) :=
  after_of_writes_sub gradOps2 V gradOps2_writes h
theorem gradOps3_keep (r : Ref sig .tc) (h : r ∉ gradOps3_W) : after gradOps3 V (no_index (Proc.devRef .tc r)) = V (Proc.devRef .tc r) :=
  after_of_writes_sub gradOps3 V gradOps3_writes h
theorem gradOps4_keep (r : Ref sig .tc) (h : r ∉ gradOps4_W) : after gradOps4 V (no_index (Proc.devRef .tc r)) = V (Proc.devRef .tc r) :=
  after_of_writes_sub gradOps4 V gradOps4_writes h
theorem gradOps5_keep (r : Ref sig .tc) (h : r ∉ gradOps5_W) : after gradOps5 V (no_index (Proc.devRef .tc r)) = V (Proc.devRef .tc r) :=
  after_of_writes_sub gradOps5 V gradOps5_writes h
theorem gradOps6_keep (r : Ref sig .tc) (h : r ∉ gradOps6_W) : after gradOps6 V (no_index (Proc.devRef .tc r)) = V (Proc.devRef .tc r) :=
  after_of_writes_sub gradOps6 V gradOps6_writes h
theorem gradOps7_keep (r : Ref sig .tc) (h : r ∉ gradOps7_W) : after gradOps7 V (no_index (Proc.devRef .tc r)) = V (Proc.devRef .tc r) :=
  after_of_writes_sub gradOps7 V gradOps7_writes h

/-! ## What each stretch writes -/

theorem scan_a : after scanOps0 V (no_index (Proc.devRef .tc main_while0b_v23)) = rowAt (V (Proc.devRef .tc main_v9_0)) (V (Proc.devRef .tc main_v9_2)) := by
  after_results_entrywise [cast_eq]

theorem scan_b : after scanOps1 V (no_index (Proc.devRef .tc main_while0b_v24)) = rowAt (V (Proc.devRef .tc main_v9_1)) (V (Proc.devRef .tc main_v9_2)) := by
  after_results_entrywise [cast_eq]

theorem scan_h : after scanOps2 V (no_index (Proc.devRef .tc main_while0b_v26)) = addf (mulf (V (Proc.devRef .tc main_while0b_v23)) (V (Proc.devRef .tc main_v9_3))) (V (Proc.devRef .tc main_while0b_v24)) := by
  after_results_entrywise [cast_eq]

theorem scan_hs : after scanOps3 V (no_index (Proc.devRef .tc main_while0b_v27)) = putAt (V (Proc.devRef .tc main_v9_4)) (V (Proc.devRef .tc main_while0b_v26)) (V (Proc.devRef .tc main_v9_2)) := by
  after_results_entrywise [cast_eq]

theorem scan_prev : after scanOps4 V (no_index (Proc.devRef .tc main_while0b_v28)) = putAt (V (Proc.devRef .tc main_v9_5)) (V (Proc.devRef .tc main_v9_3)) (V (Proc.devRef .tc main_v9_2)) := by
  after_results_entrywise [cast_eq]

theorem scan_end_ctr : after scanOps5 V (no_index (Proc.devRef .tc main_v9_2)) = addi (V (Proc.devRef .tc main_v9_2)) (constantI S_ 32 1#32) := by
  after_results_entrywise [cast_eq]

theorem scan_end_h : after scanOps5 V (no_index (Proc.devRef .tc main_v9_3)) = (V (Proc.devRef .tc main_while0b_v26)) := by
  after_results_entrywise [cast_eq]

theorem scan_end_hs : after scanOps5 V (no_index (Proc.devRef .tc main_v9_4)) = (V (Proc.devRef .tc main_while0b_v27)) := by
  after_results_entrywise [cast_eq]

theorem scan_end_prev : after scanOps5 V (no_index (Proc.devRef .tc main_v9_5)) = (V (Proc.devRef .tc main_while0b_v28)) := by
  after_results_entrywise [cast_eq]

theorem grad_idx : after gradOps0 V (no_index (Proc.devRef .tc main_while1b_v24)) = backAt (V (Proc.devRef .tc main_v18_3)) := by
  after_results_entrywise [cast_eq]

theorem grad_dh : after gradOps1 V (no_index (Proc.devRef .tc main_while1b_v25)) = rowAt (V (Proc.devRef .tc main_v18_0)) (V (Proc.devRef .tc main_while1b_v24)) := by
  after_results_entrywise [cast_eq]

theorem grad_prev : after gradOps2 V (no_index (Proc.devRef .tc main_while1b_v26)) = rowAt (V (Proc.devRef .tc main_v18_1)) (V (Proc.devRef .tc main_while1b_v24)) := by
  after_results_entrywise [cast_eq]

theorem grad_a : after gradOps3 V (no_index (Proc.devRef .tc main_while1b_v27)) = rowAt (V (Proc.devRef .tc main_v18_2)) (V (Proc.devRef .tc main_while1b_v24)) := by
  after_results_entrywise [cast_eq]

theorem grad_g : after gradOps4 V (no_index (Proc.devRef .tc main_while1b_v28)) = addf (V (Proc.devRef .tc main_v18_4)) (V (Proc.devRef .tc main_while1b_v25)) := by
  after_results_entrywise [cast_eq]

theorem grad_next : after gradOps4 V (no_index (Proc.devRef .tc main_while1b_v29)) = mulf (V (Proc.devRef .tc main_while1b_v27)) (addf (V (Proc.devRef .tc main_v18_4)) (V (Proc.devRef .tc main_while1b_v25))) := by
  after_results_entrywise [cast_eq]

theorem grad_da : after gradOps4 V (no_index (Proc.devRef .tc main_while1b_v30)) = mulf (addf (V (Proc.devRef .tc main_v18_4)) (V (Proc.devRef .tc main_while1b_v25))) (V (Proc.devRef .tc main_while1b_v26)) := by
  after_results_entrywise [cast_eq]

theorem grad_das : after gradOps5 V (no_index (Proc.devRef .tc main_while1b_v31)) = putAt (V (Proc.devRef .tc main_v18_5)) (V (Proc.devRef .tc main_while1b_v30)) (V (Proc.devRef .tc main_while1b_v24)) := by
  after_results_entrywise [cast_eq]

theorem grad_gs : after gradOps6 V (no_index (Proc.devRef .tc main_while1b_v32)) = putAt (V (Proc.devRef .tc main_v18_6)) (V (Proc.devRef .tc main_while1b_v28)) (V (Proc.devRef .tc main_while1b_v24)) := by
  after_results_entrywise [cast_eq]

theorem grad_end_ctr : after gradOps7 V (no_index (Proc.devRef .tc main_v18_3)) = addi (V (Proc.devRef .tc main_v18_3)) (constantI S_ 32 1#32) := by
  after_results_entrywise [cast_eq]

theorem grad_end_g : after gradOps7 V (no_index (Proc.devRef .tc main_v18_4)) = (V (Proc.devRef .tc main_while1b_v29)) := by
  after_results_entrywise [cast_eq]

theorem grad_end_das : after gradOps7 V (no_index (Proc.devRef .tc main_v18_5)) = (V (Proc.devRef .tc main_while1b_v31)) := by
  after_results_entrywise [cast_eq]

theorem grad_end_gs : after gradOps7 V (no_index (Proc.devRef .tc main_v18_6)) = (V (Proc.devRef .tc main_while1b_v32)) := by
  after_results_entrywise [cast_eq]

/-! ## One trip -/

/-- The counter goes one step on. -/
theorem scan_trip_ctr : afterL scanI V (Proc.devRef .tc main_v9_2) = addi (V (Proc.devRef .tc main_v9_2)) (constantI S_ 32 1#32) := by
  simp (disch := decide) only [afterL_cons, afterL_nil, scan_a, scan_b, scan_h, scan_hs, scan_prev, scan_end_ctr, scan_end_h, scan_end_hs, scan_end_prev, scanOps0_keep, scanOps1_keep, scanOps2_keep, scanOps3_keep, scanOps4_keep, scanOps5_keep]

/-- The state: the coefficient times the old state, plus the input. -/
theorem scan_trip_h : afterL scanI V (Proc.devRef .tc main_v9_3) = addf (mulf (rowAt (V (Proc.devRef .tc main_v9_0)) (V (Proc.devRef .tc main_v9_2))) (V (Proc.devRef .tc main_v9_3))) (rowAt (V (Proc.devRef .tc main_v9_1)) (V (Proc.devRef .tc main_v9_2))) := by
  simp (disch := decide) only [afterL_cons, afterL_nil, scan_a, scan_b, scan_h, scan_hs, scan_prev, scan_end_ctr, scan_end_h, scan_end_hs, scan_end_prev, scanOps0_keep, scanOps1_keep, scanOps2_keep, scanOps3_keep, scanOps4_keep, scanOps5_keep]

/-- The state before the step is saved. -/
theorem scan_trip_prev : afterL scanI V (Proc.devRef .tc main_v9_5) = putAt (V (Proc.devRef .tc main_v9_5)) (V (Proc.devRef .tc main_v9_3)) (V (Proc.devRef .tc main_v9_2)) := by
  simp (disch := decide) only [afterL_cons, afterL_nil, scan_a, scan_b, scan_h, scan_hs, scan_prev, scan_end_ctr, scan_end_h, scan_end_hs, scan_end_prev, scanOps0_keep, scanOps1_keep, scanOps2_keep, scanOps3_keep, scanOps4_keep, scanOps5_keep]

/-- The coefficients stay. -/
theorem scan_trip_a : afterL scanI V (Proc.devRef .tc main_v9_0) = (V (Proc.devRef .tc main_v9_0)) := by
  simp (disch := decide) only [afterL_cons, afterL_nil, scan_a, scan_b, scan_h, scan_hs, scan_prev, scan_end_ctr, scan_end_h, scan_end_hs, scan_end_prev, scanOps0_keep, scanOps1_keep, scanOps2_keep, scanOps3_keep, scanOps4_keep, scanOps5_keep]

/-- The inputs stay. -/
theorem scan_trip_b : afterL scanI V (Proc.devRef .tc main_v9_1) = (V (Proc.devRef .tc main_v9_1)) := by
  simp (disch := decide) only [afterL_cons, afterL_nil, scan_a, scan_b, scan_h, scan_hs, scan_prev, scan_end_ctr, scan_end_h, scan_end_hs, scan_end_prev, scanOps0_keep, scanOps1_keep, scanOps2_keep, scanOps3_keep, scanOps4_keep, scanOps5_keep]

/-- The counter goes one step on. -/
theorem grad_trip_ctr : afterL gradI V (Proc.devRef .tc main_v18_3) = addi (V (Proc.devRef .tc main_v18_3)) (constantI S_ 32 1#32) := by
  simp (disch := decide) only [afterL_cons, afterL_nil, grad_idx, grad_dh, grad_prev, grad_a, grad_g, grad_next, grad_da, grad_das, grad_gs, grad_end_ctr, grad_end_g, grad_end_das, grad_end_gs, gradOps0_keep, gradOps1_keep, gradOps2_keep, gradOps3_keep, gradOps4_keep, gradOps5_keep, gradOps6_keep, gradOps7_keep]

/-- What flows back: the coefficient times the gradient of the state. -/
theorem grad_trip_g : afterL gradI V (Proc.devRef .tc main_v18_4) = mulf (rowAt (V (Proc.devRef .tc main_v18_2)) (backAt (V (Proc.devRef .tc main_v18_3)))) (addf (V (Proc.devRef .tc main_v18_4)) (rowAt (V (Proc.devRef .tc main_v18_0)) (backAt (V (Proc.devRef .tc main_v18_3))))) := by
  simp (disch := decide) only [afterL_cons, afterL_nil, grad_idx, grad_dh, grad_prev, grad_a, grad_g, grad_next, grad_da, grad_das, grad_gs, grad_end_ctr, grad_end_g, grad_end_das, grad_end_gs, gradOps0_keep, gradOps1_keep, gradOps2_keep, gradOps3_keep, gradOps4_keep, gradOps5_keep, gradOps6_keep, gradOps7_keep]

/-- The gradient of the coefficient: of the state, times the state before. -/
theorem grad_trip_das : afterL gradI V (Proc.devRef .tc main_v18_5) = putAt (V (Proc.devRef .tc main_v18_5)) (mulf (addf (V (Proc.devRef .tc main_v18_4)) (rowAt (V (Proc.devRef .tc main_v18_0)) (backAt (V (Proc.devRef .tc main_v18_3))))) (rowAt (V (Proc.devRef .tc main_v18_1)) (backAt (V (Proc.devRef .tc main_v18_3))))) (backAt (V (Proc.devRef .tc main_v18_3))) := by
  simp (disch := decide) only [afterL_cons, afterL_nil, grad_idx, grad_dh, grad_prev, grad_a, grad_g, grad_next, grad_da, grad_das, grad_gs, grad_end_ctr, grad_end_g, grad_end_das, grad_end_gs, gradOps0_keep, gradOps1_keep, gradOps2_keep, gradOps3_keep, gradOps4_keep, gradOps5_keep, gradOps6_keep, gradOps7_keep]

/-- The gradient of the input: of the state. -/
theorem grad_trip_gs : afterL gradI V (Proc.devRef .tc main_v18_6) = putAt (V (Proc.devRef .tc main_v18_6)) (addf (V (Proc.devRef .tc main_v18_4)) (rowAt (V (Proc.devRef .tc main_v18_0)) (backAt (V (Proc.devRef .tc main_v18_3))))) (backAt (V (Proc.devRef .tc main_v18_3))) := by
  simp (disch := decide) only [afterL_cons, afterL_nil, grad_idx, grad_dh, grad_prev, grad_a, grad_g, grad_next, grad_da, grad_das, grad_gs, grad_end_ctr, grad_end_g, grad_end_das, grad_end_gs, gradOps0_keep, gradOps1_keep, gradOps2_keep, gradOps3_keep, gradOps4_keep, gradOps5_keep, gradOps6_keep, gradOps7_keep]

/-- The arrays it reads stay. -/
theorem grad_trip_keep0 : afterL gradI V (Proc.devRef .tc main_v18_0) = (V (Proc.devRef .tc main_v18_0)) := by
  simp (disch := decide) only [afterL_cons, afterL_nil, grad_idx, grad_dh, grad_prev, grad_a, grad_g, grad_next, grad_da, grad_das, grad_gs, grad_end_ctr, grad_end_g, grad_end_das, grad_end_gs, gradOps0_keep, gradOps1_keep, gradOps2_keep, gradOps3_keep, gradOps4_keep, gradOps5_keep, gradOps6_keep, gradOps7_keep]

/-- The arrays it reads stay. -/
theorem grad_trip_keep1 : afterL gradI V (Proc.devRef .tc main_v18_1) = (V (Proc.devRef .tc main_v18_1)) := by
  simp (disch := decide) only [afterL_cons, afterL_nil, grad_idx, grad_dh, grad_prev, grad_a, grad_g, grad_next, grad_da, grad_das, grad_gs, grad_end_ctr, grad_end_g, grad_end_das, grad_end_gs, gradOps0_keep, gradOps1_keep, gradOps2_keep, gradOps3_keep, gradOps4_keep, gradOps5_keep, gradOps6_keep, gradOps7_keep]

/-- The arrays it reads stay. -/
theorem grad_trip_keep2 : afterL gradI V (Proc.devRef .tc main_v18_2) = (V (Proc.devRef .tc main_v18_2)) := by
  simp (disch := decide) only [afterL_cons, afterL_nil, grad_idx, grad_dh, grad_prev, grad_a, grad_g, grad_next, grad_da, grad_das, grad_gs, grad_end_ctr, grad_end_g, grad_end_das, grad_end_gs, gradOps0_keep, gradOps1_keep, gradOps2_keep, gradOps3_keep, gradOps4_keep, gradOps5_keep, gradOps6_keep, gradOps7_keep]

end Cert.LruRef

end
-- ==== Proof.Lru.RefRun.lean ====
/- The reference's run: before its forward loop, through it, between the loops, through the backward loop and after it. Every
   buffer's contents at each of these places, and the run itself: the arguments end as they began, the two results are read off
   what the loops leave. -/
module

public import proofs.«01_k».proof.Proof.Lru.RefTrip

@[expose] public section

set_option maxRecDepth 100000

noncomputable section

namespace Cert.LruRef

open Cert.ReferenceIdeal Cert.ReferenceIdeal.Gen Cert.Lru
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg ucRefs sub_ucRefs)

variable {F : FTy → Type} [FloatOps F]

/-- The arguments' and the results' contents: batch, time, channel. -/
abbrev Arr (F : FTy → Type) := (⟨S2x4096x1024, .f32⟩ : BufTy).Contents (Elt F)

/-- Flipped in time and laid out time first, and the way back. -/
def toTall (x : Arr F) : Tall F :=
  transpose S4096x2x1024 [1, 0, 2] (Host.reverse [1] x) transposes_S2x4096x1024_S4096x2x1024_1_0_2
def ofTall (x : Tall F) : Arr F :=
  Host.reverse [1] (transpose S2x4096x1024 [1, 0, 2] x transposes_S4096x2x1024_S2x4096x1024_1_0_2)
def zeroFlat : Flat F := broadcastInDim S2x1024 ![] bcast_S_S2x1024 (constant S_ .f32 0x00000000#32)
def zeroTall : Tall F := broadcastInDim S4096x2x1024 ![] bcast_S_S4096x2x1024 (constant S_ .f32 0x00000000#32)

/-! ## The condition regions' operations -/

abbrev cond0Ops : List (HloOp τ sig (Elt F)) :=
  [ StableHlo.nullary main_while0c_c_12 (constantI S_ 32 4096#32),
    StableHlo.binary main_v9_2 main_while0c_c_12 main_while0c_v23 (cmpi .slt) ]
abbrev cond0Ops_W : List (Ref sig .tc) := [main_while0c_c_12, main_while0c_v23]
theorem cond0Ops_writes : (cond0Ops : List (HloOp τ sig (Elt F))).Forall fun op => op.writes ⊆ (cond0Ops_W.map (Proc.devRef (τ := τ) .tc)).toFinset :=
  StableHlo.forall_writes_sub_of_map rfl
abbrev cond1Ops : List (HloOp τ sig (Elt F)) :=
  [ StableHlo.nullary main_while1c_c_13 (constantI S_ 32 4096#32),
    StableHlo.binary main_v18_3 main_while1c_c_13 main_while1c_v23 (cmpi .slt) ]
abbrev cond1Ops_W : List (Ref sig .tc) := [main_while1c_c_13, main_while1c_v23]
theorem cond1Ops_writes : (cond1Ops : List (HloOp τ sig (Elt F))).Forall fun op => op.writes ⊆ (cond1Ops_W.map (Proc.devRef (τ := τ) .tc)).toFinset :=
  StableHlo.forall_writes_sub_of_map rfl

section Reads

variable (V : Valuation τ sig (Elt F))

theorem cond0_keep (r : Ref sig .tc) (h : r ∉ cond0Ops_W) : after cond0Ops V (no_index (Proc.devRef .tc r)) = V (Proc.devRef .tc r) :=
  after_of_writes_sub cond0Ops V cond0Ops_writes h
theorem cond1_keep (r : Ref sig .tc) (h : r ∉ cond1Ops_W) : after cond1Ops V (no_index (Proc.devRef .tc r)) = V (Proc.devRef .tc r) :=
  after_of_writes_sub cond1Ops V cond1Ops_writes h

/-! ## @main's stretches -/

theorem pre_a : afterL preI V (Proc.devRef .tc main_v9_0) = toTall (V (Proc.devRef .tc main_arg0)) := by
  simp only [afterL_cons, afterL_nil]
  after_reads_simp
  rfl
theorem pre_b : afterL preI V (Proc.devRef .tc main_v9_1) = toTall (V (Proc.devRef .tc main_arg1)) := by
  simp only [afterL_cons, afterL_nil]
  after_reads_simp
  rfl
theorem pre_ctr : afterL preI V (Proc.devRef .tc main_v9_2) = constantI S_ 32 0#32 := by
  simp only [afterL_cons, afterL_nil]
  after_reads_simp
  try rfl
theorem pre_h : afterL preI V (Proc.devRef .tc main_v9_3) = zeroFlat := by
  simp only [afterL_cons, afterL_nil]
  after_reads_simp
  rfl
theorem pre_prev : afterL preI V (Proc.devRef .tc main_v9_5) = zeroTall := by
  simp only [afterL_cons, afterL_nil]
  after_reads_simp
  rfl
theorem pre_a' : afterL preI V (Proc.devRef .tc main_v5) = toTall (V (Proc.devRef .tc main_arg0)) := by
  simp only [afterL_cons, afterL_nil]
  after_reads_simp
  rfl
theorem mid_dh : afterL midI V (Proc.devRef .tc main_v18_0) = toTall (V (Proc.devRef .tc main_arg2)) := by
  simp only [afterL_cons, afterL_nil]
  after_reads_simp
  rfl
theorem mid_prev : afterL midI V (Proc.devRef .tc main_v18_1) = V (Proc.devRef .tc main_v9_5) := by
  simp only [afterL_cons, afterL_nil]
  after_reads_simp
  try rfl
theorem mid_a : afterL midI V (Proc.devRef .tc main_v18_2) = V (Proc.devRef .tc main_v5) := by
  simp only [afterL_cons, afterL_nil]
  after_reads_simp
  try rfl
theorem mid_ctr : afterL midI V (Proc.devRef .tc main_v18_3) = constantI S_ 32 0#32 := by
  simp only [afterL_cons, afterL_nil]
  after_reads_simp
  try rfl
theorem mid_g : afterL midI V (Proc.devRef .tc main_v18_4) = zeroFlat := by
  simp only [afterL_cons, afterL_nil]
  after_reads_simp
  rfl
theorem post_g : afterL postI V (Proc.devRef .tc main_v21) = ofTall (V (Proc.devRef .tc main_v18_6)) := by
  simp only [afterL_cons, afterL_nil]
  after_reads_simp
  rfl
theorem post_da : afterL postI V (Proc.devRef .tc main_v22) = ofTall (V (Proc.devRef .tc main_v18_5)) := by
  simp only [afterL_cons, afterL_nil]
  after_reads_simp
  rfl

/-! ## What @main, a trip and a condition leave of a buffer that they do not write -/

theorem pre_keep (r : Ref sig .tc) (h : r ∉ mainOps0_W ++ mainOps1_W ++ mainOps2_W) :
    afterL preI V (Proc.devRef .tc r) = V (Proc.devRef .tc r) := by
  simp only [List.mem_append, not_or] at h
  exact (after_of_writes_sub mainOps2 _ mainOps2_writes h.2).trans ((after_of_writes_sub mainOps1 _ mainOps1_writes h.1.2).trans
    (after_of_writes_sub mainOps0 _ mainOps0_writes h.1.1))
theorem mid_keep (r : Ref sig .tc) (h : r ∉ mainOps3_W ++ mainOps4_W ++ mainOps5_W ++ mainOps6_W ++ mainOps7_W) :
    afterL midI V (Proc.devRef .tc r) = V (Proc.devRef .tc r) := by
  simp only [List.mem_append, not_or] at h
  exact (after_of_writes_sub mainOps7 _ mainOps7_writes h.2).trans ((after_of_writes_sub mainOps6 _ mainOps6_writes h.1.2).trans
    ((after_of_writes_sub mainOps5 _ mainOps5_writes h.1.1.2).trans ((after_of_writes_sub mainOps4 _ mainOps4_writes h.1.1.1.2).trans
      (after_of_writes_sub mainOps3 _ mainOps3_writes h.1.1.1.1))))
theorem post_keep (r : Ref sig .tc) (h : r ∉ mainOps8_W ++ mainOps9_W ++ mainOps10_W) :
    afterL postI V (Proc.devRef .tc r) = V (Proc.devRef .tc r) := by
  simp only [List.mem_append, not_or] at h
  exact (after_of_writes_sub mainOps10 _ mainOps10_writes h.2).trans ((after_of_writes_sub mainOps9 _ mainOps9_writes h.1.2).trans
    (after_of_writes_sub mainOps8 _ mainOps8_writes h.1.1))
abbrev scan_W : List (Ref sig .tc) := cond0Ops_W ++ scanOps0_W ++ scanOps1_W ++ scanOps2_W ++ scanOps3_W ++ scanOps4_W ++ scanOps5_W
theorem scan_keep (r : Ref sig .tc) (h : r ∉ scan_W) : afterL scanI (after cond0Ops V) (Proc.devRef .tc r) = V (Proc.devRef .tc r) := by
  simp only [List.mem_append, not_or] at h
  exact (after_of_writes_sub scanOps5 _ scanOps5_writes h.2).trans ((after_of_writes_sub scanOps4 _ scanOps4_writes h.1.2).trans
    ((after_of_writes_sub scanOps3 _ scanOps3_writes h.1.1.2).trans ((after_of_writes_sub scanOps2 _ scanOps2_writes h.1.1.1.2).trans
      ((after_of_writes_sub scanOps1 _ scanOps1_writes h.1.1.1.1.2).trans ((after_of_writes_sub scanOps0 _ scanOps0_writes h.1.1.1.1.1.2).trans
        (cond0_keep V r h.1.1.1.1.1.1))))))
abbrev grad_W : List (Ref sig .tc) :=
  cond1Ops_W ++ gradOps0_W ++ gradOps1_W ++ gradOps2_W ++ gradOps3_W ++ gradOps4_W ++ gradOps5_W ++ gradOps6_W ++ gradOps7_W
theorem grad_keep (r : Ref sig .tc) (h : r ∉ grad_W) : afterL gradI (after cond1Ops V) (Proc.devRef .tc r) = V (Proc.devRef .tc r) := by
  simp only [List.mem_append, not_or] at h
  exact (after_of_writes_sub gradOps7 _ gradOps7_writes h.2).trans ((after_of_writes_sub gradOps6 _ gradOps6_writes h.1.2).trans
    ((after_of_writes_sub gradOps5 _ gradOps5_writes h.1.1.2).trans ((after_of_writes_sub gradOps4 _ gradOps4_writes h.1.1.1.2).trans
      ((after_of_writes_sub gradOps3 _ gradOps3_writes h.1.1.1.1.2).trans ((after_of_writes_sub gradOps2 _ gradOps2_writes h.1.1.1.1.1.2).trans
        ((after_of_writes_sub gradOps1 _ gradOps1_writes h.1.1.1.1.1.1.2).trans ((after_of_writes_sub gradOps0 _ gradOps0_writes h.1.1.1.1.1.1.1.2).trans
          (cond1_keep V r h.1.1.1.1.1.1.1.1))))))))

end Reads

variable (m : (ℓ : Loc nD τ sig) → Buf (Elt F) ℓ) (ρ : Dev nD → PrngReg)

/-! ## The contents at each place -/

/-- Before the forward loop's `k`-th condition. -/
abbrev atScan (k : ℕ) (c : Dev nD) : Valuation τ sig (Elt F) := atTrip cond0Ops scanI (entryContents preI m) k c
/-- Between the two loops: entering the backward loop. -/
abbrev midV (c : Dev nD) : Valuation τ sig (Elt F) := afterL midI (after cond0Ops (atScan m 4096 c))
/-- Before the backward loop's `k`-th condition. -/
abbrev atGrad (k : ℕ) (c : Dev nD) : Valuation τ sig (Elt F) := atTrip cond1Ops gradI (midV m) k c
/-- At the end. -/
abbrev endV (c : Dev nD) : Valuation τ sig (Elt F) := afterL postI (after cond1Ops (atGrad m 4096 c))

theorem atScan_keep (r : Ref sig .tc) (h : r ∉ scan_W) (c : Dev nD) : ∀ k, atScan m k c (Proc.devRef .tc r) = entryContents preI m c (Proc.devRef .tc r)
  | 0 => rfl
  | k + 1 => (scan_keep (atScan m k c) r h).trans (atScan_keep r h c k)
theorem atGrad_keep (r : Ref sig .tc) (h : r ∉ grad_W) (c : Dev nD) : ∀ k, atGrad m k c (Proc.devRef .tc r) = midV m c (Proc.devRef .tc r)
  | 0 => rfl
  | k + 1 => (grad_keep (atGrad m k c) r h).trans (atGrad_keep r h c k)

/-- Before the `k`-th condition a loop's counter is `k`. -/
theorem atScan_ctr (c : Dev nD) : ∀ k, atScan m k c (Proc.devRef .tc main_v9_2) = fun _ => Scf.iv 0#32 1#32 k
  | 0 => by
    rw [show atScan m 0 c = afterL preI (launchContents m c) from rfl, pre_ctr, Scf.iv_zero]
    rfl
  | k + 1 => by
    rw [show atScan m (k + 1) c = afterL scanI (after cond0Ops (atScan m k c)) from rfl, scan_trip_ctr,
      cond0_keep _ main_v9_2 (by decide), atScan_ctr c k, Scf.iv_succ]
    rfl
theorem atGrad_ctr (c : Dev nD) : ∀ k, atGrad m k c (Proc.devRef .tc main_v18_3) = fun _ => Scf.iv 0#32 1#32 k
  | 0 => by
    rw [show atGrad m 0 c = afterL midI (after cond0Ops (atScan m 4096 c)) from rfl, mid_ctr, Scf.iv_zero]
    rfl
  | k + 1 => by
    rw [show atGrad m (k + 1) c = afterL gradI (after cond1Ops (atGrad m k c)) from rfl, grad_trip_ctr,
      cond1_keep _ main_v18_3 (by decide), atGrad_ctr c k, Scf.iv_succ]
    rfl

/-! ## The conditions -/

set_option backward.isDefEq.respectTransparency.types false in
theorem cond0_spec : CondSpec (pcfgs (F := F)) defs₀ loops (main_while0_cond (F := F)) cond0Ops scanI (entryContents preI m) 4096 := by
  intro k hk c bd
  have hctr := atScan_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atScan m k c) main_v9_2 HostLoop.idx0)
        (HloOp.result _ (atScan m k c) main_while0c_c_12 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  rw [after_cons, after_cons, after_nil]; iexact Hh

set_option backward.isDefEq.respectTransparency.types false in
theorem cond1_spec : CondSpec (pcfgs (F := F)) defs₀ loops (main_while1_cond (F := F)) cond1Ops gradI (midV m) 4096 := by
  intro k hk c bd
  have hctr := atGrad_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atGrad m k c) main_v18_3 HostLoop.idx0)
        (HloOp.result _ (atGrad m k c) main_while1c_c_13 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  rw [after_cons, after_cons, after_nil]; iexact Hh

/-! ## The run -/

/-- @main's segments. -/
def hsegs : List (HSeg (pcfgs (F := F)) (defs₀ (F := F)) loops) :=
  segsOf _ _ _ _ _ _ _ _ owing preI preI_plain (launchContents m)
    ++ loopSeg _ _ _ _ _ _ _ _ 0 main_while0_cond main_while0_body rfl cond0Ops scanI scanI_plain scan_chain 4096 (entryContents preI m) owing
        (loopCond_of_condSpec (cond0_spec m))
      :: (segsOf _ _ _ _ _ _ _ _ owing midI midI_plain (fun c => after cond0Ops (atScan m 4096 c))
        ++ loopSeg _ _ _ _ _ _ _ _ 1 main_while1_cond main_while1_body rfl cond1Ops gradI gradI_plain grad_chain 4096 (midV m) owing
            (loopCond_of_condSpec (cond1_spec m))
          :: segsOf _ _ _ _ _ _ _ _ owing postI postI_plain (fun c => after cond1Ops (atGrad m 4096 c)))

theorem hsegs_chains : CSeg.Chains (fun c => iprop(held (c : Thread nD τ) (ucRefs τ sig) (launchContents m c) ∗ owing c)) (hsegs m)
    (fun c => iprop(held (c : Thread nD τ) (ucRefs τ sig) (endV m c) ∗ owing c)) := by
  unfold hsegs
  exact CSeg.Chains.append (segsOf_chains _ _ _ _ _ _ _ _ owing preI preI_plain _) ⟨fun _ => .rfl,
    CSeg.Chains.append (segsOf_chains _ _ _ _ _ _ _ _ owing midI midI_plain _) ⟨fun _ => .rfl,
      segsOf_chains _ _ _ _ _ _ _ _ owing postI postI_plain _⟩⟩

theorem hsegs_prog (c : Dev nD) : main (F := F) c = Pipeline.chain ((hsegs m).map CSeg.prog) := by
  unfold hsegs
  rw [List.map_append, List.map_cons, List.map_append, List.map_cons, segsOf_prog, segsOf_prog, segsOf_prog, main_chain]
  rfl

/-- Every weakly fair execution terminates with every unscoped buffer at `endV`. -/
theorem run_end : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = endV m c (Proc.devRef .tc b)) :=
  run_of_segs main m ρ (endV m) (hsegs m) (hsegs_prog m) (hsegs_chains m)

/-- An argument ends as it began. -/
theorem end_arg (c : Dev nD) (r : Ref sig .tc) (h₀ : r ∉ mainOps0_W ++ mainOps1_W ++ mainOps2_W) (h₁ : r ∉ scan_W)
    (h₂ : r ∉ mainOps3_W ++ mainOps4_W ++ mainOps5_W ++ mainOps6_W ++ mainOps7_W) (h₃ : r ∉ grad_W) (h₄ : r ∉ mainOps8_W ++ mainOps9_W ++ mainOps10_W)
    (h₅ : r ∉ cond0Ops_W) (h₆ : r ∉ cond1Ops_W) : endV m c (Proc.devRef .tc r) = m ((c : Thread nD τ).loc r) := by
  rw [show endV m c = afterL postI (after cond1Ops (atGrad m 4096 c)) from rfl, post_keep _ r h₄, cond1_keep _ r h₆, atGrad_keep m r h₃,
    show midV m c = afterL midI (after cond0Ops (atScan m 4096 c)) from rfl, mid_keep _ r h₂, cond0_keep _ r h₅, atScan_keep m r h₁]
  exact pre_keep _ r h₀

/-- The reference's run: the results are the two arrays that the backward loop leaves, the arguments end as launched, every
    semaphore is zero. -/
theorem run : θ_run (defs (F := F)) (onTc (τ := τ) (main (F := F))) ⟨m, fun _ => 0, ρ⟩
    (fun r => (∀ c : Dev nD,
      r.2.mem ((c.tc : Thread nD τ).loc main_v21) = ofTall (atGrad m 4096 c (Proc.devRef .tc main_v18_6))
      ∧ r.2.mem ((c.tc : Thread nD τ).loc main_v22) = ofTall (atGrad m 4096 c (Proc.devRef .tc main_v18_5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := F)) _ _).mono (fun r h => ⟨fun c =>
    ⟨(h c main_v21 rfl).trans ((post_g _).trans (congrArg ofTall (cond1_keep _ main_v18_6 (by decide)))),
     (h c main_v22 rfl).trans ((post_da _).trans (congrArg ofTall (cond1_keep _ main_v18_5 (by decide)))),
     (h c main_arg0 rfl).trans (end_arg m c main_arg0 (by decide) (by decide) (by decide) (by decide) (by decide) (by decide) (by decide)),
     (h c main_arg1 rfl).trans (end_arg m c main_arg1 (by decide) (by decide) (by decide) (by decide) (by decide) (by decide) (by decide)),
     (h c main_arg2 rfl).trans (end_arg m c main_arg2 (by decide) (by decide) (by decide) (by decide) (by decide) (by decide) (by decide))⟩,
     sem_eq_zero_of_no_sems (by decide) r.2⟩) (run_end m ρ)

end Cert.LruRef

end
-- ==== Proof.Lru.SameText.lean ====
/- The kernel as printed for float words and as printed for extended reals is one text: their body tables are equal at any float
   values, so what is proved of one program's run holds of the other's. -/
module

public import proofs.«01_k».proof.Proof.Gen.Kernel.Skeleton
public import proofs.«01_k».proof.Proof.Gen.KernelIdeal.Skeleton

@[expose] public section

set_option maxRecDepth 65536

noncomputable section

namespace Cert.Lru

open Idealize.ShloMosaic Idealize.SL.Sem

variable {F : FTy → Type} [FloatOps F]

/-- The states' call has one text in both. -/
theorem scan_same : Cert.Kernel.cc0_lru_scan_r1 (F := F) = Cert.KernelIdeal.cc0_lru_scan_r1 (F := F) := rfl
/-- The gradient's call has one text in both. -/
theorem bwd_same : Cert.Kernel.cc1_lru_scan_bwd_r1 (F := F) = Cert.KernelIdeal.cc1_lru_scan_bwd_r1 (F := F) := rfl
set_option maxHeartbeats 1000000 in
/-- So the calls' bodies are the same, -/
theorem bodies_same : Cert.Kernel.defs₀ (F := F) = Cert.KernelIdeal.defs₀ (F := F) := by
  unfold Cert.Kernel.defs₀ Cert.KernelIdeal.defs₀
  refine congrArg Defs.onTc ?_
  funext ℓ
  match ℓ with
  | 0 => funext ⟨t, s⟩; exact congrFun (congrFun (congrFun (congrFun (congrFun (congrFun (congrFun (congrFun (congrFun scan_same _) _) _) _) _) _) _) _) _
  | 1 => funext ⟨t, s⟩; dsimp only; rw [bwd_same]; rfl
  | ⟨_ + 2, h⟩ => exact absurd h (Nat.not_lt.2 (Nat.le_add_left _ _))
/-- and the body tables. -/
theorem defs_same : Cert.Kernel.defs (F := F) = Cert.KernelIdeal.defs (F := F) := by
  unfold Cert.Kernel.defs; rw [bodies_same]; rfl

end Cert.Lru

end
-- ==== Proof.Lru.RealScan.lean ====
/- The recurrence over the real numbers: affine maps composed over doubling distances give the recurrence run step by step. -/
module

public import Mathlib.Data.Real.Basic
public import Mathlib.Tactic.Ring
public import Mathlib.Tactic.NormNum

@[expose] public section

noncomputable section

namespace Cert.Lru

/-- The affine maps of `n` steps composed, the last of them step `q`'s: coefficient and offset. -/
def maps (A B : ℕ → ℝ) : ℕ → ℕ → ℝ × ℝ
  | 0, _ => (1, 0)
  | n + 1, q => (A q * (maps A B n (q - 1)).1, B q + A q * (maps A B n (q - 1)).2)

/-- One affine map after another. -/
def comp (x y : ℝ × ℝ) : ℝ × ℝ := (x.1 * y.1, x.2 + x.1 * y.2)

/-- One doubling: each step's map after that of the step `d` before it, if there is one. -/
def fuse (d : ℕ) (X : ℕ → ℝ × ℝ) (q : ℕ) : ℝ × ℝ := if d ≤ q then comp (X q) (X (q - d)) else X q

variable (A B : ℕ → ℝ)

/-- `m + n` maps are `m` maps after `n` maps. -/
theorem maps_add (m n q : ℕ) : maps A B (m + n) q = comp (maps A B m q) (maps A B n (q - m)) := by
  induction m generalizing q with
  | zero => simp [maps, comp]
  | succ m ih =>
    rw [show m + 1 + n = (m + n) + 1 by omega]
    simp only [maps, ih (q - 1), comp, show q - 1 - m = q - (m + 1) by omega]
    ext <;> dsimp only <;> ring

/-- A doubling of composed maps composes twice as many, as far as there are steps. -/
theorem fuse_maps (d q : ℕ) (X : ℕ → ℝ × ℝ) (hX : ∀ q < 256, X q = maps A B (min d (q + 1)) q) (hq : q < 256) :
    fuse d X q = maps A B (min (d + d) (q + 1)) q := by
  unfold fuse
  split_ifs with h
  · rw [hX q hq, hX (q - d) (by omega), show min d (q + 1) = d by omega, ← maps_add]
    congr 1; omega
  · rw [hX q hq]; congr 1; omega

/-- All steps' maps up to step `q` at the state before the first is the state after step `q`. -/
theorem maps_state (s : ℕ → ℝ) (n : ℕ) (hs : ∀ q < n, s (q + 1) = A q * s q + B q) (q : ℕ) (hq : q < n) :
    (maps A B (q + 1) q).2 + (maps A B (q + 1) q).1 * s 0 = s (q + 1) := by
  induction q with
  | zero => rw [hs 0 hq]; simp [maps]; ring
  | succ q ih =>
    rw [hs (q + 1) hq, ← ih (by omega)]
    rw [show maps A B (q + 1 + 1) (q + 1) = (A (q + 1) * (maps A B (q + 1) q).1, B (q + 1) + A (q + 1) * (maps A B (q + 1) q).2) from rfl]
    ring

end Cert.Lru

end
-- ==== Proof.Lru.BlockValue.lean ====
/- The blocks' values on real numbers, at any entry: a block's composed maps at the row carried in are the recurrence run step
   by step through the block. -/
module

public import proofs.«01_k».proof.Proof.Lru.BwdRun
public import proofs.«01_k».proof.Proof.Lru.RealScan
public import Idealize.ShloMosaic.Lib.Pointwise

@[expose] public section

set_option maxRecDepth 16384

noncomputable section

namespace Cert.Lru

open Cert.KernelIdeal Cert.KernelIdeal.Gen
open Idealize.ShloMosaic Idealize.ShloMosaic.TcCoe

/-- Channel `c` of a block of maps is the real maps `X`, a row's place in the run being `σ`. -/
def IsMaps (σ : ℕ → ℕ) (p : Blk Ideal × Blk Ideal) (c : Fin 1024) (X : ℕ → ℝ × ℝ) : Prop :=
  ∀ r : Fin 256, p.1 (ix2 r c) = ((X (σ r.val)).1 : EReal) ∧ p.2 (ix2 r c) = ((X (σ r.val)).2 : EReal)

/-- A row's place in a run from the last time step to the first, and in one from the first on. -/
def fromLast (r : ℕ) : ℕ := 255 - r
def fromFirst (r : ℕ) : ℕ := r

/-- The row whose entry a rotation by `rot` brings to row `r`. -/
def partner (rot : BitVec 32) (r : Fin 256) : Fin 256 := ⟨(r.val + 256 - rot.toNat % 256) % 256, Nat.mod_lt _ (by norm_num)⟩

/-- One doubling's coefficient at an entry, -/
theorem mix_fst (keep : IVec S256x1024 1) (rot : BitVec 32) (p : Blk Ideal × Blk Ideal) (r : Fin 256) (c : Fin 1024) :
    (mix keep rot p).1 (ix2 r c) = p.1 (ix2 r c) * Scalar.select (keep (ix2 r c)) (p.1 (ix2 (partner rot r) c)) 1 := by
  unfold mix partner
  pointwise []
/-- and its offset. -/
theorem mix_snd (keep : IVec S256x1024 1) (rot : BitVec 32) (p : Blk Ideal × Blk Ideal) (r : Fin 256) (c : Fin 1024) :
    (mix keep rot p).2 (ix2 r c) = p.2 (ix2 r c) + p.1 (ix2 r c) * Scalar.select (keep (ix2 r c)) (p.2 (ix2 (partner rot r) c)) 0 := by
  unfold mix partner
  rw [show ∀ x y : EReal, x * Scalar.select (keep (ix2 r c)) y 0 = Scalar.select (keep (ix2 r c)) (x * y) 0 from fun x y => by
    unfold Scalar.select; split_ifs <;> simp]
  pointwise []

theorem ofBool_one (b : Bool) : BitVec.ofBool b = 1#1 ↔ b = true := by cases b <;> decide

theorem select_pos {α : Type} {k : BitVec 1} (h : k = 1#1) (x y : α) : Scalar.select k x y = x := if_pos h
theorem select_neg {α : Type} {k : BitVec 1} (h : k ≠ 1#1) (x y : α) : Scalar.select k x y = y := if_neg h

/-- One doubling of a block is one doubling of its real maps, when the mask keeps the rows with a partner `d` steps before and the
    rotation brings that partner. -/
theorem mix_isMaps (σ : ℕ → ℕ) (d : ℕ) (keep : IVec S256x1024 1) (rot : BitVec 32) (p : Blk Ideal × Blk Ideal) (c : Fin 1024)
    (X : ℕ → ℝ × ℝ) (hp : IsMaps σ p c X) (hkeep : ∀ r : Fin 256, keep (ix2 r c) = 1#1 ↔ d ≤ σ r.val)
    (hrot : ∀ r : Fin 256, d ≤ σ r.val → σ ((r.val + 256 - rot.toNat % 256) % 256) = σ r.val - d) :
    IsMaps σ (mix keep rot p) c (fuse d X) := by
  intro r
  have hr := hp r
  have hq := hp (partner rot r)
  rw [mix_fst, mix_snd, hr.1, hr.2]
  unfold fuse comp
  by_cases h : d ≤ σ r.val
  · rw [select_pos ((hkeep r).mpr h), select_pos ((hkeep r).mpr h), hq.1, hq.2, if_pos h]
    dsimp only
    rw [show σ (partner rot r).val = σ r.val - d from hrot r h, EReal.coe_mul, EReal.coe_add, EReal.coe_mul]
    exact ⟨rfl, rfl⟩
  · rw [select_neg fun e => h ((hkeep r).mp e), select_neg fun e => h ((hkeep r).mp e), if_neg h, mul_one, mul_zero, add_zero]
    exact ⟨rfl, rfl⟩

/-- One doubling with partners later in time. -/
theorem mixUp_isMaps (n : ℕ) (hn : n < 256) (h0 : 0 < n) (p : Blk Ideal × Blk Ideal) (c : Fin 1024) (X : ℕ → ℝ × ℝ) (hp : IsMaps fromLast p c X) :
    IsMaps fromLast (mixUp (BitVec.ofNat 32 n) p) c (fuse (256 - n) X) := by
  have e : (BitVec.ofNat 32 n).toNat = n := by rw [BitVec.toNat_ofNat]; omega
  refine mix_isMaps fromLast (256 - n) _ _ p c X hp (fun r => ?_) (fun r h => ?_)
  · have := r.isLt
    unfold step fromLast; pointwise []
    simp only [IntOp.cmpi]
    rw [ofBool_one, BitVec.slt_iff_toInt_lt, BitVec.toInt_eq_toNat_of_lt (by rw [BitVec.toNat_ofNat]; omega), BitVec.toInt_eq_toNat_of_lt (by rw [BitVec.toNat_ofNat]; omega),
      BitVec.toNat_ofNat, BitVec.toNat_ofNat]
    omega
  · have := r.isLt
    unfold fromLast at h ⊢; rw [e]; omega

/-- One doubling with partners earlier in time. -/
theorem mixDown_isMaps (n : ℕ) (hn : n < 256) (p : Blk Ideal × Blk Ideal) (c : Fin 1024) (X : ℕ → ℝ × ℝ) (hp : IsMaps fromFirst p c X) :
    IsMaps fromFirst (mixDown (BitVec.ofNat 32 n) p) c (fuse n X) := by
  have e : (BitVec.ofNat 32 n).toNat = n := by rw [BitVec.toNat_ofNat]; omega
  refine mix_isMaps fromFirst n _ _ p c X hp (fun r => ?_) (fun r h => ?_)
  · have := r.isLt
    unfold step fromFirst; pointwise []
    simp only [IntOp.cmpi]
    rw [ofBool_one, BitVec.sle_iff_toInt_le, BitVec.toInt_eq_toNat_of_lt (by rw [BitVec.toNat_ofNat]; omega), BitVec.toInt_eq_toNat_of_lt (by rw [BitVec.toNat_ofNat]; omega),
      BitVec.toNat_ofNat, BitVec.toNat_ofNat]
    omega
  · have := r.isLt
    unfold fromFirst at h ⊢; rw [e]; omega

/-- The real maps of a block after all eight doublings: at step `q` all steps up to it. -/
theorem fuse_all (A B : ℕ → ℝ) (q : ℕ) (hq : q < 256) :
    fuse 128 (fuse 64 (fuse 32 (fuse 16 (fuse 8 (fuse 4 (fuse 2 (fuse 1 fun q => (A q, B q)))))))) q = maps A B (q + 1) q := by
  have h1 : ∀ q < 256, (fun q => (A q, B q)) q = maps A B (min 1 (q + 1)) q := fun q _ => by
    rw [show min 1 (q + 1) = 1 by omega]; simp [maps]
  have h2 := fun q hq => fuse_maps A B 1 q _ h1 hq
  have h4 := fun q hq => fuse_maps A B 2 q _ h2 hq
  have h8 := fun q hq => fuse_maps A B 4 q _ h4 hq
  have h16 := fun q hq => fuse_maps A B 8 q _ h8 hq
  have h32 := fun q hq => fuse_maps A B 16 q _ h16 hq
  have h64 := fun q hq => fuse_maps A B 32 q _ h32 hq
  have h128 := fun q hq => fuse_maps A B 64 q _ h64 hq
  rw [fuse_maps A B 128 q _ h128 hq]; congr 1; omega

variable (c : Fin 1024) (A B : ℕ → ℝ)

theorem scanUp_isMaps (a b : Blk Ideal) (h : IsMaps fromLast (a, b) c fun q => (A q, B q)) :
    IsMaps fromLast (scanUp a b) c fun q => maps A B (q + 1) q := by
  have k := mixUp_isMaps 128 (by norm_num) (by norm_num) _ c _ (mixUp_isMaps 192 (by norm_num) (by norm_num) _ c _
    (mixUp_isMaps 224 (by norm_num) (by norm_num) _ c _ (mixUp_isMaps 240 (by norm_num) (by norm_num) _ c _
    (mixUp_isMaps 248 (by norm_num) (by norm_num) _ c _ (mixUp_isMaps 252 (by norm_num) (by norm_num) _ c _
    (mixUp_isMaps 254 (by norm_num) (by norm_num) _ c _ (mixUp_isMaps 255 (by norm_num) (by norm_num) _ c _ h)))))))
  intro r
  have hr := k r
  have hq : fromLast r.val < 256 := by unfold fromLast; omega
  rw [fuse_all A B _ hq] at hr
  exact hr
theorem scanDown_isMaps (a b : Blk Ideal) (h : IsMaps fromFirst (a, b) c fun q => (A q, B q)) :
    IsMaps fromFirst (scanDown a b) c fun q => maps A B (q + 1) q := by
  have k := mixDown_isMaps 128 (by norm_num) _ c _ (mixDown_isMaps 64 (by norm_num) _ c _
    (mixDown_isMaps 32 (by norm_num) _ c _ (mixDown_isMaps 16 (by norm_num) _ c _
    (mixDown_isMaps 8 (by norm_num) _ c _ (mixDown_isMaps 4 (by norm_num) _ c _
    (mixDown_isMaps 2 (by norm_num) _ c _ (mixDown_isMaps 1 (by norm_num) _ c _ h)))))))
  intro r
  have hr := k r
  have hq : fromFirst r.val < 256 := r.isLt
  rw [fuse_all A B _ hq] at hr
  exact hr

/-- A block's maps at the row carried in: the recurrence's state after the step at each row's place. -/
theorem withCarry_entry (σ : ℕ → ℕ) (hσ : ∀ r : Fin 256, σ r.val < 256) (p : Blk Ideal × Blk Ideal) (carry : Row Ideal) (s : ℕ → ℝ)
    (hp : IsMaps σ p c fun q => maps A B (q + 1) q) (h0 : carry (ix2 0 c) = (s 0 : EReal))
    (hs : ∀ q < 256, s (q + 1) = A q * s q + B q) (r : Fin 256) : withCarry p carry (ix2 r c) = (s (σ r.val + 1) : EReal) := by
  have hr := hp r
  unfold withCarry
  pointwise []
  rw [hr.1, hr.2, h0, ← maps_state A B s 256 hs _ (hσ r), EReal.coe_add, EReal.coe_mul]

/-- The states of a block: run from its last row, `s 0` the state carried in. -/
theorem hBlock_entry (a b : Vec Ideal S1x256x1024 .f32) (carry : Row Ideal) (s : ℕ → ℝ)
    (ha : ∀ r : Fin 256, a (ix3 0 r c) = (A (255 - r.val) : EReal)) (hb : ∀ r : Fin 256, b (ix3 0 r c) = (B (255 - r.val) : EReal))
    (h0 : carry (ix2 0 c) = (s 0 : EReal)) (hs : ∀ q < 256, s (q + 1) = A q * s q + B q) (r : Fin 256) :
    hBlock a b carry (ix2 r c) = (s (256 - r.val) : EReal) := by
  have hr := r.isLt
  rw [show 256 - r.val = fromLast r.val + 1 by unfold fromLast; omega]
  refine withCarry_entry c A B fromLast (fun r => by unfold fromLast; omega) _ carry s (scanUp_isMaps c A B _ _ fun r => ?_) h0 hs r
  unfold flat fromLast
  pointwise []
  exact ⟨ha r, hb r⟩

/-- The gradients of a block: run from its first row, `s 0` the gradient carried in. -/
theorem gBlock_entry (firstBlk : BitVec 1) (a : Vec Ideal S1x256x1024 .f32) (edge : Vec Ideal S1x1x1024 .f32) (dh : Vec Ideal S1x256x1024 .f32)
    (carry : Row Ideal) (s : ℕ → ℝ)
    (ha : ∀ r : Fin 256, coefBlock firstBlk a edge (ix2 r c) = (A r.val : EReal)) (hb : ∀ r : Fin 256, dh (ix3 0 r c) = (B r.val : EReal))
    (h0 : carry (ix2 0 c) = (s 0 : EReal)) (hs : ∀ q < 256, s (q + 1) = A q * s q + B q) (r : Fin 256) :
    gBlock firstBlk a edge dh carry (ix2 r c) = (s (r.val + 1) : EReal) := by
  refine withCarry_entry c A B fromFirst (fun r => r.isLt) _ carry s (scanDown_isMaps c A B _ _ fun r => ⟨ha r, ?_⟩) h0 hs r
  unfold flat fromFirst
  pointwise []
  exact hb r

/-- A row's number, as a word, against a given row's. -/
theorem row_eq (r k : ℕ) (hr : r < 256) (hk : k < 256) : IntOp.cmpi .eq (BitVec.ofNat 32 r) (BitVec.ofNat 32 k) = 1#1 ↔ r = k := by
  rw [show IntOp.cmpi .eq (BitVec.ofNat 32 r) (BitVec.ofNat 32 k) = BitVec.ofBool (BitVec.ofNat 32 r == BitVec.ofNat 32 k) from rfl,
    ofBool_one, beq_iff_eq, ← BitVec.toNat_inj, BitVec.toNat_ofNat, BitVec.toNat_ofNat]
  omega
/-- The coefficients of a block, moved one row on. -/
theorem coefBlock_entry (firstBlk : BitVec 1) (a : Vec Ideal S1x256x1024 .f32) (edge : Vec Ideal S1x1x1024 .f32)
    (ha : ∀ r : Fin 256, a (ix3 0 r c) = (A (r.val + 1) : EReal))
    (h1 : firstBlk = 1#1 → A 0 = 0) (he : firstBlk ≠ 1#1 → edge (ix3 0 0 c) = (A 0 : EReal)) (r : Fin 256) :
    coefBlock firstBlk a edge (ix2 r c) = (A r.val : EReal) := by
  have hr := r.isLt
  unfold coefBlock step flat rowOf zeroRow
  pointwise []
  by_cases h0 : r.val = 0
  · rw [select_pos ((row_eq r.val 0 hr (by norm_num)).mpr h0), h0]
    by_cases hf : firstBlk = 1#1
    · rw [select_pos hf, h1 hf]; rfl
    · rw [select_neg hf, he hf]
  · rw [select_neg fun e => h0 ((row_eq r.val 0 hr (by norm_num)).mp e), ha]
    congr 2; show (r.val + 256 - 1) % 256 + 1 = r.val; omega

/-- The states of a block, moved one row back. -/
theorem nextBlock_entry (lastBlk : BitVec 1) (h : Vec Ideal S1x256x1024 .f32) (edge : Vec Ideal S1x1x1024 .f32) (s : ℕ → ℝ)
    (hh : ∀ r : Fin 256, h (ix3 0 r c) = (s r.val : EReal))
    (h1 : lastBlk = 1#1 → s 256 = 0) (he : lastBlk ≠ 1#1 → edge (ix3 0 0 c) = (s 256 : EReal)) (r : Fin 256) :
    nextBlock lastBlk h edge (ix2 r c) = (s (r.val + 1) : EReal) := by
  have hr := r.isLt
  unfold nextBlock step flat rowOf zeroRow
  pointwise []
  by_cases h0 : r.val = 255
  · rw [select_pos ((row_eq r.val 255 hr (by norm_num)).mpr h0), h0]
    by_cases hf : lastBlk = 1#1
    · rw [select_pos hf, h1 hf]; rfl
    · rw [select_neg hf, he hf]
  · rw [select_neg fun e => h0 ((row_eq r.val 255 hr (by norm_num)).mp e), hh]
    congr 2; show (r.val + 256 - 255) % 256 = r.val + 1; omega

end Cert.Lru

end
-- ==== Proof.Lru.ScanValue.lean ====
/- The states' call on real numbers: the array it leaves holds the recurrence's states, run from the last time step to the first. -/
module

public import proofs.«01_k».proof.Proof.Lru.ScanData
public import proofs.«01_k».proof.Proof.Lru.BlockValue
public import Idealize.ShloMosaic.Lib.Pipeline.ValueKit

@[expose] public section

set_option maxRecDepth 16384

noncomputable section

namespace Cert.Lru

open Cert.KernelIdeal Cert.KernelIdeal.Gen
open Idealize.ShloMosaic Idealize.ShloMosaic.TcCoe Idealize.SL.Sem
open Idealize.ShloMosaic.Pipeline (Dat)

/-- An array holds the real numbers `A`: batch entry, time step, channel. -/
def Holds (x : FVec Ideal S2x4096x1024 .f32) (A : Fin 2 → ℕ → Fin 1024 → ℝ) : Prop :=
  ∀ (n : Fin 2) (t : Fin 4096) (k : Fin 1024), x (ix3 n t k) = (A n t.val k : EReal)

/-- The recurrence's state after `q` steps from the last time step on. -/
def state (A B : Fin 2 → ℕ → Fin 1024 → ℝ) (n : Fin 2) (k : Fin 1024) : ℕ → ℝ
  | 0 => 0
  | q + 1 => A n (4095 - q) k * state A B n k q + B n (4095 - q) k

theorem zeroRow_entry (k : Fin 1024) : (zeroRow : Row Ideal) (ix2 0 k) = ((0 : ℝ) : EReal) := by
  unfold zeroRow; pointwise []; rfl

theorem unflat_entry (y : Blk Ideal) (u : Fin 1) (r : Fin 256) (k : Fin 1024) : unflat y (ix3 u r k) = y (ix2 r k) := by
  unfold unflat; pointwise []

variable (V : (c : Dev nD) → (b : Ref sig .tc) → Buf (Elt Ideal) ((c : Thread nD τ).loc b)) (c : Dev nD)

/-- Each window's block at each point: batch entry, block of time steps from the last, all channels. -/
theorem idx0 : ∀ t : Fin cfg0.N, win0_0.index t = ![t.val / 16, 15 - t.val % 16, 0] ∧ win0_1.index t = ![t.val / 16, 15 - t.val % 16, 0]
    ∧ win0_2.index t = ![t.val / 16, 15 - t.val % 16, 0] :=
  (by decide +kernel : ∀ t : Fin grid0.N, win0_0.index t = ![t.val / 16, 15 - t.val % 16, 0] ∧ win0_1.index t = ![t.val / 16, 15 - t.val % 16, 0]
    ∧ win0_2.index t = ![t.val / 16, 15 - t.val % 16, 0])
theorem lt0 (t : Fin cfg0.N) : t.val < 32 := Nat.lt_of_lt_of_eq t.isLt N_0
/-- Point `t`'s batch entry, and the time step of its block's row `r`. -/
def entry0 (t : Fin cfg0.N) : Fin 2 := ⟨t.val / 16, by have := lt0 t; omega⟩
def time0 (t : Fin cfg0.N) (r : Fin 256) : Fin 4096 := ⟨256 * (15 - t.val % 16) + r.val, by have := lt0 t; omega⟩

theorem iblk0_0_entry (t : Fin cfg0.N) (r : Fin 256) (k : Fin 1024) :
    iblk0 V c 0 t (ix3 0 r k) = V c main_arg0 (ix3 (entry0 t) (time0 t r) k) := by
  unfold entry0 time0
  blk_ext! [iblk0, idx0 t]
theorem iblk0_1_entry (t : Fin cfg0.N) (r : Fin 256) (k : Fin 1024) :
    iblk0 V c 1 t (ix3 0 r k) = V c main_arg1 (ix3 (entry0 t) (time0 t r) k) := by
  unfold entry0 time0
  blk_ext! [iblk0, idx0 t]

variable (A B : Fin 2 → ℕ → Fin 1024 → ℝ) (hA : Holds (V c main_arg0) A) (hB : Holds (V c main_arg1) B)
include hA hB

/-- A point's block, when the row carried into it is the state reached. -/
theorem hPt_of (t : Fin cfg0.N) (k : Fin 1024) (h : rowIn0 V c t.val (ix2 0 k) = (state A B (entry0 t) k (256 * (t.val % 16)) : EReal)) (r : Fin 256) :
    hPt V c t (ix2 r k) = (state A B (entry0 t) k (256 * (t.val % 16) + (256 - r.val)) : EReal) := by
  have ht := lt0 t
  unfold hPt
  refine hBlock_entry k (fun q => A (entry0 t) (4095 - (256 * (t.val % 16) + q)) k) (fun q => B (entry0 t) (4095 - (256 * (t.val % 16) + q)) k)
    _ _ _ (fun q => state A B (entry0 t) k (256 * (t.val % 16) + q)) (fun r => ?_) (fun r => ?_) h (fun q _ => rfl) r
  · rw [iblk0_0_entry, hA]; congr 2; unfold time0; dsimp only; omega
  · rw [iblk0_1_entry, hB]; congr 2; unfold time0; dsimp only; omega

/-- The row carried into each point is the state reached. -/
theorem rowIn0_entry (n : ℕ) (hn : n < 32) (k : Fin 1024) :
    rowIn0 V c n (ix2 0 k) = (state A B ⟨n / 16, by omega⟩ k (256 * (n % 16)) : EReal) := by
  induction n with
  | zero => unfold rowIn0; rw [if_pos rfl]; exact zeroRow_entry k
  | succ n ih =>
    unfold rowIn0
    by_cases h : (n + 1) % 16 = 0
    · rw [if_pos h, h]; exact zeroRow_entry k
    · rw [if_neg h]
      have ht : n < cfg0.N := by rw [show cfg0.N = 32 from N_0]; omega
      rw [show rowOut0 V c (n + 1) = hLast (hPt V c ⟨n, ht⟩) from rowOut0_succ V c ⟨n, ht⟩, show hLast (hPt V c ⟨n, ht⟩) (ix2 0 k) = hPt V c ⟨n, ht⟩ (ix2 0 k) by unfold hLast; pointwise []]
      rw [hPt_of V c A B hA hB ⟨n, ht⟩ k (ih (by omega)) 0]
      unfold entry0
      congr 2
      · exact Fin.ext (by show n / 16 = (n + 1) / 16; omega)
      · dsimp only; omega

/-- Each point's block holds the states of its time steps. -/
theorem hPt_entry (t : Fin cfg0.N) (r : Fin 256) (k : Fin 1024) :
    hPt V c t (ix2 r k) = (state A B (entry0 t) k (4096 - (time0 t r).val) : EReal) := by
  have ht := lt0 t
  rw [hPt_of V c A B hA hB t k (rowIn0_entry V c A B hA hB t.val ht k) r]
  congr 2; unfold time0; dsimp only; omega

/-- The array the call leaves. -/
theorem scan_holds : Holds ((dat0 V c).arrAt 2 cfg0.N) (fun n t k => state A B n k (4096 - t)) := by
  intro n t k
  refine (dat0 V c).arrAt_forall_of_covers 2 (fun i v => ∀ n t k, i = ix3 n t k → v = (state A B n k (4096 - t.val) : EReal)) (by decide +kernel)
    (fun s _ y => ?_) (ix3 n t k) (Memref.isWhole_whole _) n t k rfl
  idx_vars y
  intro n t k h
  have e : (win0_2.blk s).view.emb (ix3 y0 y1 y2) = ix3 (entry0 s) (time0 s y1) y2 := by
    unfold entry0 time0
    blk_ext [idx0 s]
  have h := e.symm.trans h
  obtain rfl : entry0 s = n := congrFun h 0
  obtain rfl : time0 s y1 = t := congrFun h 1
  obtain rfl : y2 = k := congrFun h 2
  rw [after0_2]
  blk_simp [idx0 s]
  rw [unflat_entry, hPt_entry V c A B hA hB]

end Cert.Lru

end
-- ==== Proof.Lru.BwdValue.lean ====
/- The gradient's call on real numbers: the arrays it leaves hold the gradient's recurrence, run from the first time step to the
   last, and its product with the states one time step on. -/
module

public import proofs.«01_k».proof.Proof.Lru.BwdData
public import proofs.«01_k».proof.Proof.Lru.ScanValue

@[expose] public section

set_option maxRecDepth 16384

noncomputable section

namespace Cert.Lru

open Cert.KernelIdeal Cert.KernelIdeal.Gen
open Idealize.ShloMosaic Idealize.ShloMosaic.TcCoe Idealize.SL.Sem
open Idealize.ShloMosaic.Pipeline (Dat)

/-- The coefficient that carries the gradient into time step `t`: that of the step before, and none into the first. -/
def coef (A : Fin 2 → ℕ → Fin 1024 → ℝ) (n : Fin 2) (k : Fin 1024) (t : ℕ) : ℝ := if t = 0 then 0 else A n (t - 1) k

/-- The gradient's recurrence after `q` steps from the first time step on. -/
def grad (A D : Fin 2 → ℕ → Fin 1024 → ℝ) (n : Fin 2) (k : Fin 1024) : ℕ → ℝ
  | 0 => 0
  | q + 1 => coef A n k q * grad A D n k q + D n q k

variable (V : (c : Dev nD) → (b : Ref sig .tc) → Buf (Elt Ideal) ((c : Thread nD τ).loc b)) (c : Dev nD)

theorem lt1 (t : Fin cfg1.N) : t.val < 32 := Nat.lt_of_lt_of_eq t.isLt N_1
/-- Each window's block at each point: batch entry, block of time steps from the first, all channels; the edges' blocks hold eight steps. -/
theorem idx1 : ∀ t : Fin cfg1.N, win1_0.index t = ![t.val / 16, t.val % 16, 0] ∧ win1_1.index t = ![t.val / 16, 32 * (t.val % 16) - 1, 0]
    ∧ win1_2.index t = ![t.val / 16, t.val % 16, 0] ∧ win1_3.index t = ![t.val / 16, min (32 * (t.val % 16) + 32) 511, 0]
    ∧ win1_4.index t = ![t.val / 16, t.val % 16, 0] ∧ win1_5.index t = ![t.val / 16, t.val % 16, 0] ∧ win1_6.index t = ![t.val / 16, t.val % 16, 0] :=
  (by decide +kernel : ∀ t : Fin grid1.N, win1_0.index t = ![t.val / 16, t.val % 16, 0] ∧ win1_1.index t = ![t.val / 16, 32 * (t.val % 16) - 1, 0]
    ∧ win1_2.index t = ![t.val / 16, t.val % 16, 0] ∧ win1_3.index t = ![t.val / 16, min (32 * (t.val % 16) + 32) 511, 0]
    ∧ win1_4.index t = ![t.val / 16, t.val % 16, 0] ∧ win1_5.index t = ![t.val / 16, t.val % 16, 0] ∧ win1_6.index t = ![t.val / 16, t.val % 16, 0])
/-- Point `t`'s batch entry, and the time step of its block's row `r`. -/
def entry1 (t : Fin cfg1.N) : Fin 2 := ⟨t.val / 16, by have := lt1 t; omega⟩
def time1 (t : Fin cfg1.N) (r : Fin 256) : Fin 4096 := ⟨256 * (t.val % 16) + r.val, by have := lt1 t; omega⟩
/-- The time step before the block, where there is one, and the time step after it, where there is one. -/
def prev1 (t : Fin cfg1.N) : Fin 4096 := ⟨8 * (32 * (t.val % 16) - 1) + 7, by have := lt1 t; omega⟩
def next1 (t : Fin cfg1.N) : Fin 4096 := ⟨8 * min (32 * (t.val % 16) + 32) 511, by omega⟩

theorem iblk1_0_entry (t : Fin cfg1.N) (r : Fin 256) (k : Fin 1024) :
    iblk1 V c 0 t (ix3 0 r k) = V c main_arg0 (ix3 (entry1 t) (time1 t r) k) := by
  unfold entry1 time1
  blk_ext! [iblk1, idx1 t]
theorem iblk1_1_entry (t : Fin cfg1.N) (k : Fin 1024) :
    iblk1 V c 1 t (ix3 0 7 k) = V c main_arg0 (ix3 (entry1 t) (prev1 t) k) := by
  unfold entry1 prev1
  blk_ext! [iblk1, idx1 t]
theorem iblk1_2_entry (t : Fin cfg1.N) (r : Fin 256) (k : Fin 1024) :
    iblk1 V c 2 t (ix3 0 r k) = V c main_v0 (ix3 (entry1 t) (time1 t r) k) := by
  unfold entry1 time1
  blk_ext! [iblk1, idx1 t]
theorem iblk1_3_entry (t : Fin cfg1.N) (k : Fin 1024) :
    iblk1 V c 3 t (ix3 0 0 k) = V c main_v0 (ix3 (entry1 t) (next1 t) k) := by
  unfold entry1 next1
  blk_ext! [iblk1, idx1 t]
theorem iblk1_4_entry (t : Fin cfg1.N) (r : Fin 256) (k : Fin 1024) :
    iblk1 V c 4 t (ix3 0 r k) = V c main_arg2 (ix3 (entry1 t) (time1 t r) k) := by
  unfold entry1 time1
  blk_ext! [iblk1, idx1 t]

theorem edgeA_entry (x : Vec Ideal S1x8x1024 .f32) (k : Fin 1024) : edgeA x (ix3 0 0 k) = x (ix3 0 7 k) := by
  refine congrArg x (funext fun a => ?_)
  fin_cases a
  · rfl
  · rfl
  · exact Fin.ext (by show 0 + 1 * k.val = k.val; omega)
theorem edgeH_entry (x : Vec Ideal S1x8x1024 .f32) (k : Fin 1024) : edgeH x (ix3 0 0 k) = x (ix3 0 0 k) := by
  refine congrArg x (funext fun a => ?_)
  fin_cases a
  · rfl
  · rfl
  · exact Fin.ext (by show 0 + 1 * k.val = k.val; omega)

/-- A batch entry's first block, and its last. -/
theorem isFirst1 (t : Fin cfg1.N) : Scalar.cmpi .eq (BitVec.ofNat 32 (grid1.coords t 1).val) 0#32 = 1#1 ↔ t.val % 16 = 0 := by
  have ht := lt1 t
  have e1 : (grid1.coords t 1).val = t.val / 1 % 16 := Pipeline.Grid.coords_val t 1 (by decide) rfl
  rw [e1]
  word_cmp
theorem isLast1 (t : Fin cfg1.N) : Scalar.cmpi .eq (BitVec.ofNat 32 (grid1.coords t 1).val) 15#32 = 1#1 ↔ t.val % 16 = 15 := by
  have ht := lt1 t
  have e1 : (grid1.coords t 1).val = t.val / 1 % 16 := Pipeline.Grid.coords_val t 1 (by decide) rfl
  rw [e1]
  word_cmp

variable (A B D : Fin 2 → ℕ → Fin 1024 → ℝ) (hA : Holds (V c main_arg0) A) (hD : Holds (V c main_arg2) D)
include hA hD

/-- A point's block, when the row carried into it is the gradient reached. -/
theorem gPt_of (t : Fin cfg1.N) (k : Fin 1024) (h : rowIn1 V c t.val (ix2 0 k) = (grad A D (entry1 t) k (256 * (t.val % 16)) : EReal)) (r : Fin 256) :
    gPt V c t (ix2 r k) = (grad A D (entry1 t) k (256 * (t.val % 16) + (r.val + 1)) : EReal) := by
  have ht := lt1 t
  unfold gPt gAt
  refine gBlock_entry k (fun q => coef A (entry1 t) k (256 * (t.val % 16) + q)) (fun q => D (entry1 t) (256 * (t.val % 16) + q) k)
    _ _ _ _ _ (fun q => grad A D (entry1 t) k (256 * (t.val % 16) + q)) (fun r => ?_) (fun r => ?_) h (fun q _ => rfl) r
  · refine coefBlock_entry k (fun q => coef A (entry1 t) k (256 * (t.val % 16) + q)) _ _ _ (fun r => ?_) (fun hf => ?_) (fun hf => ?_) r
    · rw [iblk1_0_entry, hA]; congr 1
    · rw [isFirst1] at hf; simp [coef, hf]
    · rw [ne_eq, isFirst1] at hf
      rw [edgeA_entry, iblk1_1_entry, hA]
      unfold coef; rw [if_neg (by omega)]
      congr 2; unfold prev1; dsimp only; omega
  · rw [iblk1_4_entry, hD]; congr 1

/-- The row carried into each point is the gradient reached. -/
theorem rowIn1_entry (n : ℕ) (hn : n < 32) (k : Fin 1024) :
    rowIn1 V c n (ix2 0 k) = (grad A D ⟨n / 16, by omega⟩ k (256 * (n % 16)) : EReal) := by
  induction n with
  | zero => unfold rowIn1; rw [if_pos rfl]; exact zeroRow_entry k
  | succ n ih =>
    unfold rowIn1
    by_cases h : (n + 1) % 16 = 0
    · rw [if_pos h, h]; exact zeroRow_entry k
    · rw [if_neg h]
      have ht : n < cfg1.N := by rw [show cfg1.N = 32 from N_1]; omega
      rw [show rowOut1 V c (n + 1) = gLast (gPt V c ⟨n, ht⟩) from rowOut1_succ V c ⟨n, ht⟩,
        show gLast (gPt V c ⟨n, ht⟩) (ix2 0 k) = gPt V c ⟨n, ht⟩ (ix2 255 k) by unfold gLast; pointwise []]
      rw [gPt_of V c A D hA hD ⟨n, ht⟩ k (ih (by omega)) 255]
      unfold entry1
      congr 2
      · exact Fin.ext (by show n / 16 = (n + 1) / 16; omega)
      · show 256 * (n % 16) + 256 = _; omega

/-- Each point's block holds the gradients of its time steps. -/
theorem gPt_entry (t : Fin cfg1.N) (r : Fin 256) (k : Fin 1024) :
    gPt V c t (ix2 r k) = (grad A D (entry1 t) k ((time1 t r).val + 1) : EReal) :=
  gPt_of V c A D hA hD t k (rowIn1_entry V c A D hA hD t.val (lt1 t) k) r

/-- The gradients the call leaves. -/
theorem grad_holds : Holds ((dat1 V c).arrAt 5 cfg1.N) (fun n t k => grad A D n k (t + 1)) := by
  intro n t k
  refine (dat1 V c).arrAt_forall_of_covers 5 (fun i v => ∀ n t k, i = ix3 n t k → v = (grad A D n k (t.val + 1) : EReal)) (by decide +kernel)
    (fun s _ y => ?_) (ix3 n t k) (Memref.isWhole_whole _) n t k rfl
  idx_vars y
  intro n t k h
  have e : (win1_5.blk s).view.emb (ix3 y0 y1 y2) = ix3 (entry1 s) (time1 s y1) y2 := by
    unfold entry1 time1
    blk_ext [idx1 s]
  have h := e.symm.trans h
  obtain rfl : entry1 s = n := congrFun h 0
  obtain rfl : time1 s y1 = t := congrFun h 1
  obtain rfl : y2 = k := congrFun h 2
  rw [after1_5]
  blk_simp [idx1 s]
  rw [unflat_entry, gPt_entry V c A D hA hD]

/-- Each point's block of products, when the call is entered with the recurrence's states. -/
theorem daPt_entry (hH : Holds (V c main_v0) (fun n t k => state A B n k (4096 - t))) (t : Fin cfg1.N) (r : Fin 256) (k : Fin 1024) :
    daPt V c t (ix2 r k) = ((grad A D (entry1 t) k ((time1 t r).val + 1) * state A B (entry1 t) k (4095 - (time1 t r).val) : ℝ) : EReal) := by
  have ht := lt1 t
  have hn : nextBlock (Scalar.cmpi .eq (BitVec.ofNat 32 (grid1.coords t 1).val) 15#32) (iblk1 V c 2 t) (edgeH (iblk1 V c 3 t)) (ix2 r k)
      = (state A B (entry1 t) k (4096 - (256 * (t.val % 16) + (r.val + 1))) : EReal) := by
    refine nextBlock_entry k _ _ _ (fun q => state A B (entry1 t) k (4096 - (256 * (t.val % 16) + q))) (fun r => ?_) (fun hf => ?_) (fun hf => ?_) r
    · rw [iblk1_2_entry, hH]; congr 1
    · rw [isLast1] at hf; rw [show 4096 - (256 * (t.val % 16) + 256) = 0 by omega]; rfl
    · rw [ne_eq, isLast1] at hf
      rw [edgeH_entry, iblk1_3_entry, hH]
      congr 2; unfold next1; dsimp only; omega
  have hg := gPt_entry V c A D hA hD t r k
  unfold daPt daAt
  show gPt V c t (ix2 r k) * nextBlock _ _ _ (ix2 r k) = _
  rw [hg, hn, EReal.coe_mul]
  congr 3; unfold time1; dsimp only; omega

/-- The products the call leaves. -/
theorem prod_holds (hH : Holds (V c main_v0) (fun n t k => state A B n k (4096 - t))) :
    Holds ((dat1 V c).arrAt 6 cfg1.N) (fun n t k => grad A D n k (t + 1) * state A B n k (4095 - t)) := by
  intro n t k
  refine (dat1 V c).arrAt_forall_of_covers 6
    (fun i v => ∀ n t k, i = ix3 n t k → v = ((grad A D n k (t.val + 1) * state A B n k (4095 - t.val) : ℝ) : EReal)) (by decide +kernel)
    (fun s _ y => ?_) (ix3 n t k) (Memref.isWhole_whole _) n t k rfl
  idx_vars y
  intro n t k h
  have e : (win1_6.blk s).view.emb (ix3 y0 y1 y2) = ix3 (entry1 s) (time1 s y1) y2 := by
    unfold entry1 time1
    blk_ext [idx1 s]
  have h := e.symm.trans h
  obtain rfl : entry1 s = n := congrFun h 0
  obtain rfl : time1 s y1 = t := congrFun h 1
  obtain rfl : y2 = k := congrFun h 2
  rw [after1_6]
  blk_simp [idx1 s]
  rw [unflat_entry, daPt_entry V c A B D hA hD hH]

end Cert.Lru

end
-- ==== Proof.Lru.RefValue.lean ====
/- The reference on real numbers: what its two loops leave are the same two recurrences. -/
module

public import proofs.«01_k».proof.Proof.Lru.RefRun
public import proofs.«01_k».proof.Proof.Lru.BwdValue
public import Idealize.ShloMosaic.Lib.Pointwise
public import Idealize.ShloMosaic.Lib.WordCmp

@[expose] public section

set_option maxRecDepth 16384

noncomputable section

namespace Cert.LruRef

open Cert.ReferenceIdeal Cert.ReferenceIdeal.Gen
open Idealize.ShloMosaic Idealize.ShloMosaic.TcCoe Idealize.ShloMosaic.StableHlo
open Idealize.SL Idealize.SL.Sem
open Cert.Lru (Holds state grad coef)

/-! ## The layouts and the loops' reads and writes, an entry at a time -/

/-- The time step `q` steps before the last. -/
def back (q : Fin 4096) : Fin 4096 := ⟨4095 - q.val, by omega⟩

theorem toTall_entry (x : Arr Ideal) (q : Fin 4096) (n : Fin 2) (k : Fin 1024) : toTall x (ix3 q n k) = x (ix3 n (back q) k) := by
  unfold toTall back
  pointwise []
  show x (ix3 n q.rev k) = _
  exact congrArg (fun t => x (ix3 n t k)) (Fin.ext (by rw [Fin.val_rev]; show 4096 - (q.val + 1) = 4095 - q.val; omega))

theorem ofTall_entry (x : Tall Ideal) (t : Fin 4096) (n : Fin 2) (k : Fin 1024) : ofTall x (ix3 n t k) = x (ix3 (back t) n k) := by
  unfold ofTall back
  pointwise []
  show x (ix3 t.rev n k) = _
  exact congrArg (fun t => x (ix3 t n k)) (Fin.ext (by rw [Fin.val_rev]; show 4096 - (t.val + 1) = 4095 - t.val; omega))

theorem zeroFlat_entry (n : Fin 2) (k : Fin 1024) : (zeroFlat : Flat Ideal) (ix2 n k) = ((0 : ℝ) : EReal) := by
  unfold zeroFlat; pointwise []
  rfl

theorem iv_eq (q : ℕ) : Scf.iv 0#32 1#32 q = BitVec.ofNat 32 q := by
  rw [Scf.iv, BitVec.mul_one, BitVec.zero_add]

theorem backAt_ctr (q : ℕ) (h : q < 4096) : backAt (F := Ideal) (fun _ => Scf.iv 0#32 1#32 q) = fun _ => Scf.iv 0#32 1#32 (4095 - q) := by
  funext i
  unfold backAt
  pointwise []
  rw [iv_eq, iv_eq]
  show 4096#32 - BitVec.ofNat 32 q - 1#32 = _
  apply BitVec.eq_of_toNat_eq
  simp only [BitVec.toNat_sub, BitVec.toNat_ofNat]
  omega

/-- Where a time step's slice starts: at the counter, nothing clamped. -/
theorem start_time (q : Fin 4096) (h : S1x2x1024.rank = S4096x2x1024.rank) : Host.clampedStart S4096x2x1024 S1x2x1024 h
    (fun j => ((![fun _ => Scf.iv 0#32 1#32 q.val, constantI S_ 32 0#32, constantI S_ 32 0#32] : Fin 3 → Ctr Ideal) j (Shape.Idx.first h_S_)).toInt) 0 = q.val := by
  refine Host.clampedStart_of_le h _ 0 q.val ?_ (by show q.val + 1 ≤ 4096; omega)
  show (Scf.iv 0#32 1#32 q.val).toInt = _
  rw [iv_eq, WordCmp.toInt_ofNat_of_lt (by have := q.isLt; omega)]
theorem start_entry (q : Fin 4096) (h : S1x2x1024.rank = S4096x2x1024.rank) : Host.clampedStart S4096x2x1024 S1x2x1024 h
    (fun j => ((![fun _ => Scf.iv 0#32 1#32 q.val, constantI S_ 32 0#32, constantI S_ 32 0#32] : Fin 3 → Ctr Ideal) j (Shape.Idx.first h_S_)).toInt) 1 = 0 :=
  Host.clampedStart_of_le h _ 1 0 rfl (by show 0 + 2 ≤ 2; decide)
theorem start_chan (q : Fin 4096) (h : S1x2x1024.rank = S4096x2x1024.rank) : Host.clampedStart S4096x2x1024 S1x2x1024 h
    (fun j => ((![fun _ => Scf.iv 0#32 1#32 q.val, constantI S_ 32 0#32, constantI S_ 32 0#32] : Fin 3 → Ctr Ideal) j (Shape.Idx.first h_S_)).toInt) 2 = 0 :=
  Host.clampedStart_of_le h _ 2 0 rfl (by show 0 + 1024 ≤ 1024; decide)

theorem rowAt_entry (x : Tall Ideal) (q : Fin 4096) (n : Fin 2) (k : Fin 1024) :
    rowAt x (fun _ => Scf.iv 0#32 1#32 q.val) (ix2 n k) = x (ix3 q n k) := by
  unfold rowAt
  pointwise []
  simp only [start_time, start_entry, start_chan, Nat.zero_add]

theorem putAt_entry (x : Tall Ideal) (u : Flat Ideal) (q j : Fin 4096) (n : Fin 2) (k : Fin 1024) :
    putAt x u (fun _ => Scf.iv 0#32 1#32 q.val) (ix3 j n k) = if j = q then u (ix2 n k) else x (ix3 j n k) := by
  unfold putAt
  pointwise []
  simp only [start_time, start_entry, start_chan, Nat.sub_zero]
  by_cases h : j = q
  · rw [dif_pos ⟨⟨by rw [h], by rw [h]; omega⟩, by omega, by omega⟩, if_pos h]
  · rw [dif_neg (fun hh => h (Fin.ext (by omega))), if_neg h]

theorem step_entry (x h y : Flat Ideal) (n : Fin 2) (k : Fin 1024) (a b d : ℝ) (hx : x (ix2 n k) = (a : EReal)) (hh : h (ix2 n k) = (b : EReal))
    (hy : y (ix2 n k) = (d : EReal)) : (addf (F := Ideal) (φ := .f32) (mulf x h) y) (ix2 n k) = ((a * b + d : ℝ) : EReal) := by
  show (x (ix2 n k) : EReal) * h (ix2 n k) + y (ix2 n k) = _
  rw [hx, hh, hy, EReal.coe_add, EReal.coe_mul]

/-- The same at the backward loop's time step. -/
theorem rowBack_entry (x : Tall Ideal) (q : ℕ) (h : q < 4096) (n : Fin 2) (k : Fin 1024) :
    rowAt x (backAt fun _ => Scf.iv 0#32 1#32 q) (ix2 n k) = x (ix3 ⟨4095 - q, by omega⟩ n k) := by
  rw [backAt_ctr q h]
  exact rowAt_entry x ⟨4095 - q, by omega⟩ n k
theorem putBack_entry (x : Tall Ideal) (u : Flat Ideal) (q : ℕ) (h : q < 4096) (j : Fin 4096) (n : Fin 2) (k : Fin 1024) :
    putAt x u (backAt fun _ => Scf.iv 0#32 1#32 q) (ix3 j n k) = if j = ⟨4095 - q, by omega⟩ then u (ix2 n k) else x (ix3 j n k) := by
  rw [backAt_ctr q h]
  exact putAt_entry x u ⟨4095 - q, by omega⟩ j n k

/-! ## The loops' invariants -/

variable (m : (ℓ : Loc nD τ sig) → Buf (Elt Ideal) ℓ) (c : Dev nD)
variable (A B D : Fin 2 → ℕ → Fin 1024 → ℝ) (hA : Holds (m ((c : Thread nD τ).loc main_arg0)) A)
  (hB : Holds (m ((c : Thread nD τ).loc main_arg1)) B) (hD : Holds (m ((c : Thread nD τ).loc main_arg2)) D)

theorem atScan_a (q : ℕ) : atScan m q c (Proc.devRef .tc main_v9_0) = toTall (m ((c : Thread nD τ).loc main_arg0)) := by
  induction q with
  | zero => exact pre_a _
  | succ q ih => rw [show atScan m (q + 1) c = afterL scanI (after cond0Ops (atScan m q c)) from rfl, scan_trip_a, cond0_keep _ _ (by decide), ih]
theorem atScan_b (q : ℕ) : atScan m q c (Proc.devRef .tc main_v9_1) = toTall (m ((c : Thread nD τ).loc main_arg1)) := by
  induction q with
  | zero => exact pre_b _
  | succ q ih => rw [show atScan m (q + 1) c = afterL scanI (after cond0Ops (atScan m q c)) from rfl, scan_trip_b, cond0_keep _ _ (by decide), ih]

include hA hB in
/-- Before the forward loop's `q`-th trip the state is the recurrence's after `q` steps, and those before it are saved. -/
theorem scan_inv (q : ℕ) (hq : q ≤ 4096) :
    (∀ n k, atScan m q c (Proc.devRef .tc main_v9_3) (ix2 n k) = (state A B n k q : EReal))
    ∧ ∀ (j : Fin 4096) n k, j.val < q → atScan m q c (Proc.devRef .tc main_v9_5) (ix3 j n k) = (state A B n k j.val : EReal) := by
  induction q with
  | zero =>
    refine ⟨fun n k => ?_, fun j n k h => absurd h (Nat.not_lt_zero _)⟩
    rw [show atScan m 0 c = afterL preI (launchContents m c) from rfl, pre_h]
    exact zeroFlat_entry n k
  | succ q ih =>
    obtain ⟨ih, ih'⟩ := ih (by omega)
    have hq' : q < 4096 := by omega
    rw [show atScan m (q + 1) c = afterL scanI (after cond0Ops (atScan m q c)) from rfl, scan_trip_h, scan_trip_prev]
    simp (disch := decide) only [cond0_keep]
    rw [atScan_ctr, atScan_a, atScan_b]
    refine ⟨fun n k => ?_, fun j n k h => ?_⟩
    · refine step_entry _ _ _ n k (A n (4095 - q) k) _ (B n (4095 - q) k) ?_ (ih n k) ?_
      · exact (rowAt_entry _ ⟨q, hq'⟩ n k).trans ((toTall_entry _ _ n k).trans (hA n _ k))
      · exact (rowAt_entry _ ⟨q, hq'⟩ n k).trans ((toTall_entry _ _ n k).trans (hB n _ k))
    · refine (putAt_entry _ _ ⟨q, hq'⟩ j n k).trans ?_
      by_cases hj : j = ⟨q, hq'⟩
      · rw [if_pos hj, ih, hj]
      · rw [if_neg hj]
        exact ih' j n k (by have : j.val ≠ q := fun h => hj (Fin.ext h); omega)

/-- What the backward loop reads: the gradients and the coefficients from the last time step on, and the saved states. -/
theorem atGrad_d (q : ℕ) : atGrad m q c (Proc.devRef .tc main_v18_0) = toTall (m ((c : Thread nD τ).loc main_arg2)) := by
  induction q with
  | zero =>
    refine (mid_dh _).trans (congrArg toTall ?_)
    rw [cond0_keep _ main_arg2 (by decide), atScan_keep m main_arg2 (by decide)]
    exact pre_keep _ main_arg2 (by decide)
  | succ q ih => rw [show atGrad m (q + 1) c = afterL gradI (after cond1Ops (atGrad m q c)) from rfl, grad_trip_keep0, cond1_keep _ _ (by decide), ih]
theorem atGrad_prev (q : ℕ) : atGrad m q c (Proc.devRef .tc main_v18_1) = atScan m 4096 c (Proc.devRef .tc main_v9_5) := by
  induction q with
  | zero => exact (mid_prev _).trans (cond0_keep _ main_v9_5 (by decide))
  | succ q ih => rw [show atGrad m (q + 1) c = afterL gradI (after cond1Ops (atGrad m q c)) from rfl, grad_trip_keep1, cond1_keep _ _ (by decide), ih]
theorem atGrad_a (q : ℕ) : atGrad m q c (Proc.devRef .tc main_v18_2) = toTall (m ((c : Thread nD τ).loc main_arg0)) := by
  induction q with
  | zero =>
    refine (mid_a _).trans ?_
    rw [cond0_keep _ main_v5 (by decide), atScan_keep m main_v5 (by decide)]
    exact pre_a' _
  | succ q ih => rw [show atGrad m (q + 1) c = afterL gradI (after cond1Ops (atGrad m q c)) from rfl, grad_trip_keep2, cond1_keep _ _ (by decide), ih]

theorem add_entry (x y : Flat Ideal) (n : Fin 2) (k : Fin 1024) (a b : ℝ) (hx : x (ix2 n k) = (a : EReal)) (hy : y (ix2 n k) = (b : EReal)) :
    (addf (F := Ideal) (φ := .f32) x y) (ix2 n k) = ((a + b : ℝ) : EReal) := by
  show (x (ix2 n k) : EReal) + y (ix2 n k) = _
  rw [hx, hy, EReal.coe_add]
theorem mul_entry (x y : Flat Ideal) (n : Fin 2) (k : Fin 1024) (a b : ℝ) (hx : x (ix2 n k) = (a : EReal)) (hy : y (ix2 n k) = (b : EReal)) :
    (mulf (F := Ideal) (φ := .f32) x y) (ix2 n k) = ((a * b : ℝ) : EReal) := by
  show (x (ix2 n k) : EReal) * y (ix2 n k) = _
  rw [hx, hy, EReal.coe_mul]

include hA hB hD in
/-- Before the backward loop's `q`-th trip what flows back is the coefficient times the gradient after `q` steps, and the two
    results of the steps gone through are in place. -/
theorem grad_inv (q : ℕ) (hq : q ≤ 4096) :
    (∀ n k, atGrad m q c (Proc.devRef .tc main_v18_4) (ix2 n k) = ((coef A n k q * grad A D n k q : ℝ) : EReal))
    ∧ ∀ (j : Fin 4096) n k, 4096 ≤ j.val + q →
      atGrad m q c (Proc.devRef .tc main_v18_6) (ix3 j n k) = (grad A D n k (4096 - j.val) : EReal)
      ∧ atGrad m q c (Proc.devRef .tc main_v18_5) (ix3 j n k) = ((grad A D n k (4096 - j.val) * state A B n k j.val : ℝ) : EReal) := by
  induction q with
  | zero =>
    refine ⟨fun n k => ?_, fun j n k h => absurd h (by omega)⟩
    rw [show atGrad m 0 c = afterL midI (after cond0Ops (atScan m 4096 c)) from rfl, mid_g]
    refine (zeroFlat_entry n k).trans ?_
    simp [coef]
  | succ q ih =>
    obtain ⟨ih, ih'⟩ := ih (by omega)
    have hq' : 4095 - q < 4096 := by omega
    have hq'' : q < 4096 := by omega
    rw [show atGrad m (q + 1) c = afterL gradI (after cond1Ops (atGrad m q c)) from rfl, grad_trip_g, grad_trip_das, grad_trip_gs]
    simp (disch := decide) only [cond1_keep]
    rw [atGrad_ctr, atGrad_a, atGrad_d, atGrad_prev]
    have hback : back ⟨4095 - q, hq'⟩ = ⟨q, by omega⟩ := Fin.ext (by show 4095 - (4095 - q) = q; omega)
    have hg : ∀ n k, (addf (F := Ideal) (φ := .f32) (atGrad m q c (Proc.devRef .tc main_v18_4) : Flat Ideal)
        (rowAt (toTall (m ((c : Thread nD τ).loc main_arg2))) (backAt fun _ => Scf.iv 0#32 1#32 q))) (ix2 n k) = (grad A D n k (q + 1) : EReal) :=
      fun n k => add_entry _ _ n k _ (D n q k) (ih n k)
        ((rowBack_entry _ q hq'' n k).trans ((toTall_entry _ _ n k).trans (by rw [hback]; exact hD n _ k)))
    refine ⟨fun n k => ?_, fun j n k h => ⟨?_, ?_⟩⟩
    · refine mul_entry _ _ n k (A n q k) _ ?_ (hg n k)
      exact (rowBack_entry _ q hq'' n k).trans ((toTall_entry _ _ n k).trans (by rw [hback]; exact hA n _ k))
    · refine (putBack_entry _ _ q hq'' j n k).trans ?_
      by_cases hj : j = ⟨4095 - q, hq'⟩
      · rw [if_pos hj, show 4096 - j.val = q + 1 by rw [hj]; show 4096 - (4095 - q) = q + 1; omega]
        exact hg n k
      · rw [if_neg hj]
        exact (ih' j n k (by have : j.val ≠ 4095 - q := fun h => hj (Fin.ext h); omega)).1
    · refine (putBack_entry _ _ q hq'' j n k).trans ?_
      by_cases hj : j = ⟨4095 - q, hq'⟩
      · rw [if_pos hj, show 4096 - j.val = q + 1 by rw [hj]; show 4096 - (4095 - q) = q + 1; omega]
        refine mul_entry _ _ n k _ _ (hg n k) ((rowBack_entry _ q hq'' n k).trans ?_)
        rw [← hj]
        exact (scan_inv m c A B hA hB 4096 le_rfl).2 j n k j.isLt
      · rw [if_neg hj]
        exact (ih' j n k (by have : j.val ≠ 4095 - q := fun h => hj (Fin.ext h); omega)).2

include hA hB hD in
/-- The reference's first result, the gradient of the inputs. -/
theorem db_holds : Holds (ofTall (atGrad m 4096 c (Proc.devRef .tc main_v18_6))) (fun n t k => grad A D n k (t + 1)) := fun n t k => by
  refine (ofTall_entry _ t n k).trans (((grad_inv m c A B D hA hB hD 4096 le_rfl).2 (back t) n k (by omega)).1.trans ?_)
  rw [show 4096 - (back t).val = t.val + 1 by show 4096 - (4095 - t.val) = _; omega]

include hA hB hD in
/-- The reference's second result, the gradient of the coefficients. -/
theorem da_holds : Holds (ofTall (atGrad m 4096 c (Proc.devRef .tc main_v18_5))) (fun n t k => grad A D n k (t + 1) * state A B n k (4095 - t)) := fun n t k => by
  refine (ofTall_entry _ t n k).trans (((grad_inv m c A B D hA hB hD 4096 le_rfl).2 (back t) n k (by omega)).2.trans ?_)
  rw [show 4096 - (back t).val = t.val + 1 by show 4096 - (4095 - t.val) = _; omega]
  rfl

end Cert.LruRef

end
-- ==== Proof.Lru.Finite.lean ====
/- The precondition read: where it holds, every entry of the three arguments is a real number. -/
module

public import proofs.«01_k».proof.Defs
public import proofs.«01_k».proof.Proof.Lru.ScanValue
public import Idealize.ShloMosaic.Lib.WordCmp

@[expose] public section

set_option maxRecDepth 16384

noncomputable section

namespace Cert.Lru

open Idealize.ShloMosaic Idealize.ShloMosaic.TcCoe Idealize.SL.Sem

/-- The predicate's side condition. -/
theorem finite_facts : Cert.Pre_finite.Facts where
  bcast_S_S2x4096x1024 := by decide

attribute [local instance] finite_facts

/-- The real numbers an array holds, read as `0` where an entry is infinite or the time step is out of range. -/
def reals (x : FVec Ideal Cert.KernelIdeal.S2x4096x1024 .f32) (n : Fin 2) (t : ℕ) (k : Fin 1024) : ℝ :=
  if h : t < 4096 then EReal.toReal (x (ix3 n ⟨t, h⟩ k)) else 0

theorem holds_reals (x : FVec Ideal Cert.KernelIdeal.S2x4096x1024 .f32) (h : ∀ i, (x i : EReal) ≠ ⊤ ∧ (x i : EReal) ≠ ⊥) : Holds x (reals x) := by
  intro n t k
  unfold reals
  rw [dif_pos t.isLt]
  exact (EReal.coe_toReal (h _).1 (h _).2).symm

/-- An extended real strictly between two others is a real number. -/
theorem ne_of_between (lo x hi : EReal) (h : IntOp.andi (BitVec.ofBool (decide (lo < x))) (BitVec.ofBool (decide (x < hi))) = 1#1) : x ≠ ⊤ ∧ x ≠ ⊥ := by
  rw [WordCmp.andi_ofBool, WordCmp.ofBool_eq_one_iff, Bool.and_eq_true, decide_eq_true_iff, decide_eq_true_iff] at h
  exact ⟨h.2.ne_top, h.1.ne_bot⟩

variable (a b d : FVec Ideal Cert.KernelIdeal.S2x4096x1024 .f32)

theorem finite_fst (h : (Cert.Pre_finite.fn (F := Ideal) a b d).1 = fun _ => 1#1) : Holds a (reals a) := holds_reals a fun i => by
  have h := congrFun h i
  idx_vars i
  unfold Cert.Pre_finite.fn at h
  pointwise [] at h
  exact ne_of_between _ _ _ h
theorem finite_snd (h : (Cert.Pre_finite.fn (F := Ideal) a b d).2.1 = fun _ => 1#1) : Holds b (reals b) := holds_reals b fun i => by
  have h := congrFun h i
  idx_vars i
  unfold Cert.Pre_finite.fn at h
  pointwise [] at h
  exact ne_of_between _ _ _ h
theorem finite_trd (h : (Cert.Pre_finite.fn (F := Ideal) a b d).2.2 = fun _ => 1#1) : Holds d (reals d) := holds_reals d fun i => by
  have h := congrFun h i
  idx_vars i
  unfold Cert.Pre_finite.fn at h
  pointwise [] at h
  exact ne_of_between _ _ _ h

end Cert.Lru

end
-- ==== Proof.lean ====
/- The claims about the linear recurrence's gradient, its gates, the MLP block, the mixer's projections and the loss, assembled from the programs' runs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Mlp.GradClaim
public import proofs.«01_k».proof.Proof.Mlp.Dw2Claim
public import proofs.«01_k».proof.Proof.Mlp.Dw1Claim
public import proofs.«01_k».proof.Proof.Mlp.DownClaim
public import proofs.«01_k».proof.Proof.Mix.ProjClaim
public import proofs.«01_k».proof.Proof.Mix.ProjWeightClaim
public import proofs.«01_k».proof.Proof.Mix.OutClaim
public import proofs.«01_k».proof.Proof.Mix.OutWeightClaim
public import proofs.«01_k».proof.Proof.Mix.Proj0Claim
public import proofs.«01_k».proof.Proof.Mix.Out0Claim
public import proofs.«01_k».proof.Proof.Gates.Claim
public import proofs.«01_k».proof.Proof.Gates.WeightClaim
public import proofs.«01_k».proof.Proof.Gates.PostClaim
public import proofs.«01_k».proof.Proof.Loss.HeadClaim
public import proofs.«01_k».proof.Proof.Mix.StepWeightClaim
public import proofs.«01_k».proof.Proof.Lru.Run
public import proofs.«01_k».proof.Proof.Lru.RefRun
public import proofs.«01_k».proof.Proof.Lru.SameText
public import proofs.«01_k».proof.Proof.Lru.RefValue
public import proofs.«01_k».proof.Proof.Lru.Finite
public import Idealize.ShloMosaic.Adequacy
public import Idealize.ShloMosaic.Init

@[expose] public section

noncomputable section

namespace Cert.Proof

open Idealize.ShloMosaic Idealize.SL.Sem Cert.Kernel

/-- At any float values the kernel runs, leaves its arguments as they were and every semaphore at zero. -/
theorem kernel_ends {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun _ h => ⟨fun c => (h.1 c).2.2, h.2⟩) (Cert.Lru.run m ρ)

/-- The kernel read on float words runs, leaves its arguments as they were and every semaphore at zero. -/
theorem kernel_frame : Cert.quiescent_Kernel (hKernel := Cert.Kernel.Gen.facts) := fun m ρ _ => by
  rw [Cert.Lru.defs_same]; exact kernel_ends (F := Bits) m ρ

/-- So does the kernel read on extended reals. -/
theorem kernelIdeal_frame : Cert.quiescent_KernelIdeal (hKernelIdeal := Cert.KernelIdeal.Gen.facts) := fun m ρ _ => kernel_ends (F := Ideal) m ρ

/-- So does the reference read on extended reals. -/
theorem referenceIdeal_frame : Cert.quiescent_ReferenceIdeal (hReferenceIdeal := Cert.ReferenceIdeal.Gen.facts) := fun m ρ _ =>
  (θ_run (Cert.ReferenceIdeal.defs (F := Ideal)) _ _).mono (fun _ h => ⟨fun c => (h.1 c).2.2, h.2⟩) (Cert.LruRef.run (F := Ideal) m ρ)

/-- The kernel's frame, where the precondition holds: it is not used. -/
theorem kernelIdeal_frame_finite : Cert.quiescent_KernelIdeal_pre_finite (hKernelIdeal := Cert.KernelIdeal.Gen.facts) (hPre_finite := Cert.Lru.finite_facts) :=
  fun m ρ _ => kernel_ends (F := Ideal) m ρ

/-- The reference's frame, where the precondition holds: it is not used. -/
theorem referenceIdeal_frame_finite :
    Cert.quiescent_ReferenceIdeal_pre_finite (hReferenceIdeal := Cert.ReferenceIdeal.Gen.facts) (hPre_finite := Cert.Lru.finite_facts) :=
  fun m ρ _ => referenceIdeal_frame m ρ trivial

/-- Two arrays that hold the same real numbers are equal. -/
theorem holds_unique {x y : FVec Ideal Cert.KernelIdeal.S2x4096x1024 .f32} {A : Fin 2 → ℕ → Fin 1024 → ℝ} (hx : Cert.Lru.Holds x A) (hy : Cert.Lru.Holds y A) :
    x = y := by
  funext i
  idx_vars i
  rw [hx, hy]

/-- An array equal to one that holds some real numbers holds them. -/
theorem holds_of_eq {x y : FVec Ideal Cert.KernelIdeal.S2x4096x1024 .f32} {A : Fin 2 → ℕ → Fin 1024 → ℝ} (e : x = y) (hy : Cert.Lru.Holds y A) :
    Cert.Lru.Holds x A := e ▸ hy

/-- On real arguments the kernel's results are the reference's: the gradient of the inputs, and that of the coefficients. -/
theorem algebraic : Cert.algebraic_KernelIdeal_ReferenceIdeal_pre_finite (hKernelIdeal := Cert.KernelIdeal.Gen.facts)
    (hReferenceIdeal := Cert.ReferenceIdeal.Gen.facts) (hPre_finite := Cert.Lru.finite_facts) := by
  intro m ρ m' ρ' hpre hargs
  refine ⟨fun c => (Cert.Lru.dat1 (Cert.Lru.V1 m ρ) c).arrAt 5 Cert.KernelIdeal.cfg1.N, fun c => (Cert.Lru.dat1 (Cert.Lru.V1 m ρ) c).arrAt 6 Cert.KernelIdeal.cfg1.N,
    (θ_run _ _ _).mono (fun _ h => h.1) (Cert.Lru.run m ρ), (θ_run _ _ _).mono (fun r h c => ?_) (Cert.LruRef.run (F := Ideal) m' ρ')⟩
  obtain ⟨⟨h0, h1, ha⟩, e0, e1, e2⟩ := And.intro (h.1 c) (hargs c)
  obtain ⟨p0, p1, p2⟩ := hpre c
  have fa := Cert.Lru.finite_fst _ _ _ p0
  have fb := Cert.Lru.finite_snd _ _ _ p1
  have fd := Cert.Lru.finite_trd _ _ _ p2
  have ka := holds_of_eq (Cert.Lru.W1_args m ρ c Cert.KernelIdeal.main_arg0 (by decide)) fa
  have kd := holds_of_eq (Cert.Lru.W1_args m ρ c Cert.KernelIdeal.main_arg2 (by decide)) fd
  have kh := holds_of_eq (Cert.Lru.W1_arr m ρ c 2) (Cert.Lru.scan_holds (Cert.Lru.V0 m ρ) c _ _ fa fb)
  exact ⟨h0.trans (holds_unique (Cert.LruRef.db_holds m' c _ _ _ (holds_of_eq e0 fa) (holds_of_eq e1 fb) (holds_of_eq e2 fd)) (Cert.Lru.grad_holds (Cert.Lru.V1 m ρ) c _ _ ka kd)),
    h1.trans (holds_unique (Cert.LruRef.da_holds m' c _ _ _ (holds_of_eq e0 fa) (holds_of_eq e1 fb) (holds_of_eq e2 fd)) (Cert.Lru.prod_holds (Cert.Lru.V1 m ρ) c _ _ _ ka kd kh)), ha⟩

/-- The MLP block's reference 2 runs, leaves its arguments as they were and every semaphore at zero. -/
theorem reference2Ideal_frame : Cert.quiescent_Reference2Ideal (hReference2Ideal := Cert.Reference2Ideal.Gen.facts) := fun m ρ _ =>
  (θ_run (Cert.Reference2Ideal.defs (F := Ideal)) _ _).mono (fun r h => ⟨fun c => (h c).2.2, sem_eq_zero_of_no_sems rfl r.2⟩) (Cert.Reference2Ideal.Value.run (F := Ideal) m ρ)

/-- The MLP block's reference 3 runs, leaves its arguments as they were and every semaphore at zero. -/
theorem reference3Ideal_frame : Cert.quiescent_Reference3Ideal (hReference3Ideal := Cert.Reference3Ideal.Gen.facts) := fun m ρ _ =>
  (θ_run (Cert.Reference3Ideal.defs (F := Ideal)) _ _).mono (fun r h => ⟨fun c => (h c).2, sem_eq_zero_of_no_sems rfl r.2⟩) (Cert.Reference3Ideal.Value.run (F := Ideal) m ρ)

/-- The MLP block's reference 4 runs, leaves its arguments as they were and every semaphore at zero. -/
theorem reference4Ideal_frame : Cert.quiescent_Reference4Ideal (hReference4Ideal := Cert.Reference4Ideal.Gen.facts) := fun m ρ _ =>
  (θ_run (Cert.Reference4Ideal.defs (F := Ideal)) _ _).mono (fun r h => ⟨fun c => (h c).2, sem_eq_zero_of_no_sems rfl r.2⟩) (Cert.Reference4Ideal.Value.run (F := Ideal) m ρ)

/-- The MLP block's reference 5 runs, leaves its arguments as they were and every semaphore at zero. -/
theorem reference5Ideal_frame : Cert.quiescent_Reference5Ideal (hReference5Ideal := Cert.Reference5Ideal.Gen.facts) := fun m ρ _ =>
  (θ_run (Cert.Reference5Ideal.defs (F := Ideal)) _ _).mono (fun r h => ⟨fun c => (h c).2, sem_eq_zero_of_no_sems rfl r.2⟩) (Cert.Reference5Ideal.Value.run (F := Ideal) m ρ)

/-- The mixer's projections' reference 6 runs, leaves its arguments as they were and every semaphore at zero. -/
theorem reference6Ideal_frame : Cert.quiescent_Reference6Ideal (hReference6Ideal := Cert.Reference6Ideal.Gen.facts) := fun m ρ _ =>
  (θ_run (Cert.Reference6Ideal.defs (F := Ideal)) _ _).mono (fun r h => ⟨fun c => (h c).2.2.2, sem_eq_zero_of_no_sems rfl r.2⟩) (Cert.Reference6Ideal.Value.run (F := Ideal) m ρ)

/-- The mixer's projections' reference 7 runs, leaves its arguments as they were and every semaphore at zero. -/
theorem reference7Ideal_frame : Cert.quiescent_Reference7Ideal (hReference7Ideal := Cert.Reference7Ideal.Gen.facts) := fun m ρ _ =>
  (θ_run (Cert.Reference7Ideal.defs (F := Ideal)) _ _).mono (fun r h => ⟨fun c => (h c).2, sem_eq_zero_of_no_sems rfl r.2⟩) (Cert.Reference7Ideal.Value.run (F := Ideal) m ρ)

/-- The mixer's projections' reference 8 runs, leaves its arguments as they were and every semaphore at zero. -/
theorem reference8Ideal_frame : Cert.quiescent_Reference8Ideal (hReference8Ideal := Cert.Reference8Ideal.Gen.facts) := fun m ρ _ =>
  (θ_run (Cert.Reference8Ideal.defs (F := Ideal)) _ _).mono (fun r h => ⟨fun c => (h c).2.2, sem_eq_zero_of_no_sems rfl r.2⟩) (Cert.Reference8Ideal.Value.run (F := Ideal) m ρ)

/-- The mixer's projections' reference 9 runs, leaves its arguments as they were and every semaphore at zero. -/
theorem reference9Ideal_frame : Cert.quiescent_Reference9Ideal (hReference9Ideal := Cert.Reference9Ideal.Gen.facts) := fun m ρ _ =>
  (θ_run (Cert.Reference9Ideal.defs (F := Ideal)) _ _).mono (fun r h => ⟨fun c => (h c).2, sem_eq_zero_of_no_sems rfl r.2⟩) (Cert.Reference9Ideal.Value.run (F := Ideal) m ρ)

/-- The mixer's projections' reference 10 runs, leaves its arguments as they were and every semaphore at zero. -/
theorem reference10Ideal_frame : Cert.quiescent_Reference10Ideal (hReference10Ideal := Cert.Reference10Ideal.Gen.facts) := fun m ρ _ =>
  (θ_run (Cert.Reference10Ideal.defs (F := Ideal)) _ _).mono (fun r h => ⟨fun c => (h c).2.2.2.2, sem_eq_zero_of_no_sems rfl r.2⟩) (Cert.Reference10Ideal.Value.run (F := Ideal) m ρ)

/-- The mixer's projections' reference 11 runs, leaves its arguments as they were and every semaphore at zero. -/
theorem reference11Ideal_frame : Cert.quiescent_Reference11Ideal (hReference11Ideal := Cert.Reference11Ideal.Gen.facts) := fun m ρ _ =>
  (θ_run (Cert.Reference11Ideal.defs (F := Ideal)) _ _).mono (fun r h => ⟨fun c => (h c).2.2.2, sem_eq_zero_of_no_sems rfl r.2⟩) (Cert.Reference11Ideal.Value.run (F := Ideal) m ρ)

/-- The gates' reference 12 runs, leaves its arguments as they were and every semaphore at zero. -/
theorem reference12Ideal_frame : Cert.quiescent_Reference12Ideal (hReference12Ideal := Cert.Reference12Ideal.Gen.facts) := fun m ρ _ =>
  (θ_run (Cert.Reference12Ideal.defs (F := Ideal)) _ _).mono (fun r h => ⟨fun c => (h c).2.2.2.2.2, sem_eq_zero_of_no_sems rfl r.2⟩) (Cert.Reference12Ideal.Value.run (F := Ideal) m ρ)

/-- The gates' reference 13 runs, leaves its arguments as they were and every semaphore at zero. -/
theorem reference13Ideal_frame : Cert.quiescent_Reference13Ideal (hReference13Ideal := Cert.Reference13Ideal.Gen.facts) := fun m ρ _ =>
  (θ_run (Cert.Reference13Ideal.defs (F := Ideal)) _ _).mono (fun r h => ⟨fun c => (h c).2, sem_eq_zero_of_no_sems rfl r.2⟩) (Cert.Reference13Ideal.Value.run (F := Ideal) m ρ)

/-- The gated recurrence's reference 14 runs, leaves its arguments as they were and every semaphore at zero. -/
theorem reference14Ideal_frame : Cert.quiescent_Reference14Ideal (hReference14Ideal := Cert.Reference14Ideal.Gen.facts) := fun m ρ _ =>
  (θ_run (Cert.Reference14Ideal.defs (F := Ideal)) _ _).mono (fun r h => ⟨fun c => (h c).2.2.2, sem_eq_zero_of_no_sems rfl r.2⟩) (Cert.Reference14Ideal.Value.run (F := Ideal) m ρ)

/-- The loss's reference 15 runs, leaves its arguments as they were and every semaphore at zero. -/
theorem reference15Ideal_frame : Cert.quiescent_Reference15Ideal (hReference15Ideal := Cert.Reference15Ideal.Gen.facts) := fun m ρ _ =>
  (θ_run (Cert.Reference15Ideal.defs (F := Ideal)) _ _).mono (fun r h => ⟨fun c => (h c).2.2.2, sem_eq_zero_of_no_sems rfl r.2⟩) (Cert.Reference15Ideal.Value.run (F := Ideal) m ρ)

/-- The time steps' projection's reference 16 runs, leaves its arguments as they were and every semaphore at zero. -/
theorem reference16Ideal_frame : Cert.quiescent_Reference16Ideal (hReference16Ideal := Cert.Reference16Ideal.Gen.facts) := fun m ρ _ =>
  (θ_run (Cert.Reference16Ideal.defs (F := Ideal)) _ _).mono (fun r h => ⟨fun c => (h c).2, sem_eq_zero_of_no_sems rfl r.2⟩) (Cert.Reference16Ideal.Value.run (F := Ideal) m ρ)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Lru.finite_facts,
  kernel_frame, kernelIdeal_frame, kernelIdeal_frame_finite, referenceIdeal_frame, referenceIdeal_frame_finite,
  fun m ρ _ => Cert.Kernel2.Gen.frame m ρ, fun m ρ _ => Cert.Kernel2Ideal.Gen.frame m ρ, reference2Ideal_frame,
  fun m ρ _ => Cert.Kernel3.Gen.frame m ρ, fun m ρ _ => Cert.Kernel3Ideal.Gen.frame m ρ, reference3Ideal_frame,
  fun m ρ _ => Cert.Kernel4.Gen.frame m ρ, fun m ρ _ => Cert.Kernel4Ideal.Gen.frame m ρ, reference4Ideal_frame,
  fun m ρ _ => Cert.Kernel5.Gen.frame m ρ, fun m ρ _ => Cert.Kernel5Ideal.Gen.frame m ρ, reference5Ideal_frame,
  fun m ρ _ => Cert.Kernel6.Gen.frame m ρ, fun m ρ _ => Cert.Kernel6Ideal.Gen.frame m ρ, reference6Ideal_frame,
  fun m ρ _ => Cert.Kernel7.Gen.frame m ρ, fun m ρ _ => Cert.Kernel7Ideal.Gen.frame m ρ, reference7Ideal_frame,
  fun m ρ _ => Cert.Kernel8.Gen.frame m ρ, fun m ρ _ => Cert.Kernel8Ideal.Gen.frame m ρ, reference8Ideal_frame,
  fun m ρ _ => Cert.Kernel9.Gen.frame m ρ, fun m ρ _ => Cert.Kernel9Ideal.Gen.frame m ρ, reference9Ideal_frame,
  fun m ρ _ => Cert.Kernel10.Gen.frame m ρ, fun m ρ _ => Cert.Kernel10Ideal.Gen.frame m ρ, reference10Ideal_frame,
  fun m ρ _ => Cert.Kernel11.Gen.frame m ρ, fun m ρ _ => Cert.Kernel11Ideal.Gen.frame m ρ, reference11Ideal_frame,
  fun m ρ _ => Cert.Kernel12.Gen.frame m ρ, fun m ρ _ => Cert.Kernel12Ideal.Gen.frame m ρ, reference12Ideal_frame,
  fun m ρ _ => Cert.Kernel13.Gen.frame m ρ, fun m ρ _ => Cert.Kernel13Ideal.Gen.frame m ρ, reference13Ideal_frame,
  fun m ρ _ => Cert.Kernel14.Gen.frame m ρ, fun m ρ _ => Cert.Kernel14Ideal.Gen.frame m ρ, reference14Ideal_frame,
  fun m ρ _ => Cert.Kernel15.Gen.frame m ρ, fun m ρ _ => Cert.Kernel15Ideal.Gen.frame m ρ, reference15Ideal_frame,
  fun m ρ _ => Cert.Kernel16.Gen.frame m ρ, fun m ρ _ => Cert.Kernel16Ideal.Gen.frame m ρ, reference16Ideal_frame,
  trivial, algebraic, trivial, Cert.Grad.algebraic, trivial, Cert.Dw2.algebraic, trivial, Cert.Dw1.algebraic, trivial, Cert.Down.algebraic,
  trivial, Cert.Proj.algebraic, trivial, Cert.ProjWeight.algebraic, trivial, Cert.MixOut.algebraic, trivial, Cert.OutWeight.algebraic,
  trivial, Cert.Proj0.algebraic, trivial, Cert.MixOut0.algebraic, trivial, Cert.Gates.algebraic, trivial, Cert.GateWeight.algebraic,
  trivial, Cert.Post.algebraic, trivial, Cert.Loss.algebraic, trivial, Cert.StepWeight.algebraic⟩

end Cert.Proof

end
